-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7)
      ∧ r.2.mem ((c.tc : Thread Cert.KernelIn.nD Cert.KernelIn.τ).loc Cert.KernelIn.main_arg8) = m ((c.tc : Thread Cert.KernelIn.nD Cert.KernelIn.τ).loc Cert.KernelIn.main_arg8)
      ∧ r.2.mem ((c.tc : Thread Cert.KernelIn.nD Cert.KernelIn.τ).loc Cert.KernelIn.main_arg9) = m ((c.tc : Thread Cert.KernelIn.nD Cert.KernelIn.τ).loc Cert.KernelIn.main_arg9)
      ∧ r.2.mem ((c.tc : Thread Cert.KernelIn.nD Cert.KernelIn.τ).loc Cert.KernelIn.main_arg10) = m ((c.tc : Thread Cert.KernelIn.nD Cert.KernelIn.τ).loc Cert.KernelIn.main_arg10)
      ∧ r.2.mem ((c.tc : Thread Cert.KernelIn.nD Cert.KernelIn.τ).loc Cert.KernelIn.main_arg11) = m ((c.tc : Thread Cert.KernelIn.nD Cert.KernelIn.τ).loc Cert.KernelIn.main_arg11)
      ∧ r.2.mem ((c.tc : Thread Cert.KernelIn.nD Cert.KernelIn.τ).loc Cert.KernelIn.main_arg12) = m ((c.tc : Thread Cert.KernelIn.nD Cert.KernelIn.τ).loc Cert.KernelIn.main_arg12)
      ∧ r.2.mem ((c.tc : Thread Cert.KernelIn.nD Cert.KernelIn.τ).loc Cert.KernelIn.main_arg13) = m ((c.tc : Thread Cert.KernelIn.nD Cert.KernelIn.τ).loc Cert.KernelIn.main_arg13))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
      ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
      ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9)
      ∧ r.2.mem ((c.tc : Thread Cert.KernelInIdeal.nD Cert.KernelInIdeal.τ).loc Cert.KernelInIdeal.main_arg10) = m ((c.tc : Thread Cert.KernelInIdeal.nD Cert.KernelInIdeal.τ).loc Cert.KernelInIdeal.main_arg10)
      ∧ r.2.mem ((c.tc : Thread Cert.KernelInIdeal.nD Cert.KernelInIdeal.τ).loc Cert.KernelInIdeal.main_arg11) = m ((c.tc : Thread Cert.KernelInIdeal.nD Cert.KernelInIdeal.τ).loc Cert.KernelInIdeal.main_arg11)
      ∧ r.2.mem ((c.tc : Thread Cert.KernelInIdeal.nD Cert.KernelInIdeal.τ).loc Cert.KernelInIdeal.main_arg12) = m ((c.tc : Thread Cert.KernelInIdeal.nD Cert.KernelInIdeal.τ).loc Cert.KernelInIdeal.main_arg12)
      ∧ r.2.mem ((c.tc : Thread Cert.KernelInIdeal.nD Cert.KernelInIdeal.τ).loc Cert.KernelInIdeal.main_arg13) = m ((c.tc : Thread Cert.KernelInIdeal.nD Cert.KernelInIdeal.τ).loc Cert.KernelInIdeal.main_arg13))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7)
      ∧ r.2.mem ((c.tc : Thread Cert.ReferenceInIdeal.nD Cert.ReferenceInIdeal.τ).loc Cert.ReferenceInIdeal.main_arg8) = m ((c.tc : Thread Cert.ReferenceInIdeal.nD Cert.ReferenceInIdeal.τ).loc Cert.ReferenceInIdeal.main_arg8)
      ∧ r.2.mem ((c.tc : Thread Cert.ReferenceInIdeal.nD Cert.ReferenceInIdeal.τ).loc Cert.ReferenceInIdeal.main_arg9) = m ((c.tc : Thread Cert.ReferenceInIdeal.nD Cert.ReferenceInIdeal.τ).loc Cert.ReferenceInIdeal.main_arg9)
      ∧ r.2.mem ((c.tc : Thread Cert.ReferenceInIdeal.nD Cert.ReferenceInIdeal.τ).loc Cert.ReferenceInIdeal.main_arg10) = m ((c.tc : Thread Cert.ReferenceInIdeal.nD Cert.ReferenceInIdeal.τ).loc Cert.ReferenceInIdeal.main_arg10)
      ∧ r.2.mem ((c.tc : Thread Cert.ReferenceInIdeal.nD Cert.ReferenceInIdeal.τ).loc Cert.ReferenceInIdeal.main_arg11) = m ((c.tc : Thread Cert.ReferenceInIdeal.nD Cert.ReferenceInIdeal.τ).loc Cert.ReferenceInIdeal.main_arg11)
      ∧ r.2.mem ((c.tc : Thread Cert.ReferenceInIdeal.nD Cert.ReferenceInIdeal.τ).loc Cert.ReferenceInIdeal.main_arg12) = m ((c.tc : Thread Cert.ReferenceInIdeal.nD Cert.ReferenceInIdeal.τ).loc Cert.ReferenceInIdeal.main_arg12)
      ∧ r.2.mem ((c.tc : Thread Cert.ReferenceInIdeal.nD Cert.ReferenceInIdeal.τ).loc Cert.ReferenceInIdeal.main_arg13) = m ((c.tc : Thread Cert.ReferenceInIdeal.nD Cert.ReferenceInIdeal.τ).loc Cert.ReferenceInIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v189)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v189) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v1) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v41) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)
      ∧ m' ((c.tc : Thread Cert.ReferenceInIdeal.nD Cert.ReferenceInIdeal.τ).loc Cert.ReferenceInIdeal.main_arg8) = m ((c.tc : Thread Cert.KernelInIdeal.nD Cert.KernelInIdeal.τ).loc Cert.KernelInIdeal.main_arg8)
      ∧ m' ((c.tc : Thread Cert.ReferenceInIdeal.nD Cert.ReferenceInIdeal.τ).loc Cert.ReferenceInIdeal.main_arg9) = m ((c.tc : Thread Cert.KernelInIdeal.nD Cert.KernelInIdeal.τ).loc Cert.KernelInIdeal.main_arg9)
      ∧ m' ((c.tc : Thread Cert.ReferenceInIdeal.nD Cert.ReferenceInIdeal.τ).loc Cert.ReferenceInIdeal.main_arg10) = m ((c.tc : Thread Cert.KernelInIdeal.nD Cert.KernelInIdeal.τ).loc Cert.KernelInIdeal.main_arg10)
      ∧ m' ((c.tc : Thread Cert.ReferenceInIdeal.nD Cert.ReferenceInIdeal.τ).loc Cert.ReferenceInIdeal.main_arg11) = m ((c.tc : Thread Cert.KernelInIdeal.nD Cert.KernelInIdeal.τ).loc Cert.KernelInIdeal.main_arg11)
      ∧ m' ((c.tc : Thread Cert.ReferenceInIdeal.nD Cert.ReferenceInIdeal.τ).loc Cert.ReferenceInIdeal.main_arg12) = m ((c.tc : Thread Cert.KernelInIdeal.nD Cert.KernelInIdeal.τ).loc Cert.KernelInIdeal.main_arg12)
      ∧ m' ((c.tc : Thread Cert.ReferenceInIdeal.nD Cert.ReferenceInIdeal.τ).loc Cert.ReferenceInIdeal.main_arg13) = m ((c.tc : Thread Cert.KernelInIdeal.nD Cert.KernelInIdeal.τ).loc Cert.KernelInIdeal.main_arg13)) →
    ∃ (v0 : (c : Dev Cert.KernelInIdeal.nD) → Buf (Elt Ideal) ((c.tc : Thread Cert.KernelInIdeal.nD Cert.KernelInIdeal.τ).loc Cert.KernelInIdeal.main_v123_0)) (v1 : (c : Dev Cert.KernelInIdeal.nD) → Buf (Elt Ideal) ((c.tc : Thread Cert.KernelInIdeal.nD Cert.KernelInIdeal.τ).loc Cert.KernelInIdeal.main_v123_5)) (v2 : (c : Dev Cert.KernelInIdeal.nD) → Buf (Elt Ideal) ((c.tc : Thread Cert.KernelInIdeal.nD Cert.KernelInIdeal.τ).loc Cert.KernelInIdeal.main_v123_7)) (v3 : (c : Dev Cert.KernelInIdeal.nD) → Buf (Elt Ideal) ((c.tc : Thread Cert.KernelInIdeal.nD Cert.KernelInIdeal.τ).loc Cert.KernelInIdeal.main_v123_8)) (v4 : (c : Dev Cert.KernelInIdeal.nD) → Buf (Elt Ideal) ((c.tc : Thread Cert.KernelInIdeal.nD Cert.KernelInIdeal.τ).loc Cert.KernelInIdeal.main_v123_11)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v123_0) = v0 c
          ∧ r.2.mem ((c.tc : Thread Cert.KernelInIdeal.nD Cert.KernelInIdeal.τ).loc Cert.KernelInIdeal.main_v123_5) = v1 c
          ∧ r.2.mem ((c.tc : Thread Cert.KernelInIdeal.nD Cert.KernelInIdeal.τ).loc Cert.KernelInIdeal.main_v123_7) = v2 c
          ∧ r.2.mem ((c.tc : Thread Cert.KernelInIdeal.nD Cert.KernelInIdeal.τ).loc Cert.KernelInIdeal.main_v123_8) = v3 c
          ∧ r.2.mem ((c.tc : Thread Cert.KernelInIdeal.nD Cert.KernelInIdeal.τ).loc Cert.KernelInIdeal.main_v123_11) = v4 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
          ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
          ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9)
          ∧ r.2.mem ((c.tc : Thread Cert.KernelInIdeal.nD Cert.KernelInIdeal.τ).loc Cert.KernelInIdeal.main_arg10) = m ((c.tc : Thread Cert.KernelInIdeal.nD Cert.KernelInIdeal.τ).loc Cert.KernelInIdeal.main_arg10)
          ∧ r.2.mem ((c.tc : Thread Cert.KernelInIdeal.nD Cert.KernelInIdeal.τ).loc Cert.KernelInIdeal.main_arg11) = m ((c.tc : Thread Cert.KernelInIdeal.nD Cert.KernelInIdeal.τ).loc Cert.KernelInIdeal.main_arg11)
          ∧ r.2.mem ((c.tc : Thread Cert.KernelInIdeal.nD Cert.KernelInIdeal.τ).loc Cert.KernelInIdeal.main_arg12) = m ((c.tc : Thread Cert.KernelInIdeal.nD Cert.KernelInIdeal.τ).loc Cert.KernelInIdeal.main_arg12)
          ∧ r.2.mem ((c.tc : Thread Cert.KernelInIdeal.nD Cert.KernelInIdeal.τ).loc Cert.KernelInIdeal.main_arg13) = m ((c.tc : Thread Cert.KernelInIdeal.nD Cert.KernelInIdeal.τ).loc Cert.KernelInIdeal.main_arg13))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v35) = v0 c
          ∧ r.2.mem ((c.tc : Thread Cert.ReferenceInIdeal.nD Cert.ReferenceInIdeal.τ).loc Cert.ReferenceInIdeal.main_v66) = v1 c
          ∧ r.2.mem ((c.tc : Thread Cert.ReferenceInIdeal.nD Cert.ReferenceInIdeal.τ).loc Cert.ReferenceInIdeal.main_v67) = v2 c
          ∧ r.2.mem ((c.tc : Thread Cert.ReferenceInIdeal.nD Cert.ReferenceInIdeal.τ).loc Cert.ReferenceInIdeal.main_v69) = v3 c
          ∧ r.2.mem ((c.tc : Thread Cert.ReferenceInIdeal.nD Cert.ReferenceInIdeal.τ).loc Cert.ReferenceInIdeal.main_v70) = v4 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7)
          ∧ r.2.mem ((c.tc : Thread Cert.ReferenceInIdeal.nD Cert.ReferenceInIdeal.τ).loc Cert.ReferenceInIdeal.main_arg8) = m' ((c.tc : Thread Cert.ReferenceInIdeal.nD Cert.ReferenceInIdeal.τ).loc Cert.ReferenceInIdeal.main_arg8)
          ∧ r.2.mem ((c.tc : Thread Cert.ReferenceInIdeal.nD Cert.ReferenceInIdeal.τ).loc Cert.ReferenceInIdeal.main_arg9) = m' ((c.tc : Thread Cert.ReferenceInIdeal.nD Cert.ReferenceInIdeal.τ).loc Cert.ReferenceInIdeal.main_arg9)
          ∧ r.2.mem ((c.tc : Thread Cert.ReferenceInIdeal.nD Cert.ReferenceInIdeal.τ).loc Cert.ReferenceInIdeal.main_arg10) = m' ((c.tc : Thread Cert.ReferenceInIdeal.nD Cert.ReferenceInIdeal.τ).loc Cert.ReferenceInIdeal.main_arg10)
          ∧ r.2.mem ((c.tc : Thread Cert.ReferenceInIdeal.nD Cert.ReferenceInIdeal.τ).loc Cert.ReferenceInIdeal.main_arg11) = m' ((c.tc : Thread Cert.ReferenceInIdeal.nD Cert.ReferenceInIdeal.τ).loc Cert.ReferenceInIdeal.main_arg11)
          ∧ r.2.mem ((c.tc : Thread Cert.ReferenceInIdeal.nD Cert.ReferenceInIdeal.τ).loc Cert.ReferenceInIdeal.main_arg12) = m' ((c.tc : Thread Cert.ReferenceInIdeal.nD Cert.ReferenceInIdeal.τ).loc Cert.ReferenceInIdeal.main_arg12)
          ∧ r.2.mem ((c.tc : Thread Cert.ReferenceInIdeal.nD Cert.ReferenceInIdeal.τ).loc Cert.ReferenceInIdeal.main_arg13) = m' ((c.tc : Thread Cert.ReferenceInIdeal.nD Cert.ReferenceInIdeal.τ).loc Cert.ReferenceInIdeal.main_arg13))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelIn : Cert.KernelIn.Facts) (hKernelInIdeal : Cert.KernelInIdeal.Facts) (hReferenceInIdeal : Cert.ReferenceInIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelIn_KernelInIdeal
    ∧ algebraic_KernelInIdeal_ReferenceInIdeal (hKernelInIdeal := hKernelInIdeal) (hReferenceInIdeal := hReferenceInIdeal)
-- ==== Pre_finite.lean ====
abbrev S8x4096x256 : Shape := ⟨3, ![8, 4096, 256]⟩
abbrev S8x256x256 : Shape := ⟨3, ![8, 256, 256]⟩
abbrev S4x15x31 : Shape := ⟨3, ![4, 15, 31]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S4x15x31 : S_.BroadcastsInDim S4x15x31 (![] : Fin 0 → Fin S4x15x31.rank)
  reducesTo_S4x15x31_S_d0_1_2 : S4x15x31.ReducesTo [0, 1, 2] S_

variable [Facts]

def fn_part1 {F : FTy → Type} [FloatOps F] (main_v13 : IVec S_ 1) (main_v16 : IVec S4x15x31 1) : IVec S_ 1 :=
  let main_c_5 : IVec S_ 1 := constantI S_ 1 1#1
  let main_v17 : IVec S_ 1 := (fun x v => Host.reduce IntOp.andi x v reducesTo_S4x15x31_S_d0_1_2 h_S_) main_v16 main_c_5
  let main_v18 : IVec S_ 1 := andi main_v13 main_v17
  main_v18

def fn {F : FTy → Type} [FloatOps F] (main_arg0 : FVec F S8x4096x256 .f32) (main_arg1 : FVec F S8x4096x256 .f32) (main_arg2 : FVec F S8x4096x256 .f32) (main_arg3 : FVec F S8x256x256 .f32) (main_arg4 : FVec F S8x256x256 .f32) (main_arg5 : FVec F S4x15x31 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S8x256x256 .f32 := Host.absf main_arg3
  let main_cst_2 : FVec F S_ .f32 := constant S_ .f32 0x7F800000#32
  let main_v10 : FVec F S8x256x256 .f32 := broadcastInDim S8x256x256 ![] bcast_S_S8x256x256 main_cst_2
  let main_v11 : IVec S8x256x256 1 := cmpf .olt main_v9 main_v10
  let main_c_3 : IVec S_ 1 := constantI S_ 1 1#1
  let main_v12 : IVec S_ 1 := (fun x v => Host.reduce IntOp.andi x v reducesTo_S8x256x256_S_d0_1_2 h_S_) main_v11 main_c_3
  let main_v13 : IVec S_ 1 := andi main_v8 main_v12
  let main_v14 : FVec F S4x15x31 .f32 := Host.absf main_arg5
  let main_cst_4 : FVec F S_ .f32 := constant S_ .f32 0x7F800000#32
  let main_v15 : FVec F S4x15x31 .f32 := broadcastInDim S4x15x31 ![] bcast_S_S4x15x31 main_cst_4
  let main_v16 : IVec S4x15x31 1 := cmpf .olt main_v14 main_v15
  fn_part1 (F := F) main_v13 main_v16
-- ==== Kernel.lean ====
abbrev S8x4096x256 : Shape := ⟨3, ![8, 4096, 256]⟩
abbrev S8x256x256 : Shape := ⟨3, ![8, 256, 256]⟩
abbrev S4x15x31 : Shape := ⟨3, ![4, 15, 31]⟩
abbrev S_ : Shape := ⟨0, ![]⟩
abbrev S64 : Shape := ⟨1, ![64]⟩
abbrev S64x1x1 : Shape := ⟨3, ![64, 1, 1]⟩
abbrev S1x64x1 : Shape := ⟨3, ![1, 64, 1]⟩
abbrev S31 : Shape := ⟨1, ![31]⟩
abbrev S1x1x31 : Shape := ⟨3, ![1, 1, 31]⟩
abbrev S64x64x1 : Shape := ⟨3, ![64, 64, 1]⟩
abbrev S64x64x31 : Shape := ⟨3, ![64, 64, 31]⟩
abbrev S64x64x4x15 : Shape := ⟨4, ![64, 64, 4, 15]⟩
abbrev S15x4x64x64 : Shape := ⟨4, ![15, 4, 64, 64]⟩
abbrev S64x64 : Shape := ⟨2, ![64, 64]⟩
abbrev S1x1x64x64 : Shape := ⟨4, ![1, 1, 64, 64]⟩
abbrev S1x4x64x64 : Shape := ⟨4, ![1, 4, 64, 64]⟩
abbrev S4x64x64 : Shape := ⟨3, ![4, 64, 64]⟩
abbrev S4x64x512 : Shape := ⟨3, ![4, 64, 512]⟩
abbrev S1x4x64x512 : Shape := ⟨4, ![1, 4, 64, 512]⟩
abbrev S8x4x64x512 : Shape := ⟨4, ![8, 4, 64, 512]⟩
abbrev S8x256x512 : Shape := ⟨3, ![8, 256, 512]⟩
abbrev S1x1024x256 : Shape := ⟨3, ![1, 1024, 256]⟩
abbrev S1x4096x256 : Shape := ⟨3, ![1, 4096, 256]⟩
abbrev S1x256x256 : Shape := ⟨3, ![1, 256, 256]⟩
abbrev S256x256 : Shape := ⟨2, ![256, 256]⟩
abbrev S1x64x256 : Shape := ⟨3, ![1, 64, 256]⟩
abbrev S64x256 : Shape := ⟨2, ![64, 256]⟩
abbrev S1x512x256 : Shape := ⟨3, ![1, 512, 256]⟩
abbrev S512x256 : Shape := ⟨2, ![512, 256]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 212
  | .vmem => 13
  | .smem => 0
  | _ => 0

abbrev hbmTy0_0 (i : Nat) : BufTy := match i % 128 with
  | 0 => ⟨S8x4096x256, .f32⟩
  | 1 => ⟨S8x4096x256, .f32⟩
  | 2 => ⟨S8x4096x256, .f32⟩
  | 3 => ⟨S8x256x256, .f32⟩
  | 4 => ⟨S8x256x256, .f32⟩
  | 5 => ⟨S4x15x31, .f32⟩
  | 6 => ⟨S_, .f32⟩
  | 7 => ⟨S8x4096x256, .f32⟩
  | 8 => ⟨S8x4096x256, .f32⟩
  | 9 => ⟨S8x4096x256, .bf16⟩
  | 10 => ⟨S8x4096x256, .bf16⟩
  | 11 => ⟨S8x4096x256, .bf16⟩
  | 12 => ⟨S8x256x256, .bf16⟩
  | 13 => ⟨S8x256x256, .bf16⟩
  | 14 => ⟨S64, .i32⟩
  | 15 => ⟨S64x1x1, .i32⟩
  | 16 => ⟨S64, .i32⟩
  | 17 => ⟨S1x64x1, .i32⟩
  | 18 => ⟨S31, .i32⟩
  | 19 => ⟨S1x1x31, .i32⟩
  | 20 => ⟨S_, .i32⟩
  | 21 => ⟨S64x1x1, .i32⟩
  | 22 => ⟨S64x1x1, .i32⟩
  | 23 => ⟨S_, .i32⟩
  | 24 => ⟨S_, .i32⟩
  | 25 => ⟨S_, .i32⟩
  | 26 => ⟨S64x1x1, .i32⟩
  | 27 => ⟨S64x1x1, .i32⟩
  | 28 => ⟨S_, .i32⟩
  | 29 => ⟨S64x1x1, .i32⟩
  | 30 => ⟨S64x1x1, .i32⟩
  | 31 => ⟨S64x64x1, .i32⟩
  | 32 => ⟨S64x64x1, .i32⟩
  | 33 => ⟨S64x64x1, .i1⟩
  | 34 => ⟨S_, .i32⟩
  | 35 => ⟨S64x1x1, .i32⟩
  | 36 => ⟨S64x1x1, .i32⟩
  | 37 => ⟨S64x64x1, .i32⟩
  | 38 => ⟨S64x64x1, .i32⟩
  | 39 => ⟨S64x64x1, .i1⟩
  | 40 => ⟨S64x64x1, .i1⟩
  | 41 => ⟨S64x64x1, .i32⟩
  | 42 => ⟨S64x64x1, .i32⟩
  | 43 => ⟨S64x64x1, .i32⟩
  | 44 => ⟨S_, .i32⟩
  | 45 => ⟨S64x64x1, .i32⟩
  | 46 => ⟨S64x64x1, .i32⟩
  | 47 => ⟨S_, .i32⟩
  | 48 => ⟨S64x64x1, .i32⟩
  | 49 => ⟨S64x64x1, .i32⟩
  | 50 => ⟨S64x64x31, .i32⟩
  | 51 => ⟨S64x64x31, .i32⟩
  | 52 => ⟨S64x64x31, .i1⟩
  | 53 => ⟨S64x64x31, .i1⟩
  | 54 => ⟨S64x64x31, .i1⟩
  | 55 => ⟨S64x64x31, .f32⟩
  | 56 => ⟨S64x64x4x15, .f32⟩
  | 57 => ⟨S15x4x64x64, .f32⟩
  | 58 => ⟨S64x64, .i1⟩
  | 59 => ⟨S1x1x64x64, .i1⟩
  | 60 => ⟨S_, .f32⟩
  | 61 => ⟨S_, .f32⟩
  | 62 => ⟨S15x4x64x64, .i1⟩
  | 63 => ⟨S15x4x64x64, .f32⟩
  | 64 => ⟨S15x4x64x64, .f32⟩
  | 65 => ⟨S1x4x64x64, .f32⟩
  | 66 => ⟨S4x64x64, .f32⟩
  | 67 => ⟨S1x4x64x64, .f32⟩
  | 68 => ⟨S4x64x64, .f32⟩
  | 69 => ⟨S1x4x64x64, .f32⟩
  | 70 => ⟨S4x64x64, .f32⟩
  | 71 => ⟨S1x4x64x64, .f32⟩
  | 72 => ⟨S4x64x64, .f32⟩
  | 73 => ⟨S1x4x64x64, .f32⟩
  | 74 => ⟨S4x64x64, .f32⟩
  | 75 => ⟨S1x4x64x64, .f32⟩
  | 76 => ⟨S4x64x64, .f32⟩
  | 77 => ⟨S1x4x64x64, .f32⟩
  | 78 => ⟨S4x64x64, .f32⟩
  | 79 => ⟨S1x4x64x64, .f32⟩
  | 80 => ⟨S4x64x64, .f32⟩
  | 81 => ⟨S4x64x512, .f32⟩
  | 82 => ⟨S1x4x64x64, .f32⟩
  | 83 => ⟨S4x64x64, .f32⟩
  | 84 => ⟨S1x4x64x64, .f32⟩
  | 85 => ⟨S4x64x64, .f32⟩
  | 86 => ⟨S1x4x64x64, .f32⟩
  | 87 => ⟨S4x64x64, .f32⟩
  | 88 => ⟨S1x4x64x64, .f32⟩
  | 89 => ⟨S4x64x64, .f32⟩
  | 90 => ⟨S1x4x64x64, .f32⟩
  | 91 => ⟨S4x64x64, .f32⟩
  | 92 => ⟨S1x4x64x64, .f32⟩
  | 93 => ⟨S4x64x64, .f32⟩
  | 94 => ⟨S1x4x64x64, .f32⟩
  | 95 => ⟨S4x64x64, .f32⟩
  | 96 => ⟨S1x4x64x64, .f32⟩
  | 97 => ⟨S4x64x64, .f32⟩
  | 98 => ⟨S4x64x512, .f32⟩
  | 99 => ⟨S1x4x64x64, .f32⟩
  | 100 => ⟨S4x64x64, .f32⟩
  | 101 => ⟨S1x4x64x64, .f32⟩
  | 102 => ⟨S4x64x64, .f32⟩
  | 103 => ⟨S1x4x64x64, .f32⟩
  | 104 => ⟨S4x64x64, .f32⟩
  | 105 => ⟨S1x4x64x64, .f32⟩
  | 106 => ⟨S4x64x64, .f32⟩
  | 107 => ⟨S1x4x64x64, .f32⟩
  | 108 => ⟨S4x64x64, .f32⟩
  | 109 => ⟨S1x4x64x64, .f32⟩
  | 110 => ⟨S4x64x64, .f32⟩
  | 111 => ⟨S1x4x64x64, .f32⟩
  | 112 => ⟨S4x64x64, .f32⟩
  | 113 => ⟨S1x4x64x64, .f32⟩
  | 114 => ⟨S4x64x64, .f32⟩
  | 115 => ⟨S4x64x512, .f32⟩
  | 116 => ⟨S1x4x64x64, .f32⟩
  | 117 => ⟨S4x64x64, .f32⟩
  | 118 => ⟨S1x4x64x64, .f32⟩
  | 119 => ⟨S4x64x64, .f32⟩
  | 120 => ⟨S1x4x64x64, .f32⟩
  | 121 => ⟨S4x64x64, .f32⟩
  | 122 => ⟨S1x4x64x64, .f32⟩
  | 123 => ⟨S4x64x64, .f32⟩
  | 124 => ⟨S1x4x64x64, .f32⟩
  | 125 => ⟨S4x64x64, .f32⟩
  | 126 => ⟨S1x4x64x64, .f32⟩
  | 127 => ⟨S4x64x64, .f32⟩
  | _ => ⟨S8x4096x256, .f32⟩

abbrev hbmTy0_1 (i : Nat) : BufTy := match i % 128 with
  | 0 => ⟨S1x4x64x64, .f32⟩
  | 1 => ⟨S4x64x64, .f32⟩
  | 2 => ⟨S1x4x64x64, .f32⟩
  | 3 => ⟨S4x64x64, .f32⟩
  | 4 => ⟨S4x64x512, .f32⟩
  | 5 => ⟨S1x4x64x64, .f32⟩
  | 6 => ⟨S4x64x64, .f32⟩
  | 7 => ⟨S1x4x64x64, .f32⟩
  | 8 => ⟨S4x64x64, .f32⟩
  | 9 => ⟨S1x4x64x64, .f32⟩
  | 10 => ⟨S4x64x64, .f32⟩
  | 11 => ⟨S1x4x64x64, .f32⟩
  | 12 => ⟨S4x64x64, .f32⟩
  | 13 => ⟨S1x4x64x64, .f32⟩
  | 14 => ⟨S4x64x64, .f32⟩
  | 15 => ⟨S1x4x64x64, .f32⟩
  | 16 => ⟨S4x64x64, .f32⟩
  | 17 => ⟨S1x4x64x64, .f32⟩
  | 18 => ⟨S4x64x64, .f32⟩
  | 19 => ⟨S1x4x64x64, .f32⟩
  | 20 => ⟨S4x64x64, .f32⟩
  | 21 => ⟨S4x64x512, .f32⟩
  | 22 => ⟨S1x4x64x64, .f32⟩
  | 23 => ⟨S4x64x64, .f32⟩
  | 24 => ⟨S1x4x64x64, .f32⟩
  | 25 => ⟨S4x64x64, .f32⟩
  | 26 => ⟨S1x4x64x64, .f32⟩
  | 27 => ⟨S4x64x64, .f32⟩
  | 28 => ⟨S1x4x64x64, .f32⟩
  | 29 => ⟨S4x64x64, .f32⟩
  | 30 => ⟨S1x4x64x64, .f32⟩
  | 31 => ⟨S4x64x64, .f32⟩
  | 32 => ⟨S1x4x64x64, .f32⟩
  | 33 => ⟨S4x64x64, .f32⟩
  | 34 => ⟨S1x4x64x64, .f32⟩
  | 35 => ⟨S4x64x64, .f32⟩
  | 36 => ⟨S1x4x64x64, .f32⟩
  | 37 => ⟨S4x64x64, .f32⟩
  | 38 => ⟨S4x64x512, .f32⟩
  | 39 => ⟨S1x4x64x64, .f32⟩
  | 40 => ⟨S4x64x64, .f32⟩
  | 41 => ⟨S1x4x64x64, .f32⟩
  | 42 => ⟨S4x64x64, .f32⟩
  | 43 => ⟨S1x4x64x64, .f32⟩
  | 44 => ⟨S4x64x64, .f32⟩
  | 45 => ⟨S1x4x64x64, .f32⟩
  | 46 => ⟨S4x64x64, .f32⟩
  | 47 => ⟨S1x4x64x64, .f32⟩
  | 48 => ⟨S4x64x64, .f32⟩
  | 49 => ⟨S1x4x64x64, .f32⟩
  | 50 => ⟨S4x64x64, .f32⟩
  | 51 => ⟨S1x4x64x64, .f32⟩
  | 52 => ⟨S4x64x64, .f32⟩
  | 53 => ⟨S1x4x64x64, .f32⟩
  | 54 => ⟨S4x64x64, .f32⟩
  | 55 => ⟨S4x64x512, .f32⟩
  | 56 => ⟨S1x4x64x64, .f32⟩
  | 57 => ⟨S4x64x64, .f32⟩
  | 58 => ⟨S1x4x64x64, .f32⟩
  | 59 => ⟨S4x64x64, .f32⟩
  | 60 => ⟨S1x4x64x64, .f32⟩
  | 61 => ⟨S4x64x64, .f32⟩
  | 62 => ⟨S1x4x64x64, .f32⟩
  | 63 => ⟨S4x64x64, .f32⟩
  | 64 => ⟨S1x4x64x64, .f32⟩
  | 65 => ⟨S4x64x64, .f32⟩
  | 66 => ⟨S1x4x64x64, .f32⟩
  | 67 => ⟨S4x64x64, .f32⟩
  | 68 => ⟨S1x4x64x64, .f32⟩
  | 69 => ⟨S4x64x64, .f32⟩
  | 70 => ⟨S1x4x64x64, .f32⟩
  | 71 => ⟨S4x64x64, .f32⟩
  | 72 => ⟨S4x64x512, .f32⟩
  | 73 => ⟨S1x4x64x512, .f32⟩
  | 74 => ⟨S1x4x64x512, .f32⟩
  | 75 => ⟨S1x4x64x512, .f32⟩
  | 76 => ⟨S1x4x64x512, .f32⟩
  | 77 => ⟨S1x4x64x512, .f32⟩
  | 78 => ⟨S1x4x64x512, .f32⟩
  | 79 => ⟨S1x4x64x512, .f32⟩
  | 80 => ⟨S1x4x64x512, .f32⟩
  | 81 => ⟨S8x4x64x512, .f32⟩
  | 82 => ⟨S8x256x512, .f32⟩
  | 83 => ⟨S8x4096x256, .bf16⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S8x256x512, .f32⟩
  | .local _ .vmem, ⟨11, _⟩ => ⟨S1x1024x256, .bf16⟩
  | .local _ .vmem, ⟨12, _⟩ => ⟨S1x1024x256, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c56_i32 : BitVec 32 := 56#32
  let c0_i32_5 : BitVec 32 := 0#32
  let arg1 : BitVec 32 := BitVec.ofNat 32 (i 1).val
  let c16_i32 : BitVec 32 := 16#32
  let v4 : BitVec 32 := Scalar.muli arg1 c16_i32
  let c0_i32 : BitVec 32 := 0#32
  let v5 : BitVec 32 := Scalar.addi v4 c0_i32
  let c4_i32 : BitVec 32 := 4#32
  let v6 : BitVec 32 := Scalar.subi v5 c4_i32
  let v7 : BitVec 32 := Scalar.maxsi c0_i32_5 v6
  let v8 : BitVec 32 := Scalar.minsi c56_i32 v7
  let c64_i32_37 : BitVec 32 := 64#32
  let v123 : BitVec 32 := Scalar.muli v8 c64_i32_37
  v123
def k0_off1 (i : grid0.Coords) (c0_i32 : BitVec 32) : Fin 3 → Nat :=
  let c0_38 : Index := 0#32
  let c56_i32 : BitVec 32 := 56#32
  let c0_i32_5 : BitVec 32 := 0#32
  let arg1 : BitVec 32 := BitVec.ofNat 32 (i 1).val
  let c16_i32 : BitVec 32 := 16#32
  let v4 : BitVec 32 := Scalar.muli arg1 c16_i32
  let v5 : BitVec 32 := Scalar.addi v4 c0_i32
  let c4_i32 : BitVec 32 := 4#32
  let v6 : BitVec 32 := Scalar.subi v5 c4_i32
  let v7 : BitVec 32 := Scalar.maxsi c0_i32_5 v6
  let v8 : BitVec 32 := Scalar.minsi c56_i32 v7
  let c64_i32_37 : BitVec 32 := 64#32
  let v123 : BitVec 32 := Scalar.muli v8 c64_i32_37
  let v124 : BitVec 32 := v123
  let v125 : Index := Scalar.indexCast v124
  let c0_39 : Index := 0#32
  ![0, v125.toNat, 0]
def k0_off2 (i : grid0.Coords) (c0_i32 : BitVec 32) : Fin 3 → Nat :=
  let arg1 : BitVec 32 := BitVec.ofNat 32 (i 1).val
  let c16_i32 : BitVec 32 := 16#32
  let v4 : BitVec 32 := Scalar.muli arg1 c16_i32
  let v5 : BitVec 32 := Scalar.addi v4 c0_i32
  let c56_i32 : BitVec 32 := 56#32
  let c0_i32_5 : BitVec 32 := 0#32
  let c4_i32 : BitVec 32 := 4#32
  let v6 : BitVec 32 := Scalar.subi v5 c4_i32
  let v7 : BitVec 32 := Scalar.maxsi c0_i32_5 v6
  let v8 : BitVec 32 := Scalar.minsi c56_i32 v7
  let v9 : BitVec 32 := Scalar.subi v5 v8
  let v132 : Index := Scalar.indexCast v9
  let c0_43 : Index := 0#32
  let c0_44 : Index := 0#32
  ![v132.toNat, 0, 0]
def k0_mult2 (i : grid0.Coords) : BitVec 32 :=
  let c56_i32_97 : BitVec 32 := 56#32
  let c0_i32_96 : BitVec 32 := 0#32
  let arg1 : BitVec 32 := BitVec.ofNat 32 (i 1).val
  let c16_i32_93 : BitVec 32 := 16#32
  let v288 : BitVec 32 := Scalar.muli arg1 c16_i32_93
  let c1_i32_94 : BitVec 32 := 1#32
  let v289 : BitVec 32 := Scalar.addi v288 c1_i32_94
  let c4_i32_95 : BitVec 32 := 4#32
  let v290 : BitVec 32 := Scalar.subi v289 c4_i32_95
  let v291 : BitVec 32 := Scalar.maxsi c0_i32_96 v290
  let v292 : BitVec 32 := Scalar.minsi c56_i32_97 v291
  let c64_i32_133 : BitVec 32 := 64#32
  let v407 : BitVec 32 := Scalar.muli v292 c64_i32_133
  v407
def k0_mult3 (i : grid0.Coords) : BitVec 32 :=
  let c56_i32_193 : BitVec 32 := 56#32
  let c0_i32_192 : BitVec 32 := 0#32
  let arg1 : BitVec 32 := BitVec.ofNat 32 (i 1).val
  let c16_i32_189 : BitVec 32 := 16#32
  let v572 : BitVec 32 := Scalar.muli arg1 c16_i32_189
  let c2_i32_190 : BitVec 32 := 2#32
  let v573 : BitVec 32 := Scalar.addi v572 c2_i32_190
  let c4_i32_191 : BitVec 32 := 4#32
  let v574 : BitVec 32 := Scalar.subi v573 c4_i32_191
  let v575 : BitVec 32 := Scalar.maxsi c0_i32_192 v574
  let v576 : BitVec 32 := Scalar.minsi c56_i32_193 v575
  let c64_i32_229 : BitVec 32 := 64#32
  let v691 : BitVec 32 := Scalar.muli v576 c64_i32_229
  v691
def k0_mult4 (i : grid0.Coords) : BitVec 32 :=
  let c56_i32_289 : BitVec 32 := 56#32
  let c0_i32_288 : BitVec 32 := 0#32
  let arg1 : BitVec 32 := BitVec.ofNat 32 (i 1).val
  let c16_i32_285 : BitVec 32 := 16#32
  let v856 : BitVec 32 := Scalar.muli arg1 c16_i32_285
  let c3_i32_286 : BitVec 32 := 3#32
  let v857 : BitVec 32 := Scalar.addi v856 c3_i32_286
  let c4_i32_287 : BitVec 32 := 4#32
  let v858 : BitVec 32 := Scalar.subi v857 c4_i32_287
  let v859 : BitVec 32 := Scalar.maxsi c0_i32_288 v858
  let v860 : BitVec 32 := Scalar.minsi c56_i32_289 v859
  let c64_i32_325 : BitVec 32 := 64#32
  let v975 : BitVec 32 := Scalar.muli v860 c64_i32_325
  v975
def k0_mult5 (i : grid0.Coords) : BitVec 32 :=
  let c56_i32_385 : BitVec 32 := 56#32
  let c0_i32_384 : BitVec 32 := 0#32
  let arg1 : BitVec 32 := BitVec.ofNat 32 (i 1).val
  let c16_i32_381 : BitVec 32 := 16#32
  let v1140 : BitVec 32 := Scalar.muli arg1 c16_i32_381
  let c4_i32_382 : BitVec 32 := 4#32
  let v1141 : BitVec 32 := Scalar.addi v1140 c4_i32_382
  let c4_i32_383 : BitVec 32 := 4#32
  let v1142 : BitVec 32 := Scalar.subi v1141 c4_i32_383
  let v1143 : BitVec 32 := Scalar.maxsi c0_i32_384 v1142
  let v1144 : BitVec 32 := Scalar.minsi c56_i32_385 v1143
  let c64_i32_421 : BitVec 32 := 64#32
  let v1259 : BitVec 32 := Scalar.muli v1144 c64_i32_421
  v1259
def k0_mult6 (i : grid0.Coords) : BitVec 32 :=
  let c56_i32_480 : BitVec 32 := 56#32
  let c0_i32_479 : BitVec 32 := 0#32
  let arg1 : BitVec 32 := BitVec.ofNat 32 (i 1).val
  let c16_i32_477 : BitVec 32 := 16#32
  let v1424 : BitVec 32 := Scalar.muli arg1 c16_i32_477
  let c5_i32 : BitVec 32 := 5#32
  let v1425 : BitVec 32 := Scalar.addi v1424 c5_i32
  let c4_i32_478 : BitVec 32 := 4#32
  let v1426 : BitVec 32 := Scalar.subi v1425 c4_i32_478
  let v1427 : BitVec 32 := Scalar.maxsi c0_i32_479 v1426
  let v1428 : BitVec 32 := Scalar.minsi c56_i32_480 v1427
  let c64_i32_516 : BitVec 32 := 64#32
  let v1543 : BitVec 32 := Scalar.muli v1428 c64_i32_516
  v1543
def k0_mult7 (i : grid0.Coords) : BitVec 32 :=
  let c56_i32_575 : BitVec 32 := 56#32
  let c0_i32_574 : BitVec 32 := 0#32
  let arg1 : BitVec 32 := BitVec.ofNat 32 (i 1).val
  let c16_i32_572 : BitVec 32 := 16#32
  let v1708 : BitVec 32 := Scalar.muli arg1 c16_i32_572
  let c6_i32 : BitVec 32 := 6#32
  let v1709 : BitVec 32 := Scalar.addi v1708 c6_i32
  let c4_i32_573 : BitVec 32 := 4#32
  let v1710 : BitVec 32 := Scalar.subi v1709 c4_i32_573
  let v1711 : BitVec 32 := Scalar.maxsi c0_i32_574 v1710
  let v1712 : BitVec 32 := Scalar.minsi c56_i32_575 v1711
  let c64_i32_611 : BitVec 32 := 64#32
  let v1827 : BitVec 32 := Scalar.muli v1712 c64_i32_611
  v1827
def k0_mult8 (i : grid0.Coords) : BitVec 32 :=
  let c56_i32_670 : BitVec 32 := 56#32
  let c0_i32_669 : BitVec 32 := 0#32
  let arg1 : BitVec 32 := BitVec.ofNat 32 (i 1).val
  let c16_i32_667 : BitVec 32 := 16#32
  let v1992 : BitVec 32 := Scalar.muli arg1 c16_i32_667
  let c7_i32 : BitVec 32 := 7#32
  let v1993 : BitVec 32 := Scalar.addi v1992 c7_i32
  let c4_i32_668 : BitVec 32 := 4#32
  let v1994 : BitVec 32 := Scalar.subi v1993 c4_i32_668
  let v1995 : BitVec 32 := Scalar.maxsi c0_i32_669 v1994
  let v1996 : BitVec 32 := Scalar.minsi c56_i32_670 v1995
  let c64_i32_706 : BitVec 32 := 64#32
  let v2111 : BitVec 32 := Scalar.muli v1996 c64_i32_706
  v2111
def k0_mult9 (i : grid0.Coords) : BitVec 32 :=
  let c56_i32_765 : BitVec 32 := 56#32
  let c0_i32_764 : BitVec 32 := 0#32
  let arg1 : BitVec 32 := BitVec.ofNat 32 (i 1).val
  let c16_i32_762 : BitVec 32 := 16#32
  let v2276 : BitVec 32 := Scalar.muli arg1 c16_i32_762
  let c8_i32 : BitVec 32 := 8#32
  let v2277 : BitVec 32 := Scalar.addi v2276 c8_i32
  let c4_i32_763 : BitVec 32 := 4#32
  let v2278 : BitVec 32 := Scalar.subi v2277 c4_i32_763
  let v2279 : BitVec 32 := Scalar.maxsi c0_i32_764 v2278
  let v2280 : BitVec 32 := Scalar.minsi c56_i32_765 v2279
  let c64_i32_801 : BitVec 32 := 64#32
  let v2395 : BitVec 32 := Scalar.muli v2280 c64_i32_801
  v2395
def k0_mult10 (i : grid0.Coords) : BitVec 32 :=
  let c56_i32_860 : BitVec 32 := 56#32
  let c0_i32_859 : BitVec 32 := 0#32
  let arg1 : BitVec 32 := BitVec.ofNat 32 (i 1).val
  let c16_i32_857 : BitVec 32 := 16#32
  let v2560 : BitVec 32 := Scalar.muli arg1 c16_i32_857
  let c9_i32 : BitVec 32 := 9#32
  let v2561 : BitVec 32 := Scalar.addi v2560 c9_i32
  let c4_i32_858 : BitVec 32 := 4#32
  let v2562 : BitVec 32 := Scalar.subi v2561 c4_i32_858
  let v2563 : BitVec 32 := Scalar.maxsi c0_i32_859 v2562
  let v2564 : BitVec 32 := Scalar.minsi c56_i32_860 v2563
  let c64_i32_896 : BitVec 32 := 64#32
  let v2679 : BitVec 32 := Scalar.muli v2564 c64_i32_896
  v2679
def k0_mult11 (i : grid0.Coords) : BitVec 32 :=
  let c56_i32_955 : BitVec 32 := 56#32
  let c0_i32_954 : BitVec 32 := 0#32
  let arg1 : BitVec 32 := BitVec.ofNat 32 (i 1).val
  let c16_i32_952 : BitVec 32 := 16#32
  let v2844 : BitVec 32 := Scalar.muli arg1 c16_i32_952
  let c10_i32 : BitVec 32 := 10#32
  let v2845 : BitVec 32 := Scalar.addi v2844 c10_i32
  let c4_i32_953 : BitVec 32 := 4#32
  let v2846 : BitVec 32 := Scalar.subi v2845 c4_i32_953
  let v2847 : BitVec 32 := Scalar.maxsi c0_i32_954 v2846
  let v2848 : BitVec 32 := Scalar.minsi c56_i32_955 v2847
  let c64_i32_991 : BitVec 32 := 64#32
  let v2963 : BitVec 32 := Scalar.muli v2848 c64_i32_991
  v2963
def k0_mult12 (i : grid0.Coords) : BitVec 32 :=
  let c56_i32_1050 : BitVec 32 := 56#32
  let c0_i32_1049 : BitVec 32 := 0#32
  let arg1 : BitVec 32 := BitVec.ofNat 32 (i 1).val
  let c16_i32_1047 : BitVec 32 := 16#32
  let v3128 : BitVec 32 := Scalar.muli arg1 c16_i32_1047
  let c11_i32 : BitVec 32 := 11#32
  let v3129 : BitVec 32 := Scalar.addi v3128 c11_i32
  let c4_i32_1048 : BitVec 32 := 4#32
  let v3130 : BitVec 32 := Scalar.subi v3129 c4_i32_1048
  let v3131 : BitVec 32 := Scalar.maxsi c0_i32_1049 v3130
  let v3132 : BitVec 32 := Scalar.minsi c56_i32_1050 v3131
  let c64_i32_1086 : BitVec 32 := 64#32
  let v3247 : BitVec 32 := Scalar.muli v3132 c64_i32_1086
  v3247
def k0_mult13 (i : grid0.Coords) : BitVec 32 :=
  let c56_i32_1145 : BitVec 32 := 56#32
  let c0_i32_1144 : BitVec 32 := 0#32
  let arg1 : BitVec 32 := BitVec.ofNat 32 (i 1).val
  let c16_i32_1142 : BitVec 32 := 16#32
  let v3412 : BitVec 32 := Scalar.muli arg1 c16_i32_1142
  let c12_i32 : BitVec 32 := 12#32
  let v3413 : BitVec 32 := Scalar.addi v3412 c12_i32
  let c4_i32_1143 : BitVec 32 := 4#32
  let v3414 : BitVec 32 := Scalar.subi v3413 c4_i32_1143
  let v3415 : BitVec 32 := Scalar.maxsi c0_i32_1144 v3414
  let v3416 : BitVec 32 := Scalar.minsi c56_i32_1145 v3415
  let c64_i32_1181 : BitVec 32 := 64#32
  let v3531 : BitVec 32 := Scalar.muli v3416 c64_i32_1181
  v3531
def k0_mult14 (i : grid0.Coords) : BitVec 32 :=
  let c56_i32_1240 : BitVec 32 := 56#32
  let c0_i32_1239 : BitVec 32 := 0#32
  let arg1 : BitVec 32 := BitVec.ofNat 32 (i 1).val
  let c16_i32_1237 : BitVec 32 := 16#32
  let v3696 : BitVec 32 := Scalar.muli arg1 c16_i32_1237
  let c13_i32 : BitVec 32 := 13#32
  let v3697 : BitVec 32 := Scalar.addi v3696 c13_i32
  let c4_i32_1238 : BitVec 32 := 4#32
  let v3698 : BitVec 32 := Scalar.subi v3697 c4_i32_1238
  let v3699 : BitVec 32 := Scalar.maxsi c0_i32_1239 v3698
  let v3700 : BitVec 32 := Scalar.minsi c56_i32_1240 v3699
  let c64_i32_1276 : BitVec 32 := 64#32
  let v3815 : BitVec 32 := Scalar.muli v3700 c64_i32_1276
  v3815
def k0_mult15 (i : grid0.Coords) : BitVec 32 :=
  let c56_i32_1335 : BitVec 32 := 56#32
  let c0_i32_1334 : BitVec 32 := 0#32
  let arg1 : BitVec 32 := BitVec.ofNat 32 (i 1).val
  let c16_i32_1332 : BitVec 32 := 16#32
  let v3980 : BitVec 32 := Scalar.muli arg1 c16_i32_1332
  let c14_i32 : BitVec 32 := 14#32
  let v3981 : BitVec 32 := Scalar.addi v3980 c14_i32
  let c4_i32_1333 : BitVec 32 := 4#32
  let v3982 : BitVec 32 := Scalar.subi v3981 c4_i32_1333
  let v3983 : BitVec 32 := Scalar.maxsi c0_i32_1334 v3982
  let v3984 : BitVec 32 := Scalar.minsi c56_i32_1335 v3983
  let c64_i32_1371 : BitVec 32 := 64#32
  let v4099 : BitVec 32 := Scalar.muli v3984 c64_i32_1371
  v4099
def k0_mult16 (i : grid0.Coords) : BitVec 32 :=
  let c56_i32_1430 : BitVec 32 := 56#32
  let c0_i32_1429 : BitVec 32 := 0#32
  let arg1 : BitVec 32 := BitVec.ofNat 32 (i 1).val
  let c16_i32_1427 : BitVec 32 := 16#32
  let v4264 : BitVec 32 := Scalar.muli arg1 c16_i32_1427
  let c15_i32 : BitVec 32 := 15#32
  let v4265 : BitVec 32 := Scalar.addi v4264 c15_i32
  let c4_i32_1428 : BitVec 32 := 4#32
  let v4266 : BitVec 32 := Scalar.subi v4265 c4_i32_1428
  let v4267 : BitVec 32 := Scalar.maxsi c0_i32_1429 v4266
  let v4268 : BitVec 32 := Scalar.minsi c56_i32_1430 v4267
  let c64_i32_1466 : BitVec 32 := 64#32
  let v4383 : BitVec 32 := Scalar.muli v4268 c64_i32_1466
  v4383
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x4096x256 : Shape := ⟨3, ![8, 4096, 256]⟩
abbrev S8x256x256 : Shape := ⟨3, ![8, 256, 256]⟩
abbrev S4x15x31 : Shape := ⟨3, ![4, 15, 31]⟩
abbrev S8x4096x4x64 : Shape := ⟨4, ![8, 4096, 4, 64]⟩
abbrev S8x256x4x64 : Shape := ⟨4, ![8, 256, 4, 64]⟩
abbrev S8x64x64x4x64 : Shape := ⟨5, ![8, 64, 64, 4, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x16x1 : Shape := ⟨3, ![64, 16, 1]⟩
abbrev S4x15x64x16 : Shape := ⟨4, ![4, 15, 64, 16]⟩
abbrev S64x8x1 : Shape := ⟨3, ![64, 8, 1]⟩
abbrev S8x64x8x64x4x64 : Shape := ⟨6, ![8, 64, 8, 64, 4, 64]⟩
abbrev S8x64x8x64x16x4x64 : Shape := ⟨7, ![8, 64, 8, 64, 16, 4, 64]⟩
abbrev S4x64x8x64x16 : Shape := ⟨5, ![4, 64, 8, 64, 16]⟩
abbrev S4x64x64x8x16 : Shape := ⟨5, ![4, 64, 64, 8, 16]⟩
abbrev S8x4x64x64x8x16 : Shape := ⟨6, ![8, 4, 64, 64, 8, 16]⟩
abbrev S1x4x64x64x8x16 : Shape := ⟨6, ![1, 4, 64, 64, 8, 16]⟩
abbrev S8x4x64x64x256 : Shape := ⟨5, ![8, 4, 64, 64, 256]⟩
abbrev S8x4x64x64x128 : Shape := ⟨5, ![8, 4, 64, 64, 128]⟩
abbrev S8x4x64x64x384 : Shape := ⟨5, ![8, 4, 64, 64, 384]⟩
abbrev S8x4x64x64 : Shape := ⟨4, ![8, 4, 64, 64]⟩
abbrev S8x4x64x64x1 : Shape := ⟨5, ![8, 4, 64, 64, 1]⟩
abbrev S8x4x64x64x64 : Shape := ⟨5, ![8, 4, 64, 64, 64]⟩

abbrev nBuf : Space → Nat
  | .hbm => 159
  | .vmem => 0
  | .smem => 0
  | _ => 0

abbrev hbmTy0_0 (i : Nat) : BufTy := match i % 128 with
  | 0 => ⟨S8x4096x256, .f32⟩
  | 1 => ⟨S8x4096x256, .f32⟩
  | 2 => ⟨S8x4096x256, .f32⟩
  | 3 => ⟨S8x256x256, .f32⟩
  | 4 => ⟨S8x256x256, .f32⟩
  | 5 => ⟨S4x15x31, .f32⟩
  | 6 => ⟨S8x4096x4x64, .f32⟩
  | 7 => ⟨S8x4096x4x64, .f32⟩
  | 8 => ⟨S8x4096x4x64, .f32⟩
  | 9 => ⟨S8x256x4x64, .f32⟩
  | 10 => ⟨S8x256x4x64, .f32⟩
  | 11 => ⟨S8x64x64x4x64, .f32⟩
  | 12 => ⟨S8x64x64x4x64, .f32⟩
  | 13 => ⟨S8x64x64x4x64, .f32⟩
  | 14 => ⟨S64, .i32⟩
  | 15 => ⟨S64, .i32⟩
  | 16 => ⟨S_, .i32⟩
  | 17 => ⟨S64, .i32⟩
  | 18 => ⟨S64, .i32⟩
  | 19 => ⟨S_, .i32⟩
  | 20 => ⟨S_, .i32⟩
  | 21 => ⟨S_, .i32⟩
  | 22 => ⟨S64, .i32⟩
  | 23 => ⟨S64, .i32⟩
  | 24 => ⟨S_, .i32⟩
  | 25 => ⟨S64, .i32⟩
  | 26 => ⟨S64, .i32⟩
  | 27 => ⟨S64x1, .i32⟩
  | 28 => ⟨S8, .i32⟩
  | 29 => ⟨S1x8, .i32⟩
  | 30 => ⟨S64x8, .i32⟩
  | 31 => ⟨S64x8, .i32⟩
  | 32 => ⟨S64x8, .i32⟩
  | 33 => ⟨S64x1, .i32⟩
  | 34 => ⟨S64x8, .i32⟩
  | 35 => ⟨S64x8, .i32⟩
  | 36 => ⟨S_, .i32⟩
  | 37 => ⟨S64, .i32⟩
  | 38 => ⟨S64, .i32⟩
  | 39 => ⟨S_, .i32⟩
  | 40 => ⟨S_, .i32⟩
  | 41 => ⟨S_, .i32⟩
  | 42 => ⟨S64, .i32⟩
  | 43 => ⟨S64, .i32⟩
  | 44 => ⟨S_, .i32⟩
  | 45 => ⟨S64, .i32⟩
  | 46 => ⟨S64, .i32⟩
  | 47 => ⟨S64x1, .i32⟩
  | 48 => ⟨S16, .i32⟩
  | 49 => ⟨S1x16, .i32⟩
  | 50 => ⟨S64x16, .i32⟩
  | 51 => ⟨S64x16, .i32⟩
  | 52 => ⟨S64x16, .i32⟩
  | 53 => ⟨S64x1, .i32⟩
  | 54 => ⟨S64x16, .i32⟩
  | 55 => ⟨S64x16, .i32⟩
  | 56 => ⟨S_, .i32⟩
  | 57 => ⟨S64x16, .i32⟩
  | 58 => ⟨S64x16, .i32⟩
  | 59 => ⟨S_, .i32⟩
  | 60 => ⟨S64x16, .i32⟩
  | 61 => ⟨S64x16, .i32⟩
  | 62 => ⟨S_, .i32⟩
  | 63 => ⟨S64x16, .i32⟩
  | 64 => ⟨S64x16, .i1⟩
  | 65 => ⟨S_, .i32⟩
  | 66 => ⟨S64x16, .i32⟩
  | 67 => ⟨S64x16, .i32⟩
  | 68 => ⟨S64x16, .i32⟩
  | 69 => ⟨S64x16x1, .i32⟩
  | 70 => ⟨S4x15x64x16, .f32⟩
  | 71 => ⟨S_, .i32⟩
  | 72 => ⟨S64x8, .i32⟩
  | 73 => ⟨S64x8, .i1⟩
  | 74 => ⟨S_, .i32⟩
  | 75 => ⟨S64x8, .i32⟩
  | 76 => ⟨S64x8, .i32⟩
  | 77 => ⟨S64x8, .i32⟩
  | 78 => ⟨S64x8x1, .i32⟩
  | 79 => ⟨S8x64x8x64x4x64, .f32⟩
  | 80 => ⟨S_, .i32⟩
  | 81 => ⟨S64x16, .i32⟩
  | 82 => ⟨S64x16, .i1⟩
  | 83 => ⟨S_, .i32⟩
  | 84 => ⟨S64x16, .i32⟩
  | 85 => ⟨S64x16, .i32⟩
  | 86 => ⟨S64x16, .i32⟩
  | 87 => ⟨S64x16x1, .i32⟩
  | 88 => ⟨S8x64x8x64x16x4x64, .f32⟩
  | 89 => ⟨S_, .i32⟩
  | 90 => ⟨S64x8, .i32⟩
  | 91 => ⟨S64x8, .i1⟩
  | 92 => ⟨S_, .i32⟩
  | 93 => ⟨S64x8, .i32⟩
  | 94 => ⟨S64x8, .i32⟩
  | 95 => ⟨S64x8, .i32⟩
  | 96 => ⟨S64x8x1, .i32⟩
  | 97 => ⟨S8x64x8x64x4x64, .f32⟩
  | 98 => ⟨S_, .i32⟩
  | 99 => ⟨S64x16, .i32⟩
  | 100 => ⟨S64x16, .i1⟩
  | 101 => ⟨S_, .i32⟩
  | 102 => ⟨S64x16, .i32⟩
  | 103 => ⟨S64x16, .i32⟩
  | 104 => ⟨S64x16, .i32⟩
  | 105 => ⟨S64x16x1, .i32⟩
  | 106 => ⟨S8x64x8x64x16x4x64, .f32⟩
  | 107 => ⟨S_, .i32⟩
  | 108 => ⟨S64x8, .i32⟩
  | 109 => ⟨S64x8, .i32⟩
  | 110 => ⟨S_, .i32⟩
  | 111 => ⟨S64x8, .i32⟩
  | 112 => ⟨S64x8, .i32⟩
  | 113 => ⟨S_, .i32⟩
  | 114 => ⟨S64x8, .i32⟩
  | 115 => ⟨S64x8, .i1⟩
  | 116 => ⟨S_, .i32⟩
  | 117 => ⟨S64x8, .i32⟩
  | 118 => ⟨S64x8, .i32⟩
  | 119 => ⟨S64x8, .i32⟩
  | 120 => ⟨S64x8x1, .i32⟩
  | 121 => ⟨S4x64x8x64x16, .f32⟩
  | 122 => ⟨S4x64x64x8x16, .f32⟩
  | 123 => ⟨S8x4x64x64x8x16, .f32⟩
  | 124 => ⟨S_, .f32⟩
  | 125 => ⟨S8x4x64x64x8x16, .f32⟩
  | 126 => ⟨S8x4x64x64x8x16, .f32⟩
  | 127 => ⟨S1x4x64x64x8x16, .f32⟩
  | _ => ⟨S8x4096x256, .f32⟩

abbrev hbmTy0_1 (i : Nat) : BufTy := match i % 128 with
  | 0 => ⟨S8x4x64x64x8x16, .f32⟩
  | 1 => ⟨S8x4x64x64x8x16, .f32⟩
  | 2 => ⟨S8x4x64x64x256, .f32⟩
  | 3 => ⟨S_, .f32⟩
  | 4 => ⟨S8x4x64x64x256, .f32⟩
  | 5 => ⟨S8x4x64x64x256, .f32⟩
  | 6 => ⟨S8x4x64x64x128, .f32⟩
  | 7 => ⟨S8x4x64x64x384, .f32⟩
  | 8 => ⟨S_, .f32⟩
  | 9 => ⟨S8x4x64x64, .f32⟩
  | 10 => ⟨S_, .f32⟩
  | 11 => ⟨S8x4x64x64, .f32⟩
  | 12 => ⟨S8x4x64x64, .f32⟩
  | 13 => ⟨S8x4x64x64x1, .f32⟩
  | 14 => ⟨S8x4x64x64x384, .f32⟩
  | 15 => ⟨S8x4x64x64x384, .f32⟩
  | 16 => ⟨S8x4x64x64x384, .f32⟩
  | 17 => ⟨S_, .f32⟩
  | 18 => ⟨S8x4x64x64, .f32⟩
  | 19 => ⟨S8x4x64x64x1, .f32⟩
  | 20 => ⟨S8x4x64x64x384, .f32⟩
  | 21 => ⟨S8x4x64x64x384, .f32⟩
  | 22 => ⟨S8x4x64x64x128, .f32⟩
  | 23 => ⟨S8x4x64x64x8x16, .f32⟩
  | 24 => ⟨S8x4x64x64x256, .f32⟩
  | 25 => ⟨S8x64x64x4x64, .f32⟩
  | 26 => ⟨S8x4x64x64x64, .f32⟩
  | 27 => ⟨S8x64x64x4x64, .f32⟩
  | 28 => ⟨S8x64x64x4x64, .f32⟩
  | 29 => ⟨S8x4096x256, .f32⟩
  | 30 => ⟨S8x4096x256, .bf16⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_c_18 : Ref sig .tc := ⟨.hbm, 110, rfl⟩
abbrev main_v75 : Ref sig .tc := ⟨.hbm, 111, rfl⟩
abbrev main_v76 : Ref sig .tc := ⟨.hbm, 112, rfl⟩
abbrev main_c_19 : Ref sig .tc := ⟨.hbm, 113, rfl⟩
abbrev main_v77 : Ref sig .tc := ⟨.hbm, 114, rfl⟩
abbrev main_v78 : Ref sig .tc := ⟨.hbm, 115, rfl⟩
abbrev main_c_20 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_21 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_22 : Ref sig .tc := ⟨.hbm, 136, rfl⟩
abbrev main_v96 : Ref sig .tc := ⟨.hbm, 137, rfl⟩
abbrev main_cst_23 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_24 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩

abbrev nD : Nat := 1
abbrev τ : Topo := Topo.v7x

variable {F : FTy → Type} [FloatOps F]
-- ==== KernelFfn.lean ====
abbrev S8x4096x1024 : Shape := ⟨3, ![8, 4096, 1024]⟩
abbrev S8x9216 : Shape := ⟨2, ![8, 9216]⟩
abbrev S2x1024x2816 : Shape := ⟨3, ![2, 1024, 2816]⟩
abbrev S2x2816x1024 : Shape := ⟨3, ![2, 2816, 1024]⟩
abbrev S8x9x1024 : Shape := ⟨3, ![8, 9, 1024]⟩
abbrev S1x512x1024 : Shape := ⟨3, ![1, 512, 1024]⟩
abbrev S1x9x1024 : Shape := ⟨3, ![1, 9, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S8x9x1024, .f32⟩
  | .hbm, ⟨6, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024x2816, .f32⟩
  | .local _ .vmem, ⟨5, _⟩ => ⟨S1x1024x2816, .f32⟩
  | .local _ .vmem, ⟨6, _⟩ => ⟨S1x2816x1024, .f32⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFfnIdeal.lean ====
abbrev S8x4096x1024 : Shape := ⟨3, ![8, 4096, 1024]⟩
abbrev S8x9216 : Shape := ⟨2, ![8, 9216]⟩
abbrev S2x1024x2816 : Shape := ⟨3, ![2, 1024, 2816]⟩
abbrev S2x2816x1024 : Shape := ⟨3, ![2, 2816, 1024]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1024x2816 : Shape := ⟨3, ![1, 1024, 2816]⟩
abbrev S1024x2816 : Shape := ⟨2, ![1024, 2816]⟩
abbrev S8x4096x2816 : Shape := ⟨3, ![8, 4096, 2816]⟩
abbrev S1x2816x1024 : Shape := ⟨3, ![1, 2816, 1024]⟩
abbrev S2816x1024 : Shape := ⟨2, ![2816, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S8x1x9216, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S1x1024x2816, .f32⟩
  | .hbm, ⟨39, _⟩ => ⟨S1024x2816, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S_, .f32⟩
  | .hbm, ⟨44, _⟩ => ⟨S8x4096x2816, .f32⟩
  | .hbm, ⟨45, _⟩ => ⟨S8x4096x2816, .f32⟩
  | .hbm, ⟨46, _⟩ => ⟨S_, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S1x1024x2816, .f32⟩
  | .hbm, ⟨51, _⟩ => ⟨S1024x2816, .f32⟩
  | .hbm, ⟨52, _⟩ => ⟨S8x4096x2816, .f32⟩
  | .hbm, ⟨53, _⟩ => ⟨S8x4096x2816, .f32⟩
  | .hbm, ⟨54, _⟩ => ⟨S1x2816x1024, .f32⟩
  | .hbm, ⟨55, _⟩ => ⟨S2816x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== KernelIn.lean ====
abbrev S8x4096x1024 : Shape := ⟨3, ![8, 4096, 1024]⟩
abbrev S8x9216 : Shape := ⟨2, ![8, 9216]⟩
abbrev S1024x2816 : Shape := ⟨2, ![1024, 2816]⟩
abbrev S2816x1024 : Shape := ⟨2, ![2816, 1024]⟩
abbrev S1024x2336 : Shape := ⟨2, ![1024, 2336]⟩
abbrev S64 : Shape := ⟨1, ![64]⟩
abbrev S16x128 : Shape := ⟨2, ![16, 128]⟩
abbrev S128 : Shape := ⟨1, ![128]⟩
abbrev S4 : Shape := ⟨1, ![4]⟩
abbrev S8x9x1024 : Shape := ⟨3, ![8, 9, 1024]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S128x1 : Shape := ⟨2, ![128, 1]⟩
abbrev S1x128 : Shape := ⟨2, ![1, 128]⟩
abbrev S128x128 : Shape := ⟨2, ![128, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x128 : Shape := ⟨2, ![4096, 128]⟩
abbrev S1024x256 : Shape := ⟨2, ![1024, 256]⟩
abbrev S1024x4x64 : Shape := ⟨3, ![1024, 4, 64]⟩
abbrev S4x1 : Shape := ⟨2, ![4, 1]⟩
abbrev S1024x1792 : Shape := ⟨2, ![1024, 1792]⟩
abbrev S1024x32 : Shape := ⟨2, ![1024, 32]⟩
abbrev S1024x96 : Shape := ⟨2, ![1024, 96]⟩
abbrev S1024x2432 : Shape := ⟨2, ![1024, 2432]⟩
abbrev S128x256 : Shape := ⟨2, ![128, 256]⟩
abbrev S1 : Shape := ⟨1, ![1]⟩
abbrev S2 : Shape := ⟨1, ![2]⟩
abbrev S1x64 : Shape := ⟨2, ![1, 64]⟩
abbrev S4x64 : Shape := ⟨2, ![4, 64]⟩
abbrev S2x2048x2048 : Shape := ⟨3, ![2, 2048, 2048]⟩
abbrev S8x4096x256 : Shape := ⟨3, ![8, 4096, 256]⟩
abbrev S8x4096x512 : Shape := ⟨3, ![8, 4096, 512]⟩
abbrev S8x4096x128 : Shape := ⟨3, ![8, 4096, 128]⟩
abbrev S1x512x1024 : Shape := ⟨3, ![1, 512, 1024]⟩
abbrev S1x9x1024 : Shape := ⟨3, ![1, 9, 1024]⟩
abbrev S512x128 : Shape := ⟨2, ![512, 128]⟩
abbrev S2x256x256 : Shape := ⟨3, ![2, 256, 256]⟩
abbrev S1x512x256 : Shape := ⟨3, ![1, 512, 256]⟩
abbrev S1x512x512 : Shape := ⟨3, ![1, 512, 512]⟩
abbrev S1x512x128 : Shape := ⟨3, ![1, 512, 128]⟩
abbrev S4x512x128 : Shape := ⟨3, ![4, 512, 128]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x256 : Shape := ⟨2, ![512, 256]⟩
abbrev S256x1024 : Shape := ⟨2, ![256, 1024]⟩
abbrev S512x2432 : Shape := ⟨2, ![512, 2432]⟩
abbrev S1x256x128 : Shape := ⟨3, ![1, 256, 128]⟩
abbrev S256x128 : Shape := ⟨2, ![256, 128]⟩

abbrev nBuf : Space → Nat
  | .hbm => 372
  | .vmem => 47
  | .smem => 0
  | _ => 0

abbrev hbmTy0_0 (i : Nat) : BufTy := match i % 128 with
  | 0 => ⟨S8x4096x1024, .f32⟩
  | 1 => ⟨S8x9216, .f32⟩
  | 2 => ⟨S1024x2816, .f32⟩
  | 3 => ⟨S1024x2816, .f32⟩
  | 4 => ⟨S2816x1024, .f32⟩
  | 5 => ⟨S1024x2336, .f32⟩
  | 6 => ⟨S64, .f32⟩
  | 7 => ⟨S64, .f32⟩
  | 8 => ⟨S64, .f32⟩
  | 9 => ⟨S64, .f32⟩
  | 10 => ⟨S16x128, .f32⟩
  | 11 => ⟨S128, .f32⟩
  | 12 => ⟨S16x128, .f32⟩
  | 13 => ⟨S128, .f32⟩
  | 14 => ⟨S4, .i32⟩
  | 15 => ⟨S8x9x1024, .f32⟩
  | 16 => ⟨S256, .i32⟩
  | 17 => ⟨S256x1, .i32⟩
  | 18 => ⟨S_, .i32⟩
  | 19 => ⟨S_, .i32⟩
  | 20 => ⟨S256x1, .i32⟩
  | 21 => ⟨S256x1, .i32⟩
  | 22 => ⟨S256x1, .i32⟩
  | 23 => ⟨S_, .i32⟩
  | 24 => ⟨S256x1, .i32⟩
  | 25 => ⟨S256x1, .i1⟩
  | 26 => ⟨S256x1, .i32⟩
  | 27 => ⟨S256x1, .i32⟩
  | 28 => ⟨S_, .i32⟩
  | 29 => ⟨S256x1, .i32⟩
  | 30 => ⟨S256x1, .i1⟩
  | 31 => ⟨S256x1, .i1⟩
  | 32 => ⟨S_, .i32⟩
  | 33 => ⟨S256x1, .i32⟩
  | 34 => ⟨S256x1, .i32⟩
  | 35 => ⟨S256x1, .i32⟩
  | 36 => ⟨S1x256, .i32⟩
  | 37 => ⟨S_, .i32⟩
  | 38 => ⟨S_, .i32⟩
  | 39 => ⟨S1x256, .i32⟩
  | 40 => ⟨S1x256, .i32⟩
  | 41 => ⟨S1x256, .i32⟩
  | 42 => ⟨S_, .i32⟩
  | 43 => ⟨S1x256, .i32⟩
  | 44 => ⟨S1x256, .i1⟩
  | 45 => ⟨S1x256, .i32⟩
  | 46 => ⟨S1x256, .i32⟩
  | 47 => ⟨S_, .i32⟩
  | 48 => ⟨S1x256, .i32⟩
  | 49 => ⟨S1x256, .i1⟩
  | 50 => ⟨S1x256, .i1⟩
  | 51 => ⟨S_, .i32⟩
  | 52 => ⟨S1x256, .i32⟩
  | 53 => ⟨S1x256, .i32⟩
  | 54 => ⟨S1x256, .i32⟩
  | 55 => ⟨S256x256, .i32⟩
  | 56 => ⟨S256x256, .i32⟩
  | 57 => ⟨S256x256, .i1⟩
  | 58 => ⟨S256x256, .bf16⟩
  | 59 => ⟨S128, .i32⟩
  | 60 => ⟨S128x1, .i32⟩
  | 61 => ⟨S_, .i32⟩
  | 62 => ⟨S_, .i32⟩
  | 63 => ⟨S128x1, .i32⟩
  | 64 => ⟨S128x1, .i32⟩
  | 65 => ⟨S128x1, .i32⟩
  | 66 => ⟨S_, .i32⟩
  | 67 => ⟨S128x1, .i32⟩
  | 68 => ⟨S128x1, .i1⟩
  | 69 => ⟨S128x1, .i32⟩
  | 70 => ⟨S128x1, .i32⟩
  | 71 => ⟨S_, .i32⟩
  | 72 => ⟨S128x1, .i32⟩
  | 73 => ⟨S128x1, .i1⟩
  | 74 => ⟨S128x1, .i1⟩
  | 75 => ⟨S_, .i32⟩
  | 76 => ⟨S128x1, .i32⟩
  | 77 => ⟨S128x1, .i32⟩
  | 78 => ⟨S128x1, .i32⟩
  | 79 => ⟨S1x128, .i32⟩
  | 80 => ⟨S_, .i32⟩
  | 81 => ⟨S_, .i32⟩
  | 82 => ⟨S1x128, .i32⟩
  | 83 => ⟨S1x128, .i32⟩
  | 84 => ⟨S1x128, .i32⟩
  | 85 => ⟨S_, .i32⟩
  | 86 => ⟨S1x128, .i32⟩
  | 87 => ⟨S1x128, .i1⟩
  | 88 => ⟨S1x128, .i32⟩
  | 89 => ⟨S1x128, .i32⟩
  | 90 => ⟨S_, .i32⟩
  | 91 => ⟨S1x128, .i32⟩
  | 92 => ⟨S1x128, .i1⟩
  | 93 => ⟨S1x128, .i1⟩
  | 94 => ⟨S_, .i32⟩
  | 95 => ⟨S1x128, .i32⟩
  | 96 => ⟨S1x128, .i32⟩
  | 97 => ⟨S1x128, .i32⟩
  | 98 => ⟨S128x128, .i32⟩
  | 99 => ⟨S128x128, .i32⟩
  | 100 => ⟨S128x128, .i1⟩
  | 101 => ⟨S128x128, .bf16⟩
  | 102 => ⟨S256, .i32⟩
  | 103 => ⟨S256x1, .i32⟩
  | 104 => ⟨S_, .i32⟩
  | 105 => ⟨S_, .i32⟩
  | 106 => ⟨S256x1, .i32⟩
  | 107 => ⟨S256x1, .i32⟩
  | 108 => ⟨S256x1, .i32⟩
  | 109 => ⟨S_, .i32⟩
  | 110 => ⟨S256x1, .i32⟩
  | 111 => ⟨S256x1, .i1⟩
  | 112 => ⟨S256x1, .i32⟩
  | 113 => ⟨S256x1, .i32⟩
  | 114 => ⟨S_, .i32⟩
  | 115 => ⟨S256x1, .i32⟩
  | 116 => ⟨S256x1, .i1⟩
  | 117 => ⟨S256x1, .i1⟩
  | 118 => ⟨S_, .i32⟩
  | 119 => ⟨S256x1, .i32⟩
  | 120 => ⟨S256x1, .i32⟩
  | 121 => ⟨S256x1, .i32⟩
  | 122 => ⟨S1x256, .i32⟩
  | 123 => ⟨S_, .i32⟩
  | 124 => ⟨S_, .i32⟩
  | 125 => ⟨S1x256, .i32⟩
  | 126 => ⟨S1x256, .i32⟩
  | 127 => ⟨S1x256, .i32⟩
  | _ => ⟨S8x4096x1024, .f32⟩

abbrev hbmTy0_1 (i : Nat) : BufTy := match i % 128 with
  | 0 => ⟨S_, .i32⟩
  | 1 => ⟨S1x256, .i32⟩
  | 2 => ⟨S1x256, .i1⟩
  | 3 => ⟨S1x256, .i32⟩
  | 4 => ⟨S1x256, .i32⟩
  | 5 => ⟨S_, .i32⟩
  | 6 => ⟨S1x256, .i32⟩
  | 7 => ⟨S1x256, .i1⟩
  | 8 => ⟨S1x256, .i1⟩
  | 9 => ⟨S_, .i32⟩
  | 10 => ⟨S1x256, .i32⟩
  | 11 => ⟨S1x256, .i32⟩
  | 12 => ⟨S1x256, .i32⟩
  | 13 => ⟨S256x256, .i32⟩
  | 14 => ⟨S256x256, .i32⟩
  | 15 => ⟨S256x256, .i1⟩
  | 16 => ⟨S256x1, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S256x1, .i32⟩
  | 24 => ⟨S256x1, .i32⟩
  | 25 => ⟨S_, .i32⟩
  | 26 => ⟨S256x1, .i32⟩
  | 27 => ⟨S256x1, .i1⟩
  | 28 => ⟨S_, .i32⟩
  | 29 => ⟨S256x1, .i32⟩
  | 30 => ⟨S256x1, .i1⟩
  | 31 => ⟨S_, .i32⟩
  | 32 => ⟨S_, .i1⟩
  | 33 => ⟨S256x1, .i1⟩
  | 34 => ⟨S256x1, .i1⟩
  | 35 => ⟨S256x1, .i1⟩
  | 36 => ⟨S256x1, .i32⟩
  | 37 => ⟨S256x1, .i32⟩
  | 38 => ⟨S256x1, .i32⟩
  | 39 => ⟨S1x256, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S1x256, .i32⟩
  | 47 => ⟨S1x256, .i32⟩
  | 48 => ⟨S_, .i32⟩
  | 49 => ⟨S1x256, .i32⟩
  | 50 => ⟨S1x256, .i1⟩
  | 51 => ⟨S_, .i32⟩
  | 52 => ⟨S1x256, .i32⟩
  | 53 => ⟨S1x256, .i1⟩
  | 54 => ⟨S_, .i32⟩
  | 55 => ⟨S_, .i1⟩
  | 56 => ⟨S1x256, .i1⟩
  | 57 => ⟨S1x256, .i1⟩
  | 58 => ⟨S1x256, .i1⟩
  | 59 => ⟨S1x256, .i32⟩
  | 60 => ⟨S1x256, .i32⟩
  | 61 => ⟨S1x256, .i32⟩
  | 62 => ⟨S256x256, .i32⟩
  | 63 => ⟨S256x256, .i32⟩
  | 64 => ⟨S256x256, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S256x256, .i32⟩
  | 72 => ⟨S256x256, .i32⟩
  | 73 => ⟨S_, .i32⟩
  | 74 => ⟨S256x256, .i32⟩
  | 75 => ⟨S256x256, .i1⟩
  | 76 => ⟨S_, .i32⟩
  | 77 => ⟨S256x256, .i32⟩
  | 78 => ⟨S256x256, .i1⟩
  | 79 => ⟨S_, .i32⟩
  | 80 => ⟨S_, .i1⟩
  | 81 => ⟨S256x256, .i1⟩
  | 82 => ⟨S256x256, .i1⟩
  | 83 => ⟨S256x256, .i1⟩
  | 84 => ⟨S256x256, .i32⟩
  | 85 => ⟨S256x256, .i32⟩
  | 86 => ⟨S256x256, .i32⟩
  | 87 => ⟨S256x256, .f32⟩
  | 88 => ⟨S_, .f32⟩
  | 89 => ⟨S256x256, .f32⟩
  | 90 => ⟨S256x256, .f32⟩
  | 91 => ⟨S256x256, .f32⟩
  | 92 => ⟨S_, .f32⟩
  | 93 => ⟨S256x256, .f32⟩
  | 94 => ⟨S256x256, .f32⟩
  | 95 => ⟨S_, .f32⟩
  | 96 => ⟨S_, .f32⟩
  | 97 => ⟨S256x256, .f32⟩
  | 98 => ⟨S256x256, .f32⟩
  | 99 => ⟨S256x256, .bf16⟩
  | 100 => ⟨S256x256, .f32⟩
  | 101 => ⟨S_, .f32⟩
  | 102 => ⟨S256x256, .f32⟩
  | 103 => ⟨S256x256, .f32⟩
  | 104 => ⟨S_, .f32⟩
  | 105 => ⟨S_, .f32⟩
  | 106 => ⟨S256x256, .f32⟩
  | 107 => ⟨S256x256, .f32⟩
  | 108 => ⟨S256x256, .bf16⟩
  | 109 => ⟨S4096, .i32⟩
  | 110 => ⟨S_, .i32⟩
  | 111 => ⟨S_, .i32⟩
  | 112 => ⟨S4096, .i32⟩
  | 113 => ⟨S4096, .i32⟩
  | 114 => ⟨S4096, .i32⟩
  | 115 => ⟨S_, .i32⟩
  | 116 => ⟨S4096, .i32⟩
  | 117 => ⟨S4096, .i1⟩
  | 118 => ⟨S4096, .i32⟩
  | 119 => ⟨S4096, .i32⟩
  | 120 => ⟨S_, .i32⟩
  | 121 => ⟨S4096, .i32⟩
  | 122 => ⟨S4096, .i1⟩
  | 123 => ⟨S4096, .i1⟩
  | 124 => ⟨S_, .i32⟩
  | 125 => ⟨S4096, .i32⟩
  | 126 => ⟨S4096, .i32⟩
  | 127 => ⟨S4096, .i32⟩
  | _ => ⟨S8x4096x1024, .f32⟩

abbrev hbmTy0_2 (i : Nat) : BufTy := match i % 128 with
  | 0 => ⟨S4096, .f32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i1⟩
  | 12 => ⟨S_, .i32⟩
  | 13 => ⟨S4096, .i32⟩
  | 14 => ⟨S4096, .i1⟩
  | 15 => ⟨S_, .i32⟩
  | 16 => ⟨S_, .i1⟩
  | 17 => ⟨S4096, .i1⟩
  | 18 => ⟨S4096, .i1⟩
  | 19 => ⟨S4096, .i1⟩
  | 20 => ⟨S4096, .i32⟩
  | 21 => ⟨S4096, .i32⟩
  | 22 => ⟨S4096, .i32⟩
  | 23 => ⟨S4096, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S4096x1, .f32⟩
  | 33 => ⟨S1x16, .f32⟩
  | 34 => ⟨S4096x16, .f32⟩
  | 35 => ⟨S4096x16, .f32⟩
  | 36 => ⟨S4096x16, .f32⟩
  | 37 => ⟨S4096x1, .f32⟩
  | 38 => ⟨S1x16, .f32⟩
  | 39 => ⟨S4096x16, .f32⟩
  | 40 => ⟨S4096x16, .f32⟩
  | 41 => ⟨S4096x16, .f32⟩
  | 42 => ⟨S4096x32, .f32⟩
  | 43 => ⟨S4096x32, .f32⟩
  | 44 => ⟨S4096x32, .f32⟩
  | 45 => ⟨S4096x128, .f32⟩
  | 46 => ⟨S4096x32, .f32⟩
  | 47 => ⟨S4096x32, .f32⟩
  | 48 => ⟨S4096x128, .f32⟩
  | 49 => ⟨S1024x256, .f32⟩
  | 50 => ⟨S1024x4x64, .f32⟩
  | 51 => ⟨S_, .i32⟩
  | 52 => ⟨S4, .i32⟩
  | 53 => ⟨S4, .i1⟩
  | 54 => ⟨S_, .i32⟩
  | 55 => ⟨S4, .i32⟩
  | 56 => ⟨S4, .i32⟩
  | 57 => ⟨S4, .i32⟩
  | 58 => ⟨S4x1, .i32⟩
  | 59 => ⟨S1024x4x64, .f32⟩
  | 60 => ⟨S1024x256, .f32⟩
  | 61 => ⟨S1024x1792, .f32⟩
  | 62 => ⟨S1024x256, .f32⟩
  | 63 => ⟨S1024x32, .f32⟩
  | 64 => ⟨S_, .f32⟩
  | 65 => ⟨S1024x96, .f32⟩
  | 66 => ⟨S1024x2432, .f32⟩
  | 67 => ⟨S1024x2432, .bf16⟩
  | 68 => ⟨S_, .f32⟩
  | 69 => ⟨S128x256, .f32⟩
  | 70 => ⟨S_, .i32⟩
  | 71 => ⟨S1, .i32⟩
  | 72 => ⟨S_, .i32⟩
  | 73 => ⟨S1, .i32⟩
  | 74 => ⟨S2, .i32⟩
  | 75 => ⟨S128x256, .f32⟩
  | 76 => ⟨S_, .i32⟩
  | 77 => ⟨S1, .i32⟩
  | 78 => ⟨S_, .i32⟩
  | 79 => ⟨S1, .i32⟩
  | 80 => ⟨S2, .i32⟩
  | 81 => ⟨S128x256, .f32⟩
  | 82 => ⟨S128x256, .bf16⟩
  | 83 => ⟨S256, .f32⟩
  | 84 => ⟨S1x256, .f32⟩
  | 85 => ⟨S1x64, .f32⟩
  | 86 => ⟨S4x64, .f32⟩
  | 87 => ⟨S256, .f32⟩
  | 88 => ⟨S1x256, .f32⟩
  | 89 => ⟨S1x64, .f32⟩
  | 90 => ⟨S4x64, .f32⟩
  | 91 => ⟨S256, .f32⟩
  | 92 => ⟨S1x256, .f32⟩
  | 93 => ⟨S1x64, .f32⟩
  | 94 => ⟨S4x64, .f32⟩
  | 95 => ⟨S256, .f32⟩
  | 96 => ⟨S1x256, .f32⟩
  | 97 => ⟨S1x64, .f32⟩
  | 98 => ⟨S4x64, .f32⟩
  | 99 => ⟨S256, .f32⟩
  | 100 => ⟨S1x256, .f32⟩
  | 101 => ⟨S1024x2816, .bf16⟩
  | 102 => ⟨S1024x2816, .bf16⟩
  | 103 => ⟨S2816x1024, .bf16⟩
  | 104 => ⟨S8x4096x1024, .f32⟩
  | 105 => ⟨S2x2048x2048, .bf16⟩
  | 106 => ⟨S2x2048x2048, .bf16⟩
  | 107 => ⟨S8x4096x256, .bf16⟩
  | 108 => ⟨S8x4096x256, .bf16⟩
  | 109 => ⟨S8x4096x256, .bf16⟩
  | 110 => ⟨S8x4096x512, .f32⟩
  | 111 => ⟨S8x4096x256, .bf16⟩
  | 112 => ⟨S8x4096x256, .bf16⟩
  | 113 => ⟨S8x4096x256, .bf16⟩
  | 114 => ⟨S8x4096x128, .bf16⟩
  | 115 => ⟨S8x4096x128, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1024x2432, .bf16⟩
  | .local _ .vmem, ⟨8, _⟩ => ⟨S256x256, .bf16⟩
  | .local _ .vmem, ⟨9, _⟩ => ⟨S128x128, .bf16⟩
  | .local _ .vmem, ⟨10, _⟩ => ⟨S256x256, .bf16⟩
  | .local _ .vmem, ⟨11, _⟩ => ⟨S256x256, .bf16⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S128x256, .bf16⟩
  | .local _ .vmem, ⟨17, _⟩ => ⟨S1x256, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x512x1024, .f32⟩
  | .local _ .vmem, ⟨23, _⟩ => ⟨S1x512x1024, .f32⟩
  | .local _ .vmem, ⟨24, _⟩ => ⟨S2x256x256, .bf16⟩
  | .local _ .vmem, ⟨25, _⟩ => ⟨S2x256x256, .bf16⟩
  | .local _ .vmem, ⟨26, _⟩ => ⟨S2x256x256, .bf16⟩
  | .local _ .vmem, ⟨27, _⟩ => ⟨S2x256x256, .bf16⟩
  | .local _ .vmem, ⟨28, _⟩ => ⟨S1x512x256, .bf16⟩
  | .local _ .vmem, ⟨29, _⟩ => ⟨S1x512x256, .bf16⟩
  | .local _ .vmem, ⟨30, _⟩ => ⟨S1x512x256, .bf16⟩
  | .local _ .vmem, ⟨31, _⟩ => ⟨S1x512x256, .bf16⟩
  | .local _ .vmem, ⟨32, _⟩ => ⟨S1x512x256, .bf16⟩
  | .local _ .vmem, ⟨33, _⟩ => ⟨S1x512x256, .bf16⟩
  | .local _ .vmem, ⟨34, _⟩ => ⟨S1x512x512, .f32⟩
  | .local _ .vmem, ⟨35, _⟩ => ⟨S1x512x512, .f32⟩
  | .local _ .vmem, ⟨36, _⟩ => ⟨S1x512x256, .bf16⟩
  | .local _ .vmem, ⟨37, _⟩ => ⟨S1x512x256, .bf16⟩
  | .local _ .vmem, ⟨38, _⟩ => ⟨S1x512x256, .bf16⟩
  | .local _ .vmem, ⟨39, _⟩ => ⟨S1x512x256, .bf16⟩
  | .local _ .vmem, ⟨40, _⟩ => ⟨S1x512x256, .bf16⟩
  | .local _ .vmem, ⟨41, _⟩ => ⟨S1x512x256, .bf16⟩
  | .local _ .vmem, ⟨42, _⟩ => ⟨S1x512x128, .bf16⟩
  | .local _ .vmem, ⟨43, _⟩ => ⟨S1x512x128, .bf16⟩
  | .local _ .vmem, ⟨44, _⟩ => ⟨S1x512x128, .bf16⟩
  | .local _ .vmem, ⟨45, _⟩ => ⟨S1x512x128, .bf16⟩
  | .local _ .vmem, ⟨46, _⟩ => ⟨S4x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v3 : Ref sig .tc := ⟨.hbm, 35, rfl⟩
abbrev main_v4 : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_c_2 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v12 : Ref sig .tc := ⟨.hbm, 78, rfl⟩
abbrev main_v13 : Ref sig .tc := ⟨.hbm, 79, rfl⟩
abbrev main_c_3 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_c : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_0 : Ref sig .tc := ⟨.hbm, 94, rfl⟩
abbrev main_call3_v12 : Ref sig .tc := ⟨.hbm, 95, rfl⟩
abbrev main_call3_v13 : Ref sig .tc := ⟨.hbm, 96, rfl⟩
abbrev main_v14 : Ref sig .tc := ⟨.hbm, 97, rfl⟩
abbrev main_v15 : Ref sig .tc := ⟨.hbm, 98, rfl⟩
abbrev main_v16 : Ref sig .tc := ⟨.hbm, 99, rfl⟩
abbrev main_v17 : Ref sig .tc := ⟨.hbm, 100, rfl⟩
abbrev main_v18 : Ref sig .tc := ⟨.hbm, 101, rfl⟩
abbrev main_v19 : Ref sig .tc := ⟨.hbm, 102, rfl⟩
abbrev main_v20 : Ref sig .tc := ⟨.hbm, 103, rfl⟩
abbrev main_c_4 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_c : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_0 : Ref sig .tc := ⟨.hbm, 118, rfl⟩
abbrev main_call4_v12 : Ref sig .tc := ⟨.hbm, 119, rfl⟩
abbrev main_call4_v13 : Ref sig .tc := ⟨.hbm, 120, rfl⟩
abbrev main_v21 : Ref sig .tc := ⟨.hbm, 121, rfl⟩
abbrev main_v22 : Ref sig .tc := ⟨.hbm, 122, rfl⟩
abbrev main_c_5 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_v5 : Ref sig .tc := ⟨.hbm, 129, rfl⟩
abbrev main_call5_v6 : Ref sig .tc := ⟨.hbm, 130, rfl⟩
abbrev main_call5_v7 : Ref sig .tc := ⟨.hbm, 131, rfl⟩
abbrev main_call5_v8 : Ref sig .tc := ⟨.hbm, 132, rfl⟩
abbrev main_call5_c : Ref sig .tc := ⟨.hbm, 133, rfl⟩
abbrev main_call5_v9 : Ref sig .tc := ⟨.hbm, 134, rfl⟩
abbrev main_call5_v10 : Ref sig .tc := ⟨.hbm, 135, rfl⟩
abbrev main_call5_v11 : Ref sig .tc := ⟨.hbm, 136, rfl⟩
abbrev main_call5_c_0 : Ref sig .tc := ⟨.hbm, 137, rfl⟩
abbrev main_call5_v12 : Ref sig .tc := ⟨.hbm, 138, rfl⟩
abbrev main_call5_v13 : Ref sig .tc := ⟨.hbm, 139, rfl⟩
abbrev main_v23 : Ref sig .tc := ⟨.hbm, 140, rfl⟩
abbrev main_v24 : Ref sig .tc := ⟨.hbm, 141, rfl⟩
abbrev main_v25 : Ref sig .tc := ⟨.hbm, 142, rfl⟩
abbrev main_v26 : Ref sig .tc := ⟨.hbm, 143, rfl⟩
abbrev main_v27 : Ref sig .tc := ⟨.hbm, 144, rfl⟩
abbrev main_c_6 : Ref sig .tc := ⟨.hbm, 145, rfl⟩
abbrev main_call6_v0 : Ref sig .tc := ⟨.hbm, 146, rfl⟩
abbrev main_call6_c : Ref sig .tc := ⟨.hbm, 147, rfl⟩
abbrev main_call6_v1 : Ref sig .tc := ⟨.hbm, 148, rfl⟩
abbrev main_call6_c_0 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_call6_c_1 : Ref sig .tc := ⟨.hbm, 153, rfl⟩
abbrev main_call6_v5 : Ref sig .tc := ⟨.hbm, 154, rfl⟩
abbrev main_call6_v6 : Ref sig .tc := ⟨.hbm, 155, rfl⟩
abbrev main_call6_c_2 : Ref sig .tc := ⟨.hbm, 156, rfl⟩
abbrev main_call6_v7 : Ref sig .tc := ⟨.hbm, 157, rfl⟩
abbrev main_call6_v8 : Ref sig .tc := ⟨.hbm, 158, rfl⟩
abbrev main_call6_c_3 : Ref sig .tc := ⟨.hbm, 159, rfl⟩
abbrev main_call6_v9 : Ref sig .tc := ⟨.hbm, 160, rfl⟩
abbrev main_call6_v10 : Ref sig .tc := ⟨.hbm, 161, rfl⟩
abbrev main_call6_v11 : Ref sig .tc := ⟨.hbm, 162, rfl⟩
abbrev main_call6_v12 : Ref sig .tc := ⟨.hbm, 163, rfl⟩
abbrev main_call6_v13 : Ref sig .tc := ⟨.hbm, 164, rfl⟩
abbrev main_call6_v14 : Ref sig .tc := ⟨.hbm, 165, rfl⟩
abbrev main_v28 : Ref sig .tc := ⟨.hbm, 166, rfl⟩
abbrev main_v29 : Ref sig .tc := ⟨.hbm, 167, rfl⟩
abbrev main_c_7 : Ref sig .tc := ⟨.hbm, 168, rfl⟩
abbrev main_call7_v0 : Ref sig .tc := ⟨.hbm, 169, rfl⟩
abbrev main_call7_c : Ref sig .tc := ⟨.hbm, 170, rfl⟩
abbrev main_call7_v1 : Ref sig .tc := ⟨.hbm, 171, rfl⟩
abbrev main_call7_c_0 : Ref sig .tc := ⟨.hbm, 172, rfl⟩
abbrev main_call7_v2 : Ref sig .tc := ⟨.hbm, 173, rfl⟩
abbrev main_call7_v3 : Ref sig .tc := ⟨.hbm, 174, rfl⟩
abbrev main_call7_v4 : Ref sig .tc := ⟨.hbm, 175, rfl⟩
abbrev main_call7_c_1 : Ref sig .tc := ⟨.hbm, 176, rfl⟩
abbrev main_call7_v5 : Ref sig .tc := ⟨.hbm, 177, rfl⟩
abbrev main_call7_v6 : Ref sig .tc := ⟨.hbm, 178, rfl⟩
abbrev main_call7_c_2 : Ref sig .tc := ⟨.hbm, 179, rfl⟩
abbrev main_call7_v7 : Ref sig .tc := ⟨.hbm, 180, rfl⟩
abbrev main_call7_v8 : Ref sig .tc := ⟨.hbm, 181, rfl⟩
abbrev main_call7_c_3 : Ref sig .tc := ⟨.hbm, 182, rfl⟩
abbrev main_call7_v9 : Ref sig .tc := ⟨.hbm, 183, rfl⟩
abbrev main_call7_v10 : Ref sig .tc := ⟨.hbm, 184, rfl⟩
abbrev main_call7_v11 : Ref sig .tc := ⟨.hbm, 185, rfl⟩
abbrev main_call7_v12 : Ref sig .tc := ⟨.hbm, 186, rfl⟩
abbrev main_call7_v13 : Ref sig .tc := ⟨.hbm, 187, rfl⟩
abbrev main_call7_v14 : Ref sig .tc := ⟨.hbm, 188, rfl⟩
abbrev main_v30 : Ref sig .tc := ⟨.hbm, 189, rfl⟩
abbrev main_v31 : Ref sig .tc := ⟨.hbm, 190, rfl⟩
abbrev main_v32 : Ref sig .tc := ⟨.hbm, 191, rfl⟩
abbrev main_v33 : Ref sig .tc := ⟨.hbm, 192, rfl⟩
abbrev main_c_8 : Ref sig .tc := ⟨.hbm, 193, rfl⟩
abbrev main_call8_v0 : Ref sig .tc := ⟨.hbm, 194, rfl⟩
abbrev main_call8_c : Ref sig .tc := ⟨.hbm, 195, rfl⟩
abbrev main_call8_v1 : Ref sig .tc := ⟨.hbm, 196, rfl⟩
abbrev main_call8_c_0 : Ref sig .tc := ⟨.hbm, 197, rfl⟩
abbrev main_call8_v2 : Ref sig .tc := ⟨.hbm, 198, rfl⟩
abbrev main_call8_v3 : Ref sig .tc := ⟨.hbm, 199, rfl⟩
abbrev main_call8_v4 : Ref sig .tc := ⟨.hbm, 200, rfl⟩
abbrev main_call8_c_1 : Ref sig .tc := ⟨.hbm, 201, rfl⟩
abbrev main_call8_v5 : Ref sig .tc := ⟨.hbm, 202, rfl⟩
abbrev main_call8_v6 : Ref sig .tc := ⟨.hbm, 203, rfl⟩
abbrev main_call8_c_2 : Ref sig .tc := ⟨.hbm, 204, rfl⟩
abbrev main_call8_v7 : Ref sig .tc := ⟨.hbm, 205, rfl⟩
abbrev main_call8_v8 : Ref sig .tc := ⟨.hbm, 206, rfl⟩
abbrev main_call8_c_3 : Ref sig .tc := ⟨.hbm, 207, rfl⟩
abbrev main_call8_v9 : Ref sig .tc := ⟨.hbm, 208, rfl⟩
abbrev main_call8_v10 : Ref sig .tc := ⟨.hbm, 209, rfl⟩
abbrev main_call8_v11 : Ref sig .tc := ⟨.hbm, 210, rfl⟩
abbrev main_call8_v12 : Ref sig .tc := ⟨.hbm, 211, rfl⟩
abbrev main_call8_v13 : Ref sig .tc := ⟨.hbm, 212, rfl⟩
abbrev main_call8_v14 : Ref sig .tc := ⟨.hbm, 213, rfl⟩
abbrev main_v34 : Ref sig .tc := ⟨.hbm, 214, rfl⟩
abbrev main_v35 : Ref sig .tc := ⟨.hbm, 215, rfl⟩
abbrev main_cst : Ref sig .tc := ⟨.hbm, 216, rfl⟩
abbrev main_v36 : Ref sig .tc := ⟨.hbm, 217, rfl⟩
abbrev main_v37 : Ref sig .tc := ⟨.hbm, 218, rfl⟩
abbrev main_v38 : Ref sig .tc := ⟨.hbm, 219, rfl⟩
abbrev main_cst_9 : Ref sig .tc := ⟨.hbm, 220, rfl⟩
abbrev main_v39 : Ref sig .tc := ⟨.hbm, 221, rfl⟩
abbrev main_v40 : Ref sig .tc := ⟨.hbm, 222, rfl⟩
abbrev main_cst_10 : Ref sig .tc := ⟨.hbm, 223, rfl⟩
abbrev main_call9_v0 : Ref sig .tc := ⟨.hbm, 224, rfl⟩
abbrev main_call9_v1 : Ref sig .tc := ⟨.hbm, 225, rfl⟩
abbrev main_v41 : Ref sig .tc := ⟨.hbm, 226, rfl⟩
abbrev main_v42 : Ref sig .tc := ⟨.hbm, 227, rfl⟩
abbrev main_v43 : Ref sig .tc := ⟨.hbm, 228, rfl⟩
abbrev main_cst_11 : Ref sig .tc := ⟨.hbm, 229, rfl⟩
abbrev main_v44 : Ref sig .tc := ⟨.hbm, 230, rfl⟩
abbrev main_v45 : Ref sig .tc := ⟨.hbm, 231, rfl⟩
abbrev main_cst_12 : Ref sig .tc := ⟨.hbm, 232, rfl⟩
abbrev main_call10_v0 : Ref sig .tc := ⟨.hbm, 233, rfl⟩
abbrev main_call10_v1 : Ref sig .tc := ⟨.hbm, 234, rfl⟩
abbrev main_v46 : Ref sig .tc := ⟨.hbm, 235, rfl⟩
abbrev main_v47 : Ref sig .tc := ⟨.hbm, 236, rfl⟩
abbrev main_v48 : Ref sig .tc := ⟨.hbm, 237, rfl⟩
abbrev main_c_13 : Ref sig .tc := ⟨.hbm, 238, rfl⟩
abbrev main_call11_v0 : Ref sig .tc := ⟨.hbm, 239, rfl⟩
abbrev main_call11_v1 : Ref sig .tc := ⟨.hbm, 240, rfl⟩
abbrev main_call11_v2 : Ref sig .tc := ⟨.hbm, 241, rfl⟩
abbrev main_call11_v3 : Ref sig .tc := ⟨.hbm, 242, rfl⟩
abbrev main_call11_v4 : Ref sig .tc := ⟨.hbm, 243, rfl⟩
abbrev main_call11_v5 : Ref sig .tc := ⟨.hbm, 244, rfl⟩
abbrev main_call11_v6 : Ref sig .tc := ⟨.hbm, 245, rfl⟩
abbrev main_call11_v7 : Ref sig .tc := ⟨.hbm, 246, rfl⟩
abbrev main_call11_v8 : Ref sig .tc := ⟨.hbm, 247, rfl⟩
abbrev main_call11_c : Ref sig .tc := ⟨.hbm, 248, rfl⟩
abbrev main_call11_v9 : Ref sig .tc := ⟨.hbm, 249, rfl⟩
abbrev main_call11_v10 : Ref sig .tc := ⟨.hbm, 250, rfl⟩
abbrev main_call11_v11 : Ref sig .tc := ⟨.hbm, 251, rfl⟩
abbrev main_call11_c_0 : Ref sig .tc := ⟨.hbm, 252, rfl⟩
abbrev main_call11_v12 : Ref sig .tc := ⟨.hbm, 253, rfl⟩
abbrev main_call11_v13 : Ref sig .tc := ⟨.hbm, 254, rfl⟩
abbrev main_v49 : Ref sig .tc := ⟨.hbm, 255, rfl⟩
abbrev main_v50 : Ref sig .tc := ⟨.hbm, 256, rfl⟩
abbrev main_c_14 : Ref sig .tc := ⟨.hbm, 257, rfl⟩
abbrev main_call12_v0 : Ref sig .tc := ⟨.hbm, 258, rfl⟩
abbrev main_call12_c : Ref sig .tc := ⟨.hbm, 259, rfl⟩
abbrev main_call12_v1 : Ref sig .tc := ⟨.hbm, 260, rfl⟩
abbrev main_call12_c_0 : Ref sig .tc := ⟨.hbm, 261, rfl⟩
abbrev main_call12_v2 : Ref sig .tc := ⟨.hbm, 262, rfl⟩
abbrev main_call12_v3 : Ref sig .tc := ⟨.hbm, 263, rfl⟩
abbrev main_call12_v4 : Ref sig .tc := ⟨.hbm, 264, rfl⟩
abbrev main_call12_c_1 : Ref sig .tc := ⟨.hbm, 265, rfl⟩
abbrev main_call12_v5 : Ref sig .tc := ⟨.hbm, 266, rfl⟩
abbrev main_call12_v6 : Ref sig .tc := ⟨.hbm, 267, rfl⟩
abbrev main_call12_c_2 : Ref sig .tc := ⟨.hbm, 268, rfl⟩
abbrev main_call12_v7 : Ref sig .tc := ⟨.hbm, 269, rfl⟩
abbrev main_call12_v8 : Ref sig .tc := ⟨.hbm, 270, rfl⟩
abbrev main_call12_c_3 : Ref sig .tc := ⟨.hbm, 271, rfl⟩
abbrev main_call12_v9 : Ref sig .tc := ⟨.hbm, 272, rfl⟩
abbrev main_call12_v10 : Ref sig .tc := ⟨.hbm, 273, rfl⟩
abbrev main_call12_v11 : Ref sig .tc := ⟨.hbm, 274, rfl⟩
abbrev main_call12_v12 : Ref sig .tc := ⟨.hbm, 275, rfl⟩
abbrev main_call12_v13 : Ref sig .tc := ⟨.hbm, 276, rfl⟩
abbrev main_call12_v14 : Ref sig .tc := ⟨.hbm, 277, rfl⟩
abbrev main_v51 : Ref sig .tc := ⟨.hbm, 278, rfl⟩
abbrev main_v52 : Ref sig .tc := ⟨.hbm, 279, rfl⟩
abbrev main_v53 : Ref sig .tc := ⟨.hbm, 280, rfl⟩
abbrev main_v54 : Ref sig .tc := ⟨.hbm, 281, rfl⟩
abbrev main_cst_15 : Ref sig .tc := ⟨.hbm, 282, rfl⟩
abbrev main_v55 : Ref sig .tc := ⟨.hbm, 283, rfl⟩
abbrev main_v56 : Ref sig .tc := ⟨.hbm, 284, rfl⟩
abbrev main_cst_16 : Ref sig .tc := ⟨.hbm, 285, rfl⟩
abbrev main_v57 : Ref sig .tc := ⟨.hbm, 286, rfl⟩
abbrev main_v58 : Ref sig .tc := ⟨.hbm, 287, rfl⟩
abbrev main_v59 : Ref sig .tc := ⟨.hbm, 288, rfl⟩
abbrev main_v60 : Ref sig .tc := ⟨.hbm, 289, rfl⟩
abbrev main_v61 : Ref sig .tc := ⟨.hbm, 290, rfl⟩
abbrev main_v62 : Ref sig .tc := ⟨.hbm, 291, rfl⟩
abbrev main_v63 : Ref sig .tc := ⟨.hbm, 292, rfl⟩
abbrev main_v64 : Ref sig .tc := ⟨.hbm, 293, rfl⟩
abbrev main_v65 : Ref sig .tc := ⟨.hbm, 294, rfl⟩
abbrev main_v66 : Ref sig .tc := ⟨.hbm, 295, rfl⟩
abbrev main_v67 : Ref sig .tc := ⟨.hbm, 296, rfl⟩
abbrev main_v68 : Ref sig .tc := ⟨.hbm, 297, rfl⟩
abbrev main_v69 : Ref sig .tc := ⟨.hbm, 298, rfl⟩
abbrev main_v70 : Ref sig .tc := ⟨.hbm, 299, rfl⟩
abbrev main_v71 : Ref sig .tc := ⟨.hbm, 300, rfl⟩
abbrev main_v72 : Ref sig .tc := ⟨.hbm, 301, rfl⟩
abbrev main_v73 : Ref sig .tc := ⟨.hbm, 302, rfl⟩
abbrev main_v74 : Ref sig .tc := ⟨.hbm, 303, rfl⟩
abbrev main_v75 : Ref sig .tc := ⟨.hbm, 304, rfl⟩
abbrev main_v76 : Ref sig .tc := ⟨.hbm, 305, rfl⟩
abbrev main_v77 : Ref sig .tc := ⟨.hbm, 306, rfl⟩
abbrev main_c_17 : Ref sig .tc := ⟨.hbm, 307, rfl⟩
abbrev main_v78 : Ref sig .tc := ⟨.hbm, 308, rfl⟩
abbrev main_v79 : Ref sig .tc := ⟨.hbm, 309, rfl⟩
abbrev main_c_18 : Ref sig .tc := ⟨.hbm, 310, rfl⟩
abbrev main_v80 : Ref sig .tc := ⟨.hbm, 311, rfl⟩
abbrev main_v81 : Ref sig .tc := ⟨.hbm, 312, rfl⟩
abbrev main_v82 : Ref sig .tc := ⟨.hbm, 313, rfl⟩
abbrev main_v83 : Ref sig .tc := ⟨.hbm, 314, rfl⟩
abbrev main_v84 : Ref sig .tc := ⟨.hbm, 315, rfl⟩
abbrev main_v85 : Ref sig .tc := ⟨.hbm, 316, rfl⟩
abbrev main_v86 : Ref sig .tc := ⟨.hbm, 317, rfl⟩
abbrev main_v87 : Ref sig .tc := ⟨.hbm, 318, rfl⟩
abbrev main_v88 : Ref sig .tc := ⟨.hbm, 319, rfl⟩
abbrev main_cst_19 : Ref sig .tc := ⟨.hbm, 320, rfl⟩
abbrev main_v89 : Ref sig .tc := ⟨.hbm, 321, rfl⟩
abbrev main_v90 : Ref sig .tc := ⟨.hbm, 322, rfl⟩
abbrev main_v91 : Ref sig .tc := ⟨.hbm, 323, rfl⟩
abbrev main_cst_20 : Ref sig .tc := ⟨.hbm, 324, rfl⟩
abbrev main_v92 : Ref sig .tc := ⟨.hbm, 325, rfl⟩
abbrev main_c_21 : Ref sig .tc := ⟨.hbm, 326, rfl⟩
abbrev main_v93 : Ref sig .tc := ⟨.hbm, 327, rfl⟩
abbrev main_c_22 : Ref sig .tc := ⟨.hbm, 328, rfl⟩
abbrev main_v94 : Ref sig .tc := ⟨.hbm, 329, rfl⟩
abbrev main_v95 : Ref sig .tc := ⟨.hbm, 330, rfl⟩
abbrev main_v96 : Ref sig .tc := ⟨.hbm, 331, rfl⟩
abbrev main_c_23 : Ref sig .tc := ⟨.hbm, 332, rfl⟩
abbrev main_v97 : Ref sig .tc := ⟨.hbm, 333, rfl⟩
abbrev main_c_24 : Ref sig .tc := ⟨.hbm, 334, rfl⟩
abbrev main_v98 : Ref sig .tc := ⟨.hbm, 335, rfl⟩
abbrev main_v99 : Ref sig .tc := ⟨.hbm, 336, rfl⟩
abbrev main_v100 : Ref sig .tc := ⟨.hbm, 337, rfl⟩
abbrev main_v101 : Ref sig .tc := ⟨.hbm, 338, rfl⟩
abbrev main_v102 : Ref sig .tc := ⟨.hbm, 339, rfl⟩
abbrev main_v103 : Ref sig .tc := ⟨.hbm, 340, rfl⟩
abbrev main_v104 : Ref sig .tc := ⟨.hbm, 341, rfl⟩
abbrev main_v105 : Ref sig .tc := ⟨.hbm, 342, rfl⟩
abbrev main_v106 : Ref sig .tc := ⟨.hbm, 343, rfl⟩
abbrev main_v107 : Ref sig .tc := ⟨.hbm, 344, rfl⟩
abbrev main_v108 : Ref sig .tc := ⟨.hbm, 345, rfl⟩
abbrev main_v109 : Ref sig .tc := ⟨.hbm, 346, rfl⟩
abbrev main_v110 : Ref sig .tc := ⟨.hbm, 347, rfl⟩
abbrev main_v111 : Ref sig .tc := ⟨.hbm, 348, rfl⟩
abbrev main_v112 : Ref sig .tc := ⟨.hbm, 349, rfl⟩
abbrev main_v113 : Ref sig .tc := ⟨.hbm, 350, rfl⟩
abbrev main_v114 : Ref sig .tc := ⟨.hbm, 351, rfl⟩
abbrev main_v115 : Ref sig .tc := ⟨.hbm, 352, rfl⟩
abbrev main_v116 : Ref sig .tc := ⟨.hbm, 353, rfl⟩
abbrev main_v117 : Ref sig .tc := ⟨.hbm, 354, rfl⟩
abbrev main_v118 : Ref sig .tc := ⟨.hbm, 355, rfl⟩
abbrev main_v119 : Ref sig .tc := ⟨.hbm, 356, rfl⟩
abbrev main_v120 : Ref sig .tc := ⟨.hbm, 357, rfl⟩
abbrev main_v121 : Ref sig .tc := ⟨.hbm, 358, rfl⟩
abbrev main_v122 : Ref sig .tc := ⟨.hbm, 359, rfl⟩
abbrev main_v123_0 : Ref sig .tc := ⟨.hbm, 360, rfl⟩
abbrev main_v123_1 : Ref sig .tc := ⟨.hbm, 361, rfl⟩
abbrev main_v123_2 : Ref sig .tc := ⟨.hbm, 362, rfl⟩
abbrev main_v123_3 : Ref sig .tc := ⟨.hbm, 363, rfl⟩
abbrev main_v123_4 : Ref sig .tc := ⟨.hbm, 364, rfl⟩
abbrev main_v123_5 : Ref sig .tc := ⟨.hbm, 365, rfl⟩
abbrev main_v123_6 : Ref sig .tc := ⟨.hbm, 366, rfl⟩
abbrev main_v123_7 : Ref sig .tc := ⟨.hbm, 367, rfl⟩
abbrev main_v123_8 : Ref sig .tc := ⟨.hbm, 368, rfl⟩
abbrev main_v123_9 : Ref sig .tc := ⟨.hbm, 369, rfl⟩
abbrev main_v123_10 : Ref sig .tc := ⟨.hbm, 370, rfl⟩
abbrev main_v123_11 : Ref sig .tc := ⟨.hbm, 371, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg27_1 : Ref sig .tc := ⟨.vmem, 41, rfl⟩
abbrev cc0_stg28_0 : Ref sig .tc := ⟨.vmem, 42, rfl⟩
abbrev cc0_stg28_1 : Ref sig .tc := ⟨.vmem, 43, rfl⟩
abbrev cc0_stg29_0 : Ref sig .tc := ⟨.vmem, 44, rfl⟩
abbrev cc0_stg29_1 : Ref sig .tc := ⟨.vmem, 45, rfl⟩
abbrev cc0_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39
abbrev cc0_sem27_0 : DmaSem sig := 40
abbrev cc0_sem27_1 : DmaSem sig := 41
abbrev cc0_sem28_0 : DmaSem sig := 42
abbrev cc0_sem28_1 : DmaSem sig := 43
abbrev cc0_sem29_0 : DmaSem sig := 44
abbrev cc0_sem29_1 : DmaSem sig := 45

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S2x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S2x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x256 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x512x128 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x512x128 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]
-- ==== ReferenceInIdeal.lean ====
abbrev S8x4096x1024 : Shape := ⟨3, ![8, 4096, 1024]⟩
abbrev S8x9216 : Shape := ⟨2, ![8, 9216]⟩
abbrev S1024x2816 : Shape := ⟨2, ![1024, 2816]⟩
abbrev S2816x1024 : Shape := ⟨2, ![2816, 1024]⟩
abbrev S1024x2336 : Shape := ⟨2, ![1024, 2336]⟩
abbrev S64 : Shape := ⟨1, ![64]⟩
abbrev S16x128 : Shape := ⟨2, ![16, 128]⟩
abbrev S128 : Shape := ⟨1, ![128]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x2816 : Shape := ⟨3, ![8, 4096, 2816]⟩
abbrev S8x4096x2336 : Shape := ⟨3, ![8, 4096, 2336]⟩
abbrev S8x4096x256 : Shape := ⟨3, ![8, 4096, 256]⟩
abbrev S8x4096x128 : Shape := ⟨3, ![8, 4096, 128]⟩
abbrev S8x4096x16 : Shape := ⟨3, ![8, 4096, 16]⟩

abbrev nBuf : Space → Nat
  | .hbm => 110
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2336, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S16x128, .f32⟩
  | .hbm, ⟨11, _⟩ => ⟨S128, .f32⟩
  | .hbm, ⟨12, _⟩ => ⟨S16x128, .f32⟩
  | .hbm, ⟨13, _⟩ => ⟨S128, .f32⟩
  | .hbm, ⟨14, _⟩ => ⟨S8x1x9216, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x1x1024, .f32⟩
  | .hbm, ⟨46, _⟩ => ⟨S8x1x1024, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S_, .f32⟩
  | .hbm, ⟨51, _⟩ => ⟨S8x4096x2816, .f32⟩
  | .hbm, ⟨52, _⟩ => ⟨S8x4096x2816, .f32⟩
  | .hbm, ⟨53, _⟩ => ⟨S_, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x2816, .f32⟩
  | .hbm, ⟨58, _⟩ => ⟨S8x4096x2816, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S_, .f32⟩
  | .hbm, ⟨77, _⟩ => ⟨S8x1x1024, .f32⟩
  | .hbm, ⟨78, _⟩ => ⟨S8x1x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x2336, .f32⟩
  | .hbm, ⟨84, _⟩ => ⟨S8x4096x256, .f32⟩
  | .hbm, ⟨85, _⟩ => ⟨S8x4096x256, .f32⟩
  | .hbm, ⟨86, _⟩ => ⟨S8x4096x256, .f32⟩
  | .hbm, ⟨87, _⟩ => ⟨S8x4096x256, .f32⟩
  | .hbm, ⟨88, _⟩ => ⟨S8x4096x128, .f32⟩
  | .hbm, ⟨89, _⟩ => ⟨S8x4096x128, .f32⟩
  | .hbm, ⟨90, _⟩ => ⟨S8x4096x256, .f32⟩
  | .hbm, ⟨91, _⟩ => ⟨S8x4096x256, .f32⟩
  | .hbm, ⟨92, _⟩ => ⟨S8x4096x16, .f32⟩
  | .hbm, ⟨93, _⟩ => ⟨S8x4096x16, .f32⟩
  | .hbm, ⟨94, _⟩ => ⟨S8x4096x256, .f32⟩
  | .hbm, ⟨95, _⟩ => ⟨S8x4096x128, .f32⟩
  | .hbm, ⟨96, _⟩ => ⟨S8x4096x128, .f32⟩
  | .hbm, ⟨97, _⟩ => ⟨S8x4096x256, .bf16⟩
  | .hbm, ⟨98, _⟩ => ⟨S8x4096x256, .bf16⟩
  | .hbm, ⟨99, _⟩ => ⟨S8x4096x256, .f32⟩
  | .hbm, ⟨100, _⟩ => ⟨S8x4096x256, .f32⟩
  | .hbm, ⟨101, _⟩ => ⟨S_, .f32⟩
  | .hbm, ⟨102, _⟩ => ⟨S8x4096x256, .f32⟩
  | .hbm, ⟨103, _⟩ => ⟨S8x4096x256, .f32⟩
  | .hbm, ⟨104, _⟩ => ⟨S_, .f32⟩
  | .hbm, ⟨105, _⟩ => ⟨S8x4096x256, .f32⟩
  | .hbm, ⟨106, _⟩ => ⟨S8x4096x256, .f32⟩
  | .hbm, ⟨107, _⟩ => ⟨S8x4096x256, .f32⟩
  | .hbm, ⟨108, _⟩ => ⟨S8x4096x256, .bf16⟩
  | .hbm, ⟨109, _⟩ => ⟨S8x4096x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩

abbrev nD : Nat := 1
abbrev τ : Topo := Topo.v7x

variable {F : FTy → Type} [FloatOps F]
-- ==== Proof.InRunA.lean ====
/- The run of the body of the input projection on one grid point: what each result block ends with. -/
module

public import proofs.«01_k».proof.Proof.Gen.KernelInIdeal.Frame.Runs

@[expose] public section

set_option maxRecDepth 16384

noncomputable section

namespace Cert.KernelInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) :
    Σ' (L18 : List (View.Piece (Elt F) S1x512x1024 .f32)), Σ' (L19 : List (View.Piece (Elt F) S2x256x256 .bf16)), Σ' (L20 : List (View.Piece (Elt F) S2x256x256 .bf16)), Σ' (L21 : List (View.Piece (Elt F) S1x512x256 .bf16)), Σ' (L22 : List (View.Piece (Elt F) S1x512x256 .bf16)), Σ' (L23 : List (View.Piece (Elt F) S1x512x256 .bf16)), Σ' (L24 : List (View.Piece (Elt F) S1x512x512 .f32)), Σ' (L25 : List (View.Piece (Elt F) S1x512x256 .bf16)), Σ' (L26 : List (View.Piece (Elt F) S1x512x256 .bf16)), Σ' (L27 : List (View.Piece (Elt F) S1x512x256 .bf16)), Σ' (L28 : List (View.Piece (Elt F) S1x512x128 .bf16)), Σ' (L29 : List (View.Piece (Elt F) S1x512x128 .bf16)), { LT0 : List (View.Piece (Elt F) S4x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f LT0)) -∗ K ⟨⟩))
          ⊢ wp frame (wpE (defs₀ (F := F)) Variants.none c none) E (cc0_ffn1_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, fun E K => ?run⟩
  case run =>
    simp only [cc0_ffn1_in_proj_eq_skeleton]; unfold cc0_ffn1_in_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    iexists _; iexact HS0

end Cert.KernelInIdeal.Gen

end
-- ==== Proof.InFrame.lean ====
/- The run of the whole program of the input projection: the proof data point by point, the body at every point, and the arguments left unchanged. -/
module

public import proofs.«01_k».proof.Proof.InRunA
public import Idealize.ShloMosaic.Lib.Claim

@[expose] public section

set_option maxRecDepth 16384

noncomputable section

namespace Cert.KernelInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_18 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).1 S1x512x1024.size (by sl_kernel_rfl) y

def out0_A_18 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S1x512x1024 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).1)

theorem cover0_A_19 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S2x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.1 S1x256x128.size (by sl_kernel_rfl) y

def out0_A_19 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S2x256x256 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.1)

theorem cover0_A_20 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S2x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.1 S1x256x128.size (by sl_kernel_rfl) y

def out0_A_20 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S2x256x256 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.1)

theorem cover0_A_21 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.1 S1x512x256.size (by sl_kernel_rfl) y

def out0_A_21 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S1x512x256 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.1)

theorem cover0_A_22 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.1 S1x512x256.size (by sl_kernel_rfl) y

def out0_A_22 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S1x512x256 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.1)

theorem cover0_A_23 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.1 S1x512x256.size (by sl_kernel_rfl) y

def out0_A_23 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S1x512x256 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.1)

theorem cover0_A_24 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.1 ![1, 512, 128] (by sl_kernel_rfl) y

def out0_A_24 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S1x512x512 .f32 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.1)

theorem cover0_A_25 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.1 S1x512x256.size (by sl_kernel_rfl) y

def out0_A_25 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S1x512x256 .bf16 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.1)

theorem cover0_A_26 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.1 S1x512x256.size (by sl_kernel_rfl) y

def out0_A_26 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S1x512x256 .bf16 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.1)

theorem cover0_A_27 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.2.1 S1x512x256.size (by sl_kernel_rfl) y

def out0_A_27 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S1x512x256 .bf16 :=
  VO0_27.read (Elt F) (VO0_27.writes (Elt F) VO0_27.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.2.1)

theorem cover0_A_28 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S1x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.2.2.1 S1x512x128.size (by sl_kernel_rfl) y

def out0_A_28 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S1x512x128 .bf16 :=
  VO0_28.read (Elt F) (VO0_28.writes (Elt F) VO0_28.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.2.2.1)

theorem cover0_A_29 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) (y : S1x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.2.2.2.1 S1x512x128.size (by sl_kernel_rfl) y

def out0_A_29 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec F S1x512x1024 .f32) (x1 : Vec F S1x9x1024 .f32) (x2 : Vec F S1024x2816 .bf16) (x3 : Vec F S1024x2816 .bf16) (x4 : Vec F S2816x1024 .bf16) (x5 : Vec F S1024x2432 .bf16) (x6 : Vec F S256x256 .bf16) (x7 : Vec F S128x128 .bf16) (x8 : Vec F S256x256 .bf16) (x9 : Vec F S256x256 .bf16) (x10 : Vec F S1x256 .f32) (x11 : Vec F S1x256 .f32) (x12 : Vec F S1x256 .f32) (x13 : Vec F S1x256 .f32) (x14 : Vec F S128x256 .bf16) (x15 : Vec F S1x256 .f32) (x16 : Vec F S512x128 .f32) (x17 : Vec F S512x128 .f32) : Vec F S1x512x128 .bf16 :=
  VO0_29.read (Elt F) (VO0_29.writes (Elt F) VO0_29.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17).2.2.2.2.2.2.2.2.2.2.2.1)

def outsAt0 (c : Dev nD) (t : Fin cfg0.N) : Vec F S1x512x1024 .f32 × Vec F S2x256x256 .bf16 × Vec F S2x256x256 .bf16 × Vec F S1x512x256 .bf16 × Vec F S1x512x256 .bf16 × Vec F S1x512x256 .bf16 × Vec F S1x512x512 .f32 × Vec F S1x512x256 .bf16 × Vec F S1x512x256 .bf16 × Vec F S1x512x256 .bf16 × Vec F S1x512x128 .bf16 × Vec F S1x512x128 .bf16 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2.1
    | ⟨21, _⟩ => (outsAt0 m c t).2.2.2.1
    | ⟨22, _⟩ => (outsAt0 m c t).2.2.2.2.1
    | ⟨23, _⟩ => (outsAt0 m c t).2.2.2.2.2.1
    | ⟨24, _⟩ => (outsAt0 m c t).2.2.2.2.2.2.1
    | ⟨25, _⟩ => (outsAt0 m c t).2.2.2.2.2.2.2.1
    | ⟨26, _⟩ => (outsAt0 m c t).2.2.2.2.2.2.2.2.1
    | ⟨27, _⟩ => (outsAt0 m c t).2.2.2.2.2.2.2.2.2.1
    | ⟨28, _⟩ => (outsAt0 m c t).2.2.2.2.2.2.2.2.2.2.1
    | ⟨29, _⟩ => (outsAt0 m c t).2.2.2.2.2.2.2.2.2.2.2
    | ⟨_ + 30, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2.1 := by dsimp only [dats]
theorem after0_20 (c : Dev nD) (t : Fin cfg0.N) : (dats m 0 c).after 20 t = (outsAt0 m c t).2.2.1 := by dsimp only [dats]
theorem after0_21 (c : Dev nD) (t : Fin cfg0.N) : (dats m 0 c).after 21 t = (outsAt0 m c t).2.2.2.1 := by dsimp only [dats]
theorem after0_22 (c : Dev nD) (t : Fin cfg0.N) : (dats m 0 c).after 22 t = (outsAt0 m c t).2.2.2.2.1 := by dsimp only [dats]
theorem after0_23 (c : Dev nD) (t : Fin cfg0.N) : (dats m 0 c).after 23 t = (outsAt0 m c t).2.2.2.2.2.1 := by dsimp only [dats]
theorem after0_24 (c : Dev nD) (t : Fin cfg0.N) : (dats m 0 c).after 24 t = (outsAt0 m c t).2.2.2.2.2.2.1 := by dsimp only [dats]
theorem after0_25 (c : Dev nD) (t : Fin cfg0.N) : (dats m 0 c).after 25 t = (outsAt0 m c t).2.2.2.2.2.2.2.1 := by dsimp only [dats]
theorem after0_26 (c : Dev nD) (t : Fin cfg0.N) : (dats m 0 c).after 26 t = (outsAt0 m c t).2.2.2.2.2.2.2.2.1 := by dsimp only [dats]
theorem after0_27 (c : Dev nD) (t : Fin cfg0.N) : (dats m 0 c).after 27 t = (outsAt0 m c t).2.2.2.2.2.2.2.2.2.1 := by dsimp only [dats]
theorem after0_28 (c : Dev nD) (t : Fin cfg0.N) : (dats m 0 c).after 28 t = (outsAt0 m c t).2.2.2.2.2.2.2.2.2.2.1 := by dsimp only [dats]
theorem after0_29 (c : Dev nD) (t : Fin cfg0.N) : (dats m 0 c).after 29 t = (outsAt0 m c t).2.2.2.2.2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 2800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  rw [show (dats m 0 c).Φ t.castSucc = Pipeline.ΦA spec0 c from rfl, PhiA0_eq]
  unfold outsAt0
  unfold out0_A_18 out0_A_19 out0_A_20 out0_A_21 out0_A_22 out0_A_23 out0_A_24 out0_A_25 out0_A_26 out0_A_27 out0_A_28 out0_A_29; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [HS0]; · iexact HS0
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H29
  ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelInIdeal.Gen

end
-- ==== Proof.InValue.lean ====
/- The result arrays of the input projection after the run, block by block. -/
module

public import proofs.«01_k».proof.Proof.InFrame
public import Idealize.ShloMosaic.Lib.Pipeline.Value

@[expose] public section

noncomputable section

namespace Cert.KernelInIdeal.Value

open Cert.KernelInIdeal Cert.KernelInIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed18 (c : Dev nD) (t : Fin cfg0.N) :
    (dats m 0 c).flushed 18 t = (cfg0.win 18).cut (grid0.coords t) ((outsAt0 m c t).1) := by
  show (cfg0.win 18).cut (grid0.coords t) ((dats m 0 c).after 18 t) = _
  rw [after0_18]

theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed18, outsAt0]

theorem idx_inj18 : ∀ t t' : Fin cfg0.N, win0_18.index t = win0_18.index t' → t = t' :=
  (by decide +kernel : ∀ t t' : Fin grid0.N, win0_18.index t = win0_18.index t' → t = t')

theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

theorem entry18 (c : Dev nD) (i : S8x4096x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

theorem flushed19 (c : Dev nD) (t : Fin cfg0.N) :
    (dats m 0 c).flushed 19 t = (cfg0.win 19).cut (grid0.coords t) ((outsAt0 m c t).2.1) := by
  show (cfg0.win 19).cut (grid0.coords t) ((dats m 0 c).after 19 t) = _
  rw [after0_19]

theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed19, outsAt0]

theorem idx_inj19 : ∀ t t' : Fin cfg0.N, win0_19.index t = win0_19.index t' → t = t' :=
  (by decide +kernel : ∀ t t' : Fin grid0.N, win0_19.index t = win0_19.index t' → t = t')

theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

theorem entry19 (c : Dev nD) (i : S2x2048x2048.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

theorem flushed20 (c : Dev nD) (t : Fin cfg0.N) :
    (dats m 0 c).flushed 20 t = (cfg0.win 20).cut (grid0.coords t) ((outsAt0 m c t).2.2.1) := by
  show (cfg0.win 20).cut (grid0.coords t) ((dats m 0 c).after 20 t) = _
  rw [after0_20]

theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed20, outsAt0]

theorem idx_inj20 : ∀ t t' : Fin cfg0.N, win0_20.index t = win0_20.index t' → t = t' :=
  (by decide +kernel : ∀ t t' : Fin grid0.N, win0_20.index t = win0_20.index t' → t = t')

theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

theorem entry20 (c : Dev nD) (i : S2x2048x2048.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

theorem flushed21 (c : Dev nD) (t : Fin cfg0.N) :
    (dats m 0 c).flushed 21 t = (cfg0.win 21).cut (grid0.coords t) ((outsAt0 m c t).2.2.2.1) := by
  show (cfg0.win 21).cut (grid0.coords t) ((dats m 0 c).after 21 t) = _
  rw [after0_21]

theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed21, outsAt0]

theorem idx_inj21 : ∀ t t' : Fin cfg0.N, win0_21.index t = win0_21.index t' → t = t' :=
  (by decide +kernel : ∀ t t' : Fin grid0.N, win0_21.index t = win0_21.index t' → t = t')

theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

theorem entry21 (c : Dev nD) (i : S8x4096x256.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

theorem flushed22 (c : Dev nD) (t : Fin cfg0.N) :
    (dats m 0 c).flushed 22 t = (cfg0.win 22).cut (grid0.coords t) ((outsAt0 m c t).2.2.2.2.1) := by
  show (cfg0.win 22).cut (grid0.coords t) ((dats m 0 c).after 22 t) = _
  rw [after0_22]

theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed22, outsAt0]

theorem idx_inj22 : ∀ t t' : Fin cfg0.N, win0_22.index t = win0_22.index t' → t = t' :=
  (by decide +kernel : ∀ t t' : Fin grid0.N, win0_22.index t = win0_22.index t' → t = t')

theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

theorem entry22 (c : Dev nD) (i : S8x4096x256.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

theorem flushed23 (c : Dev nD) (t : Fin cfg0.N) :
    (dats m 0 c).flushed 23 t = (cfg0.win 23).cut (grid0.coords t) ((outsAt0 m c t).2.2.2.2.2.1) := by
  show (cfg0.win 23).cut (grid0.coords t) ((dats m 0 c).after 23 t) = _
  rw [after0_23]

theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed23, outsAt0]

theorem idx_inj23 : ∀ t t' : Fin cfg0.N, win0_23.index t = win0_23.index t' → t = t' :=
  (by decide +kernel : ∀ t t' : Fin grid0.N, win0_23.index t = win0_23.index t' → t = t')

theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

theorem entry23 (c : Dev nD) (i : S8x4096x256.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

theorem flushed24 (c : Dev nD) (t : Fin cfg0.N) :
    (dats m 0 c).flushed 24 t = (cfg0.win 24).cut (grid0.coords t) ((outsAt0 m c t).2.2.2.2.2.2.1) := by
  show (cfg0.win 24).cut (grid0.coords t) ((dats m 0 c).after 24 t) = _
  rw [after0_24]

theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed24, outsAt0]

theorem idx_inj24 : ∀ t t' : Fin cfg0.N, win0_24.index t = win0_24.index t' → t = t' :=
  (by decide +kernel : ∀ t t' : Fin grid0.N, win0_24.index t = win0_24.index t' → t = t')

theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

theorem entry24 (c : Dev nD) (i : S8x4096x512.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

theorem flushed25 (c : Dev nD) (t : Fin cfg0.N) :
    (dats m 0 c).flushed 25 t = (cfg0.win 25).cut (grid0.coords t) ((outsAt0 m c t).2.2.2.2.2.2.2.1) := by
  show (cfg0.win 25).cut (grid0.coords t) ((dats m 0 c).after 25 t) = _
  rw [after0_25]

theorem flushed25_A (c : Dev nD) (t : Fin cfg0.N) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed25, outsAt0]

theorem idx_inj25 : ∀ t t' : Fin cfg0.N, win0_25.index t = win0_25.index t' → t = t' :=
  (by decide +kernel : ∀ t t' : Fin grid0.N, win0_25.index t = win0_25.index t' → t = t')

theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

theorem entry25 (c : Dev nD) (i : S8x4096x256.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

theorem flushed26 (c : Dev nD) (t : Fin cfg0.N) :
    (dats m 0 c).flushed 26 t = (cfg0.win 26).cut (grid0.coords t) ((outsAt0 m c t).2.2.2.2.2.2.2.2.1) := by
  show (cfg0.win 26).cut (grid0.coords t) ((dats m 0 c).after 26 t) = _
  rw [after0_26]

theorem flushed26_A (c : Dev nD) (t : Fin cfg0.N) :
    (dats m 0 c).flushed 26 t = (cfg0.win 26).cut (grid0.coords t) (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed26, outsAt0]

theorem idx_inj26 : ∀ t t' : Fin cfg0.N, win0_26.index t = win0_26.index t' → t = t' :=
  (by decide +kernel : ∀ t t' : Fin grid0.N, win0_26.index t = win0_26.index t' → t = t')

theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

theorem entry26 (c : Dev nD) (i : S8x4096x256.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

theorem flushed27 (c : Dev nD) (t : Fin cfg0.N) :
    (dats m 0 c).flushed 27 t = (cfg0.win 27).cut (grid0.coords t) ((outsAt0 m c t).2.2.2.2.2.2.2.2.2.1) := by
  show (cfg0.win 27).cut (grid0.coords t) ((dats m 0 c).after 27 t) = _
  rw [after0_27]

theorem flushed27_A (c : Dev nD) (t : Fin cfg0.N) :
    (dats m 0 c).flushed 27 t = (cfg0.win 27).cut (grid0.coords t) (out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed27, outsAt0]

theorem idx_inj27 : ∀ t t' : Fin cfg0.N, win0_27.index t = win0_27.index t' → t = t' :=
  (by decide +kernel : ∀ t t' : Fin grid0.N, win0_27.index t = win0_27.index t' → t = t')

theorem disjoint27 : ∀ t t' : Fin cfg0.N, (cfg0.win 27).flush t = true → (cfg0.win 27).flush t' = true → t ≠ t' →
    Disjoint ((cfg0.win 27).blk t).view.set ((cfg0.win 27).blk t').view.set :=
  fun t t' _ _ hne => (cfg0.win 27).disjoint_blk fun h => hne (idx_inj27 t t' h)

theorem blocks27 (c : Dev nD) (t : Fin cfg0.N) (hf : (cfg0.win 27).flush t = true) :
    ((cfg0.win 27).blk t).view.read (Elt F) ((dats m 0 c).arrAt 27 cfg0.N) = (dats m 0 c).flushed 27 t :=
  (dats m 0 c).read_blk_arrAt_eq_flushed 27 disjoint27 cfg0.N t t.isLt hf

theorem entry27 (c : Dev nD) (i : S8x4096x256.Idx) (h : ∀ t : Fin cfg0.N, (cfg0.win 27).flush t = true → i ∉ ((cfg0.win 27).blk t).view.set) :
    (dats m 0 c).arrAt 27 cfg0.N i = V m c (Pipeline.arrRef spec0 27) i := by
  rw [(dats m 0 c).arrAt_apply_of_forall_not_mem 27 cfg0.N i (fun t _ hf => h t hf), A_eq]

theorem flushed28 (c : Dev nD) (t : Fin cfg0.N) :
    (dats m 0 c).flushed 28 t = (cfg0.win 28).cut (grid0.coords t) ((outsAt0 m c t).2.2.2.2.2.2.2.2.2.2.1) := by
  show (cfg0.win 28).cut (grid0.coords t) ((dats m 0 c).after 28 t) = _
  rw [after0_28]

theorem flushed28_A (c : Dev nD) (t : Fin cfg0.N) :
    (dats m 0 c).flushed 28 t = (cfg0.win 28).cut (grid0.coords t) (out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed28, outsAt0]

theorem idx_inj28 : ∀ t t' : Fin cfg0.N, win0_28.index t = win0_28.index t' → t = t' :=
  (by decide +kernel : ∀ t t' : Fin grid0.N, win0_28.index t = win0_28.index t' → t = t')

theorem disjoint28 : ∀ t t' : Fin cfg0.N, (cfg0.win 28).flush t = true → (cfg0.win 28).flush t' = true → t ≠ t' →
    Disjoint ((cfg0.win 28).blk t).view.set ((cfg0.win 28).blk t').view.set :=
  fun t t' _ _ hne => (cfg0.win 28).disjoint_blk fun h => hne (idx_inj28 t t' h)

theorem blocks28 (c : Dev nD) (t : Fin cfg0.N) (hf : (cfg0.win 28).flush t = true) :
    ((cfg0.win 28).blk t).view.read (Elt F) ((dats m 0 c).arrAt 28 cfg0.N) = (dats m 0 c).flushed 28 t :=
  (dats m 0 c).read_blk_arrAt_eq_flushed 28 disjoint28 cfg0.N t t.isLt hf

theorem entry28 (c : Dev nD) (i : S8x4096x128.Idx) (h : ∀ t : Fin cfg0.N, (cfg0.win 28).flush t = true → i ∉ ((cfg0.win 28).blk t).view.set) :
    (dats m 0 c).arrAt 28 cfg0.N i = V m c (Pipeline.arrRef spec0 28) i := by
  rw [(dats m 0 c).arrAt_apply_of_forall_not_mem 28 cfg0.N i (fun t _ hf => h t hf), A_eq]

theorem flushed29 (c : Dev nD) (t : Fin cfg0.N) :
    (dats m 0 c).flushed 29 t = (cfg0.win 29).cut (grid0.coords t) ((outsAt0 m c t).2.2.2.2.2.2.2.2.2.2.2) := by
  show (cfg0.win 29).cut (grid0.coords t) ((dats m 0 c).after 29 t) = _
  rw [after0_29]

theorem flushed29_A (c : Dev nD) (t : Fin cfg0.N) :
    (dats m 0 c).flushed 29 t = (cfg0.win 29).cut (grid0.coords t) (out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed29, outsAt0]

theorem idx_inj29 : ∀ t t' : Fin cfg0.N, win0_29.index t = win0_29.index t' → t = t' :=
  (by decide +kernel : ∀ t t' : Fin grid0.N, win0_29.index t = win0_29.index t' → t = t')

theorem disjoint29 : ∀ t t' : Fin cfg0.N, (cfg0.win 29).flush t = true → (cfg0.win 29).flush t' = true → t ≠ t' →
    Disjoint ((cfg0.win 29).blk t).view.set ((cfg0.win 29).blk t').view.set :=
  fun t t' _ _ hne => (cfg0.win 29).disjoint_blk fun h => hne (idx_inj29 t t' h)

theorem blocks29 (c : Dev nD) (t : Fin cfg0.N) (hf : (cfg0.win 29).flush t = true) :
    ((cfg0.win 29).blk t).view.read (Elt F) ((dats m 0 c).arrAt 29 cfg0.N) = (dats m 0 c).flushed 29 t :=
  (dats m 0 c).read_blk_arrAt_eq_flushed 29 disjoint29 cfg0.N t t.isLt hf

theorem entry29 (c : Dev nD) (i : S8x4096x128.Idx) (h : ∀ t : Fin cfg0.N, (cfg0.win 29).flush t = true → i ∉ ((cfg0.win 29).blk t).view.set) :
    (dats m 0 c).arrAt 29 cfg0.N i = V m c (Pipeline.arrRef spec0 29) i := by
  rw [(dats m 0 c).arrAt_apply_of_forall_not_mem 29 cfg0.N i (fun t _ hf => h t hf), A_eq]

theorem post18 (r : PUnit × MemSt nD τ sig (Elt F)) (h : Pipeline.FramePost cfgs (dats m) 0 (V m) r) (c : Dev nD) :
    r.2.mem ((c : Thread nD τ).loc main_v123_0) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v123_1) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v123_2) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v123_3) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v123_4) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v123_5) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v123_6) = (dats m 0 c).arrAt 24 cfg0.N :=
  (h c).1 24

theorem post25 (r : PUnit × MemSt nD τ sig (Elt F)) (h : Pipeline.FramePost cfgs (dats m) 0 (V m) r) (c : Dev nD) :
    r.2.mem ((c : Thread nD τ).loc main_v123_7) = (dats m 0 c).arrAt 25 cfg0.N :=
  (h c).1 25

theorem post26 (r : PUnit × MemSt nD τ sig (Elt F)) (h : Pipeline.FramePost cfgs (dats m) 0 (V m) r) (c : Dev nD) :
    r.2.mem ((c : Thread nD τ).loc main_v123_8) = (dats m 0 c).arrAt 26 cfg0.N :=
  (h c).1 26

theorem post27 (r : PUnit × MemSt nD τ sig (Elt F)) (h : Pipeline.FramePost cfgs (dats m) 0 (V m) r) (c : Dev nD) :
    r.2.mem ((c : Thread nD τ).loc main_v123_9) = (dats m 0 c).arrAt 27 cfg0.N :=
  (h c).1 27

theorem post28 (r : PUnit × MemSt nD τ sig (Elt F)) (h : Pipeline.FramePost cfgs (dats m) 0 (V m) r) (c : Dev nD) :
    r.2.mem ((c : Thread nD τ).loc main_v123_10) = (dats m 0 c).arrAt 28 cfg0.N :=
  (h c).1 28

theorem post29 (r : PUnit × MemSt nD τ sig (Elt F)) (h : Pipeline.FramePost cfgs (dats m) 0 (V m) r) (c : Dev nD) :
    r.2.mem ((c : Thread nD τ).loc main_v123_11) = (dats m 0 c).arrAt 29 cfg0.N :=
  (h c).1 29

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

set_option maxHeartbeats 470760 in

theorem run_blocks : θ_run defs (onTc (τ := τ) (main (F := F))) ⟨m, fun _ => 0, ρ⟩ fun r => ∀ c : Dev nD,
      r.2.mem ((c : Thread nD τ).loc main_v123_0) = (dats m 0 c).arrAt 18 cfg0.N
      ∧ r.2.mem ((c : Thread nD τ).loc main_v123_1) = (dats m 0 c).arrAt 19 cfg0.N
      ∧ r.2.mem ((c : Thread nD τ).loc main_v123_2) = (dats m 0 c).arrAt 20 cfg0.N
      ∧ r.2.mem ((c : Thread nD τ).loc main_v123_3) = (dats m 0 c).arrAt 21 cfg0.N
      ∧ r.2.mem ((c : Thread nD τ).loc main_v123_4) = (dats m 0 c).arrAt 22 cfg0.N
      ∧ r.2.mem ((c : Thread nD τ).loc main_v123_5) = (dats m 0 c).arrAt 23 cfg0.N
      ∧ r.2.mem ((c : Thread nD τ).loc main_v123_6) = (dats m 0 c).arrAt 24 cfg0.N
      ∧ r.2.mem ((c : Thread nD τ).loc main_v123_7) = (dats m 0 c).arrAt 25 cfg0.N
      ∧ r.2.mem ((c : Thread nD τ).loc main_v123_8) = (dats m 0 c).arrAt 26 cfg0.N
      ∧ r.2.mem ((c : Thread nD τ).loc main_v123_9) = (dats m 0 c).arrAt 27 cfg0.N
      ∧ r.2.mem ((c : Thread nD τ).loc main_v123_10) = (dats m 0 c).arrAt 28 cfg0.N
      ∧ r.2.mem ((c : Thread nD τ).loc main_v123_11) = (dats m 0 c).arrAt 29 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post18 m r h c,
      post19 m r h c,
      post20 m r h c,
      post21 m r h c,
      post22 m r h c,
      post23 m r h c,
      post24 m r h c,
      post25 m r h c,
      post26 m r h c,
      post27 m r h c,
      post28 m r h c,
      post29 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end Cert.KernelInIdeal.Value

end
-- ==== Proof.NaMath.lean ====
module

public import Idealize.ShloMosaic.Lib.Pointwise
public import Idealize.ShloMosaic.Lib.IdealHost

@[expose] public section

noncomputable section

namespace Cert.Proof.Na

open Idealize.ShloMosaic

theorem bot_f32 : Ideal.ofBits FTy.f32 4286578688#32 = ⊥ := by simp [Ideal.ofBits, Ideal.ieee]
theorem top_f32 : Ideal.ofBits FTy.f32 2139095040#32 = ⊤ := by simp [Ideal.ofBits, Ideal.ieee]
theorem eighth_f32 : Ideal.ofBits FTy.f32 1040187392#32 = ((1 / 8 : ℝ) : EReal) := by
  simp [Ideal.ofBits, Ideal.ieee, -EReal.coe_mul]; norm_num

/-- The larger of two families' largest scores. -/
def top {m n : Nat} (s : Fin m → EReal) (t : Fin n → EReal) : EReal :=
  max (Finset.fold max ⊥ s Finset.univ) (Finset.fold max ⊥ t Finset.univ)

/-- Values weighted by the exponentials of two families of scores, times the inverse of the exponentials' sum. -/
def attn {m n : Nat} (s : Fin m → EReal) (t : Fin n → EReal) (v : Fin m → EReal) (w : Fin n → EReal) : EReal :=
  (∑ x, Ideal.exp (s x - top s t) * v x + ∑ x, Ideal.exp (t x - top s t) * w x)
    * Ideal.div 1 (∑ x, Ideal.exp (s x - top s t) + ∑ x, Ideal.exp (t x - top s t))

/-- The same with every exponential divided by the sum before it weighs a value. -/
def soft {m n : Nat} (s : Fin m → EReal) (t : Fin n → EReal) (v : Fin m → EReal) (w : Fin n → EReal) : EReal :=
  ∑ x, Ideal.div (Ideal.exp (s x - top s t)) (∑ x, Ideal.exp (s x - top s t) + ∑ x, Ideal.exp (t x - top s t)) * v x
    + ∑ x, Ideal.div (Ideal.exp (t x - top s t)) (∑ x, Ideal.exp (s x - top s t) + ∑ x, Ideal.exp (t x - top s t)) * w x

theorem fold_eq_sup {ι : Type} (f : ι → EReal) (u : Finset ι) : Finset.fold max ⊥ f u = u.sup f := rfl

theorem bot_sub' (a : EReal) : ⊥ - a = ⊥ := by rw [sub_eq_add_neg, EReal.bot_add]

theorem exp_bot : Ideal.exp ⊥ = 0 := rfl

/-- Scores at minus infinity outside the image of `e` change nothing. -/
theorem attn_window {m k n : Nat} (e : Fin k → Fin m) (he : Function.Injective e) (s : Fin m → EReal) (t : Fin n → EReal)
    (v : Fin m → EReal) (w : Fin n → EReal) (hs : ∀ x, x ∉ Set.range e → s x = ⊥) :
    attn s t v w = attn (fun y => s (e y)) t (fun y => v (e y)) w := by
  have ht : top s t = top (fun y => s (e y)) t := by
    unfold top
    congr 1
    rw [fold_eq_sup, fold_eq_sup]
    apply le_antisymm
    · refine Finset.sup_le fun x _ => ?_
      by_cases hx : x ∈ Set.range e
      · obtain ⟨y, rfl⟩ := hx
        exact Finset.le_sup (f := fun y => s (e y)) (Finset.mem_univ y)
      · rw [hs x hx]; exact bot_le
    · exact Finset.sup_le fun y _ => Finset.le_sup (f := s) (Finset.mem_univ (e y))
  have h0 : ∀ x, x ∉ Set.range e → Ideal.exp (s x - top s t) = 0 := fun x hx => by rw [hs x hx, bot_sub', exp_bot]
  unfold attn
  rw [← ht, Fintype.sum_of_injective e he (fun y => Ideal.exp (s (e y) - top s t) * v (e y)) (fun x => Ideal.exp (s x - top s t) * v x)
      (fun x hx => by rw [h0 x hx, zero_mul]) (fun y => rfl),
    Fintype.sum_of_injective e he (fun y => Ideal.exp (s (e y) - top s t)) (fun x => Ideal.exp (s x - top s t))
      (fun x hx => h0 x hx) (fun y => rfl)]

theorem exp_nonneg (a : EReal) : 0 ≤ Ideal.exp a := by
  induction a with
  | bot => rw [exp_bot]
  | top => exact le_top (a := (0 : EReal))
  | coe x => exact EReal.coe_nonneg.2 (Real.exp_pos x).le

theorem exp_zero' : Ideal.exp 0 = 1 := by
  show ((Real.exp 0 : ℝ) : EReal) = 1
  rw [Real.exp_zero]; rfl

/-- A sum times a nonnegative finite factor is the sum of the products. -/
theorem sum_mul {ι : Type} (u : Finset ι) (f : ι → EReal) (c : EReal) (h0 : 0 ≤ c) (ht : c ≠ ⊤) :
    (∑ x ∈ u, f x) * c = ∑ x ∈ u, f x * c := by
  classical
  induction u using Finset.induction_on with
  | empty => simp
  | insert a u ha ih => rw [Finset.sum_insert ha, Finset.sum_insert ha, EReal.right_distrib_of_nonneg_of_ne_top h0 ht, ih]

/-- Neither infinity. -/
def Fin' (a : EReal) : Prop := a ≠ ⊤ ∧ a ≠ ⊥

theorem Fin'.mul {a b : EReal} (ha : Fin' a) (hb : Fin' b) : Fin' (a * b) := by
  lift a to ℝ using ha; lift b to ℝ using hb
  rw [← EReal.coe_mul]; exact ⟨EReal.coe_ne_top _, EReal.coe_ne_bot _⟩

theorem Fin'.add {a b : EReal} (ha : Fin' a) (hb : Fin' b) : Fin' (a + b) := by
  lift a to ℝ using ha; lift b to ℝ using hb
  rw [← EReal.coe_add]; exact ⟨EReal.coe_ne_top _, EReal.coe_ne_bot _⟩

theorem Fin'.sum {ι : Type} (u : Finset ι) (f : ι → EReal) (h : ∀ x, Fin' (f x)) : Fin' (∑ x ∈ u, f x) :=
  Finset.sum_induction f Fin' (fun _ _ => Fin'.add) ⟨EReal.zero_ne_top, EReal.zero_ne_bot⟩ fun x _ => h x

/-- Over finite scores the two forms agree. -/
theorem attn_eq_soft {m n : Nat} (s : Fin m → EReal) (t : Fin (n + 1) → EReal) (v : Fin m → EReal) (w : Fin (n + 1) → EReal)
    (hs : ∀ x, Fin' (s x)) (ht : ∀ x, Fin' (t x)) : attn s t v w = soft s t v w := by
  have hle : ∀ x, s x ≤ top s t := fun x => le_max_of_le_left (Finset.le_sup (f := s) (Finset.mem_univ x))
  have hte : ∀ x, t x ≤ top s t := fun x => le_max_of_le_right (Finset.le_sup (f := t) (Finset.mem_univ x))
  have hmem : (∃ x, top s t = s x) ∨ ∃ x, top s t = t x := by
    obtain ⟨x0, -, hx0⟩ := Finset.exists_mem_eq_sup (Finset.univ : Finset (Fin (n + 1))) Finset.univ_nonempty t
    rcases le_total (Finset.fold max ⊥ s Finset.univ) (Finset.fold max ⊥ t Finset.univ) with h | h
    · right; exact ⟨x0, (max_eq_right h).trans hx0⟩
    · left
      rcases isEmpty_or_nonempty (Fin m) with hm | hm
      · exfalso
        have : Finset.fold max ⊥ s (Finset.univ : Finset (Fin m)) = ⊥ := by rw [Finset.univ_eq_empty]; rfl
        rw [this] at h
        exact (ht x0).2 (le_bot_iff.1 ((Finset.le_sup (f := t) (Finset.mem_univ x0)).trans h))
      · obtain ⟨y0, -, hy0⟩ := Finset.exists_mem_eq_sup (Finset.univ : Finset (Fin m)) Finset.univ_nonempty s
        exact ⟨y0, (max_eq_left h).trans hy0⟩
  have self0 : ∀ a : EReal, Fin' a → Ideal.exp (a - a) = 1 := fun a ha => by rw [EReal.sub_self ha.1 ha.2, exp_zero']
  unfold attn soft
  generalize hL : ∑ x, Ideal.exp (s x - top s t) + ∑ x, Ideal.exp (t x - top s t) = L
  have hpos : 0 < L := by
    rw [← hL]
    rcases hmem with ⟨x, hx⟩ | ⟨x, hx⟩
    · refine lt_of_lt_of_le zero_lt_one (le_add_of_le_of_nonneg ?_ (Finset.sum_nonneg fun y _ => exp_nonneg _))
      refine le_trans (le_of_eq ?_) (Finset.single_le_sum (f := fun x => Ideal.exp (s x - top s t)) (fun y _ => exp_nonneg _) (Finset.mem_univ x))
      show 1 = Ideal.exp (s x - top s t)
      rw [hx, self0 _ (hs x)]
    · refine lt_of_lt_of_le zero_lt_one (le_add_of_nonneg_of_le (Finset.sum_nonneg fun y _ => exp_nonneg _) ?_)
      refine le_trans (le_of_eq ?_) (Finset.single_le_sum (f := fun x => Ideal.exp (t x - top s t)) (fun y _ => exp_nonneg _) (Finset.mem_univ x))
      show 1 = Ideal.exp (t x - top s t)
      rw [hx, self0 _ (ht x)]
  have hdiv : ∀ a, Ideal.div a L = a * L⁻¹ := fun a => by rw [Ideal.div, if_neg hpos.ne']
  have hc0 : 0 ≤ L⁻¹ := EReal.inv_nonneg_of_nonneg hpos.le
  have hct : L⁻¹ ≠ ⊤ := by
    induction L with
    | bot => simp at hpos
    | top => simp
    | coe x => rw [← EReal.coe_inv]; exact EReal.coe_ne_top _
  simp only [hdiv, one_mul]
  rw [EReal.right_distrib_of_nonneg_of_ne_top hc0 hct, sum_mul _ _ _ hc0 hct, sum_mul _ _ _ hc0 hct]
  simp only [mul_right_comm]

end Cert.Proof.Na
end
-- ==== Proof.NaPre.lean ====
module

public import proofs.«01_k».proof.Defs
public import proofs.«01_k».proof.Proof.NaMath
public import Idealize.ShloMosaic.Lib.ReduceAll

@[expose] public section

noncomputable section

namespace Cert.Proof.Na

open Cert.Pre_finite Idealize.ShloMosaic Idealize.ShloMosaic.TcCoe

/-- A number whose absolute value lies below plus infinity is neither infinity. -/
theorem fin_of_lt (a : EReal) (h : max a (-a) < ⊤) : Fin' a := by
  rw [max_lt_iff] at h
  refine ⟨h.1.ne, fun hb => ?_⟩
  rw [hb] at h
  exact absurd h.2 (by simp)

theorem fin_of_cmp (s : Shape) (x : FVec Ideal s .f32) (z : FVec Ideal s .f32) (hz : ∀ i, z i = ⊤) (i : s.Idx)
    (h : cmpf .olt (Host.absf x) z i = 1#1) : Fin' (x i) := by
  have h' : Ideal.cmp .olt (max (x i) (-(x i))) (z i) = 1#1 := h
  rw [hz i] at h'
  refine fin_of_lt _ ?_
  by_contra hn
  simp [Ideal.cmp, hn] at h'

theorem and_one (a b : BitVec 1) (h : a &&& b = 1#1) : a = 1#1 ∧ b = 1#1 := by
  revert a b; decide

/-- The precondition says that the queries, keys, context keys and biases are finite. -/
theorem fin_of_pre [Cert.Pre_finite.Facts] (q k v : FVec Ideal S8x4096x256 .f32) (kc vc : FVec Ideal S8x256x256 .f32) (rpb : FVec Ideal S4x15x31 .f32)
    (h : Cert.Pre_finite.fn (F := Ideal) q k v kc vc rpb = fun _ => 1#1) :
    (∀ i, Fin' (q i)) ∧ (∀ i, Fin' (k i)) ∧ (∀ i, Fin' (kc i)) ∧ ∀ i, Fin' (rpb i) := by
  haveI : Subsingleton S_.Idx := ⟨fun a b => funext fun z => Fin.elim0 z⟩
  have h0 := congrFun h (fun a => Fin.elim0 a)
  unfold Cert.Pre_finite.fn Cert.Pre_finite.fn_part1 at h0
  obtain ⟨h1, hb⟩ := and_one _ _ h0
  obtain ⟨h2, hkc⟩ := and_one _ _ h1
  obtain ⟨hq, hk⟩ := and_one _ _ h2
  refine ⟨fun i => fin_of_cmp _ _ _ (fun _ => top_f32) i (Host.reduce_andi_all _ _ _ _ _ hq i), fun i => fin_of_cmp _ _ _ (fun _ => top_f32) i (Host.reduce_andi_all _ _ _ _ _ hk i),
    fun i => fin_of_cmp _ _ _ (fun _ => top_f32) i (Host.reduce_andi_all _ _ _ _ _ hkc i), fun i => fin_of_cmp _ _ _ (fun _ => top_f32) i (Host.reduce_andi_all _ _ _ _ _ hb i)⟩

end Cert.Proof.Na
end
-- ==== Proof.NaBlock.lean ====
module

public import proofs.«01_k».proof.Proof.Gen.KernelIdeal.Value
public import Idealize.ShloMosaic.Lib.Pointwise
public import proofs.«01_k».proof.Proof.NaMath

@[expose] public section

noncomputable section

namespace Cert.Proof.Na

open Cert.KernelIdeal Cert.KernelIdeal.Gen Idealize.ShloMosaic Idealize.ShloMosaic.TcCoe

theorem hz3 : (![0, 0, 0] : Fin 3 → Nat) = fun _ => 0 := funext fun a => by fin_cases a <;> rfl

/-- One row's queries, one copy per head under one another, the other heads' lanes zeroed. -/
def stack (q : FVec Ideal S64x256 .bf16) : FVec Ideal S256x256 .bf16 :=
  concatenate S256x256 0
    [⟨S64x256, select (cmpi .eq kernelRun0_A.sl.v37 kernelRun0_A.sl.v38) q k0_pay5⟩,
      ⟨S64x256, select (cmpi .eq kernelRun0_A.sl.v64 kernelRun0_A.sl.v55) q k0_pay5⟩,
      ⟨S64x256, select (cmpi .eq kernelRun0_A.sl.v64 kernelRun0_A.sl.v92) q k0_pay5⟩,
      ⟨S64x256, select (cmpi .eq kernelRun0_A.sl.v64 kernelRun0_A.sl.v119) q k0_pay5⟩]
    concatenates_S64x256_S64x256_S64x256_S64x256_S256x256_d0

/-- The stacked rows' result back to one row: from each head's copy its own lanes. -/
def unstack (o : FVec Ideal S256x256 .f32) : FVec Ideal S1x64x256 .bf16 :=
  k0_pay25 o kernelRun0_A.sl.v12
    (k0_pay22 o kernelRun0_A.sl.v12 (k0_pay20 o kernelRun0_A.sl.v12 k0_pay16 (64#32) k0_pay17 k0_pay18 k0_pay19) (k0_pay21 kernelRun0_A.sl.v12))
    (64#32) (k0_pay23 kernelRun0_A.sl.v12) (k0_pay24 kernelRun0_A.sl.v12) 0#32

/-- What the kernel stores for one row of queries, from the row, its eight rows of keys and values, the bias table's
    plane and the context. -/
def rowPay (q : Vec Ideal S1x64x256 .bf16) (kw vw : Vec Ideal S1x512x256 .bf16) (tb : Vec Ideal S1x256x512 .f32)
    (kc vc : Vec Ideal S1x256x256 .bf16) : FVec Ideal S1x64x256 .bf16 :=
  unstack (k0_pay15 (k0_pay2 kc) (k0_pay3 vc) (stack (k0_pay4 q)) (k0_pay14 kw) vw tb)

/-- A lane's head, as the kernel computes it on words, compared with a head. -/
theorem lane_eq : ∀ (h : Fin 4) (e : Fin 256), IntOp.cmpi CmpIPredicate.eq
      (Scalar.select
        (IntOp.andi
          (IntOp.cmpi CmpIPredicate.ne
            (IntOp.subi (BitVec.setWidth 32 (IntOp.cmpi CmpIPredicate.sgt (BitVec.ofNat 32 e.val) 0#32))
              (BitVec.setWidth 32 (IntOp.cmpi CmpIPredicate.slt (BitVec.ofNat 32 e.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 e.val) 64#32) 0#32))
        (IntOp.subi (IntOp.divsi ArithUnit.vector (BitVec.ofNat 32 e.val) 64#32) 1#32)
        (IntOp.divsi ArithUnit.vector (BitVec.ofNat 32 e.val) 64#32))
      (BitVec.ofNat 32 h.val) = if e.val / 64 = h.val then 1#1 else 0#1 := by decide +kernel

theorem sel_lane (h : Fin 4) (e : Fin 256) (a : EReal) : Scalar.select (IntOp.cmpi CmpIPredicate.eq
      (Scalar.select
        (IntOp.andi
          (IntOp.cmpi CmpIPredicate.ne
            (IntOp.subi (BitVec.setWidth 32 (IntOp.cmpi CmpIPredicate.sgt (BitVec.ofNat 32 e.val) 0#32))
              (BitVec.setWidth 32 (IntOp.cmpi CmpIPredicate.slt (BitVec.ofNat 32 e.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 e.val) 64#32) 0#32))
        (IntOp.subi (IntOp.divsi ArithUnit.vector (BitVec.ofNat 32 e.val) 64#32) 1#32)
        (IntOp.divsi ArithUnit.vector (BitVec.ofNat 32 e.val) 64#32))
      (BitVec.ofNat 32 h.val)) a 0 = if e.val / 64 = h.val then a else 0 := by
  rw [lane_eq]
  split <;> rfl

set_option maxRecDepth 16384 in
theorem stack_apply (q : FVec Ideal S64x256 .bf16) (h : Fin 4) (r : Fin 64) (e : Fin 256) :
    stack q (ix2 ⟨64 * h.val + r.val, by omega⟩ e) = if e.val / 64 = h.val then q (ix2 r e) else 0 := by
  have k0 : stack q (ix2 ⟨r.val, by omega⟩ e) = if e.val / 64 = 0 then q (ix2 r e) else 0 := by
    unfold stack
    pointwise [k0_pay5, k0_pay6, k0_pay7, k0_pay8, kernelRun0_A.sl.v12, kernelRun0_A.sl.v37, kernelRun0_A.sl.v38, kernelRun0_A.sl.v41, kernelRun0_A.sl.v45, kernelRun0_A.sl.v48, kernelRun0_A.sl.v55, kernelRun0_A.sl.v56, kernelRun0_A.sl.v60, kernelRun0_A.sl.v63, kernelRun0_A.sl.v64, kernelRun0_A.sl.v92, kernelRun0_A.sl.v119]
    exact sel_lane 0 e _
  have k1 : stack q (ix2 ⟨64 + r.val, by omega⟩ e) = if e.val / 64 = 1 then q (ix2 r e) else 0 := by
    unfold stack
    pointwise [k0_pay5, k0_pay6, k0_pay7, k0_pay8, kernelRun0_A.sl.v12, kernelRun0_A.sl.v37, kernelRun0_A.sl.v38, kernelRun0_A.sl.v41, kernelRun0_A.sl.v45, kernelRun0_A.sl.v48, kernelRun0_A.sl.v55, kernelRun0_A.sl.v56, kernelRun0_A.sl.v60, kernelRun0_A.sl.v63, kernelRun0_A.sl.v64, kernelRun0_A.sl.v92, kernelRun0_A.sl.v119]
    exact sel_lane 1 e _
  have k2 : stack q (ix2 ⟨128 + r.val, by omega⟩ e) = if e.val / 64 = 2 then q (ix2 r e) else 0 := by
    unfold stack
    pointwise [k0_pay5, k0_pay6, k0_pay7, k0_pay8, kernelRun0_A.sl.v12, kernelRun0_A.sl.v37, kernelRun0_A.sl.v38, kernelRun0_A.sl.v41, kernelRun0_A.sl.v45, kernelRun0_A.sl.v48, kernelRun0_A.sl.v55, kernelRun0_A.sl.v56, kernelRun0_A.sl.v60, kernelRun0_A.sl.v63, kernelRun0_A.sl.v64, kernelRun0_A.sl.v92, kernelRun0_A.sl.v119]
    rw [dif_neg (by omega), dif_neg (by omega), dif_pos (by omega)]
    refine (sel_lane 2 e _).trans ?_
    rw [show (⟨128 + r.val - 64 - 64, by omega⟩ : Fin 64) = r from Fin.ext (by show 128 + r.val - 64 - 64 = r.val; omega)]
    rfl
  have k3 : stack q (ix2 ⟨192 + r.val, by omega⟩ e) = if e.val / 64 = 3 then q (ix2 r e) else 0 := by
    unfold stack
    pointwise [k0_pay5, k0_pay6, k0_pay7, k0_pay8, kernelRun0_A.sl.v12, kernelRun0_A.sl.v37, kernelRun0_A.sl.v38, kernelRun0_A.sl.v41, kernelRun0_A.sl.v45, kernelRun0_A.sl.v48, kernelRun0_A.sl.v55, kernelRun0_A.sl.v56, kernelRun0_A.sl.v60, kernelRun0_A.sl.v63, kernelRun0_A.sl.v64, kernelRun0_A.sl.v92, kernelRun0_A.sl.v119]
    rw [dif_neg (by omega), dif_neg (by omega), dif_neg (by omega)]
    refine (sel_lane 3 e _).trans ?_
    rw [show (⟨192 + r.val - 64 - 64 - 64, by omega⟩ : Fin 64) = r from Fin.ext (by show 192 + r.val - 64 - 64 - 64 = r.val; omega)]
    rfl
  obtain ⟨h, hh⟩ := h
  interval_cases h
  · simpa using k0
  · exact k1
  · exact k2
  · exact k3

set_option maxRecDepth 16384 in
theorem unstack_apply (o : FVec Ideal S256x256 .f32) (h : Fin 4) (r : Fin 64) (d : Fin 256) (hd : d.val / 64 = h.val) :
    unstack o (ix3 0 r d) = o (ix2 ⟨64 * h.val + r.val, by omega⟩ d) := by
  unfold unstack
  pointwise [k0_pay25, k0_pay22, k0_pay20, k0_pay16, k0_pay17, k0_pay18, k0_pay19, k0_pay21, k0_pay23, k0_pay24, kernelRun0_A.sl.v12]
  have e0 := sel_lane 0 d (o (ix2 ⟨r.val, by omega⟩ d))
  have e1 := sel_lane 1 d (o (ix2 ⟨64 + r.val, by omega⟩ d))
  have e2 := sel_lane 2 d (o (ix2 ⟨128 + r.val, by omega⟩ d))
  have e3 := sel_lane 3 d (o (ix2 ⟨192 + r.val, by omega⟩ d))
  refine (congrArg₂ (· + ·) (congrArg₂ (· + ·) (congrArg₂ (· + ·) e0 e1) e2) e3).trans ?_
  clear e0 e1 e2 e3
  rw [hd]
  obtain ⟨h, hh⟩ := h
  interval_cases h <;> simp

set_option maxRecDepth 16384 in
theorem attn_apply (kc vc : Vec Ideal S1x256x256 .bf16) (qs : FVec Ideal S256x256 .bf16) (kw vw : Vec Ideal S1x512x256 .bf16) (tb : Vec Ideal S1x256x512 .f32) (r d : Fin 256) :
    k0_pay15 (k0_pay2 kc) (k0_pay3 vc) qs (k0_pay14 kw) vw tb (ix2 r d)
      = attn (fun x => ∑ e, qs (ix2 r e) * kw (ix3 0 x e) + tb (ix3 0 r x)) (fun x => ∑ e, qs (ix2 r e) * kc (ix3 0 x e))
          (fun x => vw (ix3 0 x d)) (fun x => vc (ix3 0 x d)) := by
  unfold attn top
  rw [← bot_f32]
  pointwise [k0_pay15, k0_pay2, k0_pay3, k0_pay14]

/-- A sum over 256 lanes of which one head's count is the sum over that head's 64 lanes. -/
theorem sum_head (h : Fin 4) (a b : Fin 256 → EReal) :
    ∑ e : Fin 256, (if e.val / 64 = h.val then a e else 0) * b e
      = ∑ c : Fin 64, a ⟨64 * h.val + c.val, by omega⟩ * b ⟨64 * h.val + c.val, by omega⟩ := by
  symm
  refine Fintype.sum_of_injective (fun c : Fin 64 => (⟨64 * h.val + c.val, by omega⟩ : Fin 256)) ?_ _ _ ?_ ?_
  · intro c c' hc
    have := congrArg Fin.val hc
    exact Fin.ext (by simpa using this)
  · intro e he
    rw [if_neg, zero_mul]
    intro hh
    exact he ⟨⟨e.val % 64, by omega⟩, Fin.ext (by show 64 * h.val + e.val % 64 = e.val; omega)⟩
  · intro c
    rw [if_pos]
    show (64 * h.val + c.val) / 64 = h.val
    omega

/-- One row's result at a token and a lane: the attention of the lane's head. -/
theorem rowPay_apply (q : Vec Ideal S1x64x256 .bf16) (kw vw : Vec Ideal S1x512x256 .bf16) (tb : Vec Ideal S1x256x512 .f32)
    (kc vc : Vec Ideal S1x256x256 .bf16) (r : Fin 64) (h : Fin 4) (l : Fin 64) :
    rowPay q kw vw tb kc vc (ix3 0 r ⟨64 * h.val + l.val, by omega⟩)
      = attn (fun x => ∑ e : Fin 64, q (ix3 0 r ⟨64 * h.val + e.val, by omega⟩) * kw (ix3 0 x ⟨64 * h.val + e.val, by omega⟩)
              + tb (ix3 0 ⟨64 * h.val + r.val, by omega⟩ x))
          (fun x => ∑ e : Fin 64, q (ix3 0 r ⟨64 * h.val + e.val, by omega⟩) * kc (ix3 0 x ⟨64 * h.val + e.val, by omega⟩))
          (fun x => vw (ix3 0 x ⟨64 * h.val + l.val, by omega⟩)) (fun x => vc (ix3 0 x ⟨64 * h.val + l.val, by omega⟩)) := by
  have e4 : ∀ e : Fin 256, k0_pay4 q (ix2 r e) = q (ix3 0 r e) := by intro e; pointwise [k0_pay4]
  have ed : (64 * h.val + l.val) / 64 = h.val := by omega
  unfold rowPay
  rw [unstack_apply _ h r _ ed]
  rw [attn_apply]
  simp only [stack_apply, e4, sum_head]

set_option maxRecDepth 16384 in
/-- The block the kernel leaves, as its sixteen stores. -/
theorem out_pieces (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S8x256x512 .f32) (harg7 : arg7.IsWhole) (arg8 : Memref sig .tc .vmem S1x1024x256 .bf16) (harg8 : arg8.IsWhole)
    (x0 : Vec Ideal S1x1024x256 .bf16) (x1 x2 : Vec Ideal S1x4096x256 .bf16) (x3 x4 : Vec Ideal S1x256x256 .bf16) (x5 : Vec Ideal S8x256x512 .f32) :
    out0_A_6 c i arg2 harg2 arg3 harg3 arg4 harg4 arg5 harg5 arg6 harg6 arg7 harg7 arg8 harg8 x0 x1 x2 x3 x4 x5 = View.canon ([
      ⟨Rect.unit (s := S1x1024x256) ![0, 960, 0] S1x64x256.size inb_S1x1024x256_S1x64x256_0_960_0, rowPay (View.readAt (Elt Ideal) arg2.view (Rect.unit (s := S1x1024x256) ![0, 960, 0] S1x64x256.size inb_S1x1024x256_S1x64x256_0_960_0).toLoadRect (harg2.unread x0)) (View.readAt (Elt Ideal) arg3.view (Rect.unit (s := S1x4096x256) (k0_off1 i 15#32) S1x512x256.size (k0_off1_inb i 15)).toLoadRect (harg3.unread x1)) (View.readAt (Elt Ideal) arg4.view (Rect.unit (s := S1x4096x256) (k0_off1 i 15#32) S1x512x256.size (k0_off1_inb i 15)).toLoadRect (harg4.unread x2)) (View.readAt (Elt Ideal) arg7.view (Rect.unit (s := S8x256x512) (k0_off2 i 15#32) S1x256x512.size (k0_off2_inb i 15)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 896, 0] S1x64x256.size inb_S1x1024x256_S1x64x256_0_896_0, rowPay (View.readAt (Elt Ideal) arg2.view (Rect.unit (s := S1x1024x256) ![0, 896, 0] S1x64x256.size inb_S1x1024x256_S1x64x256_0_896_0).toLoadRect (harg2.unread x0)) (View.readAt (Elt Ideal) arg3.view (Rect.unit (s := S1x4096x256) (k0_off1 i 14#32) S1x512x256.size (k0_off1_inb i 14)).toLoadRect (harg3.unread x1)) (View.readAt (Elt Ideal) arg4.view (Rect.unit (s := S1x4096x256) (k0_off1 i 14#32) S1x512x256.size (k0_off1_inb i 14)).toLoadRect (harg4.unread x2)) (View.readAt (Elt Ideal) arg7.view (Rect.unit (s := S8x256x512) (k0_off2 i 14#32) S1x256x512.size (k0_off2_inb i 14)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 832, 0] S1x64x256.size inb_S1x1024x256_S1x64x256_0_832_0, rowPay (View.readAt (Elt Ideal) arg2.view (Rect.unit (s := S1x1024x256) ![0, 832, 0] S1x64x256.size inb_S1x1024x256_S1x64x256_0_832_0).toLoadRect (harg2.unread x0)) (View.readAt (Elt Ideal) arg3.view (Rect.unit (s := S1x4096x256) (k0_off1 i 13#32) S1x512x256.size (k0_off1_inb i 13)).toLoadRect (harg3.unread x1)) (View.readAt (Elt Ideal) arg4.view (Rect.unit (s := S1x4096x256) (k0_off1 i 13#32) S1x512x256.size (k0_off1_inb i 13)).toLoadRect (harg4.unread x2)) (View.readAt (Elt Ideal) arg7.view (Rect.unit (s := S8x256x512) (k0_off2 i 13#32) S1x256x512.size (k0_off2_inb i 13)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 768, 0] S1x64x256.size inb_S1x1024x256_S1x64x256_0_768_0, rowPay (View.readAt (Elt Ideal) arg2.view (Rect.unit (s := S1x1024x256) ![0, 768, 0] S1x64x256.size inb_S1x1024x256_S1x64x256_0_768_0).toLoadRect (harg2.unread x0)) (View.readAt (Elt Ideal) arg3.view (Rect.unit (s := S1x4096x256) (k0_off1 i 12#32) S1x512x256.size (k0_off1_inb i 12)).toLoadRect (harg3.unread x1)) (View.readAt (Elt Ideal) arg4.view (Rect.unit (s := S1x4096x256) (k0_off1 i 12#32) S1x512x256.size (k0_off1_inb i 12)).toLoadRect (harg4.unread x2)) (View.readAt (Elt Ideal) arg7.view (Rect.unit (s := S8x256x512) (k0_off2 i 12#32) S1x256x512.size (k0_off2_inb i 12)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 704, 0] S1x64x256.size inb_S1x1024x256_S1x64x256_0_704_0, rowPay (View.readAt (Elt Ideal) arg2.view (Rect.unit (s := S1x1024x256) ![0, 704, 0] S1x64x256.size inb_S1x1024x256_S1x64x256_0_704_0).toLoadRect (harg2.unread x0)) (View.readAt (Elt Ideal) arg3.view (Rect.unit (s := S1x4096x256) (k0_off1 i 11#32) S1x512x256.size (k0_off1_inb i 11)).toLoadRect (harg3.unread x1)) (View.readAt (Elt Ideal) arg4.view (Rect.unit (s := S1x4096x256) (k0_off1 i 11#32) S1x512x256.size (k0_off1_inb i 11)).toLoadRect (harg4.unread x2)) (View.readAt (Elt Ideal) arg7.view (Rect.unit (s := S8x256x512) (k0_off2 i 11#32) S1x256x512.size (k0_off2_inb i 11)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 640, 0] S1x64x256.size inb_S1x1024x256_S1x64x256_0_640_0, rowPay (View.readAt (Elt Ideal) arg2.view (Rect.unit (s := S1x1024x256) ![0, 640, 0] S1x64x256.size inb_S1x1024x256_S1x64x256_0_640_0).toLoadRect (harg2.unread x0)) (View.readAt (Elt Ideal) arg3.view (Rect.unit (s := S1x4096x256) (k0_off1 i 10#32) S1x512x256.size (k0_off1_inb i 10)).toLoadRect (harg3.unread x1)) (View.readAt (Elt Ideal) arg4.view (Rect.unit (s := S1x4096x256) (k0_off1 i 10#32) S1x512x256.size (k0_off1_inb i 10)).toLoadRect (harg4.unread x2)) (View.readAt (Elt Ideal) arg7.view (Rect.unit (s := S8x256x512) (k0_off2 i 10#32) S1x256x512.size (k0_off2_inb i 10)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 576, 0] S1x64x256.size inb_S1x1024x256_S1x64x256_0_576_0, rowPay (View.readAt (Elt Ideal) arg2.view (Rect.unit (s := S1x1024x256) ![0, 576, 0] S1x64x256.size inb_S1x1024x256_S1x64x256_0_576_0).toLoadRect (harg2.unread x0)) (View.readAt (Elt Ideal) arg3.view (Rect.unit (s := S1x4096x256) (k0_off1 i 9#32) S1x512x256.size (k0_off1_inb i 9)).toLoadRect (harg3.unread x1)) (View.readAt (Elt Ideal) arg4.view (Rect.unit (s := S1x4096x256) (k0_off1 i 9#32) S1x512x256.size (k0_off1_inb i 9)).toLoadRect (harg4.unread x2)) (View.readAt (Elt Ideal) arg7.view (Rect.unit (s := S8x256x512) (k0_off2 i 9#32) S1x256x512.size (k0_off2_inb i 9)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 512, 0] S1x64x256.size inb_S1x1024x256_S1x64x256_0_512_0, rowPay (View.readAt (Elt Ideal) arg2.view (Rect.unit (s := S1x1024x256) ![0, 512, 0] S1x64x256.size inb_S1x1024x256_S1x64x256_0_512_0).toLoadRect (harg2.unread x0)) (View.readAt (Elt Ideal) arg3.view (Rect.unit (s := S1x4096x256) (k0_off1 i 8#32) S1x512x256.size (k0_off1_inb i 8)).toLoadRect (harg3.unread x1)) (View.readAt (Elt Ideal) arg4.view (Rect.unit (s := S1x4096x256) (k0_off1 i 8#32) S1x512x256.size (k0_off1_inb i 8)).toLoadRect (harg4.unread x2)) (View.readAt (Elt Ideal) arg7.view (Rect.unit (s := S8x256x512) (k0_off2 i 8#32) S1x256x512.size (k0_off2_inb i 8)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 448, 0] S1x64x256.size inb_S1x1024x256_S1x64x256_0_448_0, rowPay (View.readAt (Elt Ideal) arg2.view (Rect.unit (s := S1x1024x256) ![0, 448, 0] S1x64x256.size inb_S1x1024x256_S1x64x256_0_448_0).toLoadRect (harg2.unread x0)) (View.readAt (Elt Ideal) arg3.view (Rect.unit (s := S1x4096x256) (k0_off1 i 7#32) S1x512x256.size (k0_off1_inb i 7)).toLoadRect (harg3.unread x1)) (View.readAt (Elt Ideal) arg4.view (Rect.unit (s := S1x4096x256) (k0_off1 i 7#32) S1x512x256.size (k0_off1_inb i 7)).toLoadRect (harg4.unread x2)) (View.readAt (Elt Ideal) arg7.view (Rect.unit (s := S8x256x512) (k0_off2 i 7#32) S1x256x512.size (k0_off2_inb i 7)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 384, 0] S1x64x256.size inb_S1x1024x256_S1x64x256_0_384_0, rowPay (View.readAt (Elt Ideal) arg2.view (Rect.unit (s := S1x1024x256) ![0, 384, 0] S1x64x256.size inb_S1x1024x256_S1x64x256_0_384_0).toLoadRect (harg2.unread x0)) (View.readAt (Elt Ideal) arg3.view (Rect.unit (s := S1x4096x256) (k0_off1 i 6#32) S1x512x256.size (k0_off1_inb i 6)).toLoadRect (harg3.unread x1)) (View.readAt (Elt Ideal) arg4.view (Rect.unit (s := S1x4096x256) (k0_off1 i 6#32) S1x512x256.size (k0_off1_inb i 6)).toLoadRect (harg4.unread x2)) (View.readAt (Elt Ideal) arg7.view (Rect.unit (s := S8x256x512) (k0_off2 i 6#32) S1x256x512.size (k0_off2_inb i 6)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 320, 0] S1x64x256.size inb_S1x1024x256_S1x64x256_0_320_0, rowPay (View.readAt (Elt Ideal) arg2.view (Rect.unit (s := S1x1024x256) ![0, 320, 0] S1x64x256.size inb_S1x1024x256_S1x64x256_0_320_0).toLoadRect (harg2.unread x0)) (View.readAt (Elt Ideal) arg3.view (Rect.unit (s := S1x4096x256) (k0_off1 i 5#32) S1x512x256.size (k0_off1_inb i 5)).toLoadRect (harg3.unread x1)) (View.readAt (Elt Ideal) arg4.view (Rect.unit (s := S1x4096x256) (k0_off1 i 5#32) S1x512x256.size (k0_off1_inb i 5)).toLoadRect (harg4.unread x2)) (View.readAt (Elt Ideal) arg7.view (Rect.unit (s := S8x256x512) (k0_off2 i 5#32) S1x256x512.size (k0_off2_inb i 5)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 256, 0] S1x64x256.size inb_S1x1024x256_S1x64x256_0_256_0, rowPay (View.readAt (Elt Ideal) arg2.view (Rect.unit (s := S1x1024x256) ![0, 256, 0] S1x64x256.size inb_S1x1024x256_S1x64x256_0_256_0).toLoadRect (harg2.unread x0)) (View.readAt (Elt Ideal) arg3.view (Rect.unit (s := S1x4096x256) (k0_off1 i 4#32) S1x512x256.size (k0_off1_inb i 4)).toLoadRect (harg3.unread x1)) (View.readAt (Elt Ideal) arg4.view (Rect.unit (s := S1x4096x256) (k0_off1 i 4#32) S1x512x256.size (k0_off1_inb i 4)).toLoadRect (harg4.unread x2)) (View.readAt (Elt Ideal) arg7.view (Rect.unit (s := S8x256x512) (k0_off2 i 4#32) S1x256x512.size (k0_off2_inb i 4)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 192, 0] S1x64x256.size inb_S1x1024x256_S1x64x256_0_192_0, rowPay (View.readAt (Elt Ideal) arg2.view (Rect.unit (s := S1x1024x256) ![0, 192, 0] S1x64x256.size inb_S1x1024x256_S1x64x256_0_192_0).toLoadRect (harg2.unread x0)) (View.readAt (Elt Ideal) arg3.view (Rect.unit (s := S1x4096x256) (k0_off1 i 3#32) S1x512x256.size (k0_off1_inb i 3)).toLoadRect (harg3.unread x1)) (View.readAt (Elt Ideal) arg4.view (Rect.unit (s := S1x4096x256) (k0_off1 i 3#32) S1x512x256.size (k0_off1_inb i 3)).toLoadRect (harg4.unread x2)) (View.readAt (Elt Ideal) arg7.view (Rect.unit (s := S8x256x512) (k0_off2 i 3#32) S1x256x512.size (k0_off2_inb i 3)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 128, 0] S1x64x256.size inb_S1x1024x256_S1x64x256_0_128_0, rowPay (View.readAt (Elt Ideal) arg2.view (Rect.unit (s := S1x1024x256) ![0, 128, 0] S1x64x256.size inb_S1x1024x256_S1x64x256_0_128_0).toLoadRect (harg2.unread x0)) (View.readAt (Elt Ideal) arg3.view (Rect.unit (s := S1x4096x256) (k0_off1 i 2#32) S1x512x256.size (k0_off1_inb i 2)).toLoadRect (harg3.unread x1)) (View.readAt (Elt Ideal) arg4.view (Rect.unit (s := S1x4096x256) (k0_off1 i 2#32) S1x512x256.size (k0_off1_inb i 2)).toLoadRect (harg4.unread x2)) (View.readAt (Elt Ideal) arg7.view (Rect.unit (s := S8x256x512) (k0_off2 i 2#32) S1x256x512.size (k0_off2_inb i 2)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 64, 0] S1x64x256.size inb_S1x1024x256_S1x64x256_0_64_0, rowPay (View.readAt (Elt Ideal) arg2.view (Rect.unit (s := S1x1024x256) ![0, 64, 0] S1x64x256.size inb_S1x1024x256_S1x64x256_0_64_0).toLoadRect (harg2.unread x0)) (View.readAt (Elt Ideal) arg3.view (Rect.unit (s := S1x4096x256) (k0_off1 i 1#32) S1x512x256.size (k0_off1_inb i 1)).toLoadRect (harg3.unread x1)) (View.readAt (Elt Ideal) arg4.view (Rect.unit (s := S1x4096x256) (k0_off1 i 1#32) S1x512x256.size (k0_off1_inb i 1)).toLoadRect (harg4.unread x2)) (View.readAt (Elt Ideal) arg7.view (Rect.unit (s := S8x256x512) (k0_off2 i 1#32) S1x256x512.size (k0_off2_inb i 1)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩,
      ⟨Rect.unit (s := S1x1024x256) ![0, 0, 0] S1x64x256.size inb_S1x1024x256_S1x64x256_0_0_0, rowPay (View.readAt (Elt Ideal) arg2.view (Rect.unit (s := S1x1024x256) ![0, 0, 0] S1x64x256.size inb_S1x1024x256_S1x64x256_0_0_0).toLoadRect (harg2.unread x0)) (View.readAt (Elt Ideal) arg3.view (Rect.unit (s := S1x4096x256) (k0_off1 i 0#32) S1x512x256.size (k0_off1_inb i 0)).toLoadRect (harg3.unread x1)) (View.readAt (Elt Ideal) arg4.view (Rect.unit (s := S1x4096x256) (k0_off1 i 0#32) S1x512x256.size (k0_off1_inb i 0)).toLoadRect (harg4.unread x2)) (View.readAt (Elt Ideal) arg7.view (Rect.unit (s := S8x256x512) (k0_off2 i 0#32) S1x256x512.size (k0_off2_inb i 0)).toLoadRect (harg7.unread x5)) (View.readAt (Elt Ideal) arg5.view (Rect.unit (s := S1x256x256) ![0, 0, 0] S1x256x256.size inb_S1x256x256_S1x256x256_0_0_0).toLoadRect (harg5.unread x3)) (View.readAt (Elt Ideal) arg6.view (Rect.unit (s := S1x256x256) ![0, 0, 0] S1x256x256.size inb_S1x256x256_S1x256x256_0_0_0).toLoadRect (harg6.unread x4))⟩ ] : List (View.Piece (Elt Ideal) S1x1024x256 .bf16)) := by
  unfold out0_A_6
  rw [View.read_writes_junk_eq_canon]
  rfl

end Cert.Proof.Na
end
-- ==== Proof.NaHost.lean ====
module

public import proofs.«01_k».proof.Proof.Gen.KernelIdeal.Value
public import Idealize.ShloMosaic.Lib.Pointwise
public import proofs.«01_k».proof.Proof.NaMath
public import Idealize.ShloMosaic.Lib.StableHlo.RunRead

@[expose] public section

noncomputable section

namespace Cert.Proof.Na

open Cert.KernelIdeal Cert.KernelIdeal.Gen Idealize.ShloMosaic Idealize.ShloMosaic.TcCoe

/-- First column of each query column's window. -/
def wstart : IVec S64x1x1 32 :=
  minsi (broadcastInDim S64x1x1 ![] bcast_S_S64x1x1 (constantI S_ 32 48#32))
    (maxsi (broadcastInDim S64x1x1 ![] bcast_S_S64x1x1 (constantI S_ 32 0#32))
      (subi (broadcastInDim S64x1x1 ![0] bcast_S64_S64x1x1_0 (iotaInDim S64 32 0)) (broadcastInDim S64x1x1 ![] bcast_S_S64x1x1 (constantI S_ 32 8#32))))

/-- Whether a key column lies in a query column's window. -/
def within : IVec S64x64x1 1 :=
  andi
    (cmpi .sge (broadcastInDim S64x64x1 ![0, 1, 2] bcast_S1x64x1_S64x64x1_0_1_2 (broadcastInDim S1x64x1 ![1] bcast_S64_S1x64x1_1 (iotaInDim S64 32 0)))
      (broadcastInDim S64x64x1 ![0, 1, 2] bcast_S64x1x1_S64x64x1_0_1_2 wstart))
    (cmpi .slt (broadcastInDim S64x64x1 ![0, 1, 2] bcast_S1x64x1_S64x64x1_0_1_2 (broadcastInDim S1x64x1 ![1] bcast_S64_S1x64x1_1 (iotaInDim S64 32 0)))
      (broadcastInDim S64x64x1 ![0, 1, 2] bcast_S64x1x1_S64x64x1_0_1_2 (addi wstart (broadcastInDim S64x1x1 ![] bcast_S_S64x1x1 (constantI S_ 32 16#32)))))

/-- The relative column of a key column, counted from the leftmost one. -/
def rel : IVec S64x64x1 32 :=
  subi (addi (subi (broadcastInDim S64x64x1 ![0, 1, 2] bcast_S1x64x1_S64x64x1_0_1_2 (broadcastInDim S1x64x1 ![1] bcast_S64_S1x64x1_1 (iotaInDim S64 32 0)))
      (broadcastInDim S64x64x1 ![0, 1, 2] bcast_S64x1x1_S64x64x1_0_1_2 (broadcastInDim S64x1x1 ![0] bcast_S64_S64x1x1_0 (iotaInDim S64 32 0))))
    (broadcastInDim S64x64x1 ![] bcast_S_S64x64x1 (constantI S_ 32 16#32)))
    (broadcastInDim S64x64x1 ![] bcast_S_S64x64x1 (constantI S_ 32 1#32))

/-- One where a relative column belongs to a pair of columns. -/
def pick : FVec Ideal S64x64x31 .f32 :=
  uitofp .f32 (andi (broadcastInDim S64x64x31 ![0, 1, 2] bcast_S64x64x1_S64x64x31_0_1_2 within)
    (cmpi .eq (broadcastInDim S64x64x31 ![0, 1, 2] bcast_S64x64x1_S64x64x31_0_1_2 rel)
      (broadcastInDim S64x64x31 ![0, 1, 2] bcast_S1x1x31_S64x64x31_0_1_2 (broadcastInDim S1x1x31 ![2] bcast_S31_S1x1x31_2 (iotaInDim S31 32 0)))))

/-- The bias of every relative row, head and pair of columns, minus infinity outside the window. -/
def byRow (rpb : FVec Ideal S4x15x31 .f32) : FVec Ideal S15x4x64x64 .f32 :=
  select (broadcastInDim S15x4x64x64 ![0, 1, 2, 3] bcast_S1x1x64x64_S15x4x64x64_0_1_2_3
      (broadcastInDim S1x1x64x64 ![2, 3] bcast_S64x64_S1x1x64x64_2_3 (shapeCast S64x64 within shapeCasts_S64x64x1_S64x64)))
    (transpose S15x4x64x64 [3, 2, 0, 1] (Host.dotGeneral dot_S64x64x31_S4x15x31_S64x64x4x15_2_2_01_01_n_n (some .fp32) pick rpb) transposes_S64x64x4x15_S15x4x64x64_3_2_0_1)
    (broadcastInDim S15x4x64x64 ![] bcast_S_S15x4x64x64 (constant S_ .f32 0xFF800000#32))

/-- One relative row of the biases. -/
def slab (b : FVec Ideal S15x4x64x64 .f32) (o : Fin 4 → Nat) (h : S15x4x64x64.Slices o S1x4x64x64) : FVec Ideal S4x64x64 .f32 :=
  shapeCast S4x64x64 (extractStridedSlice S1x4x64x64 o b h) shapeCasts_S1x4x64x64_S4x64x64

/-- Eight relative rows side by side. -/
def strip (p0 p1 p2 p3 p4 p5 p6 p7 : FVec Ideal S4x64x64 .f32) : FVec Ideal S1x4x64x512 .f32 :=
  broadcastInDim S1x4x64x512 ![1, 2, 3] bcast_S4x64x512_S1x4x64x512_1_2_3
    (concatenate S4x64x512 2 [⟨S4x64x64, p0⟩, ⟨S4x64x64, p1⟩, ⟨S4x64x64, p2⟩, ⟨S4x64x64, p3⟩, ⟨S4x64x64, p4⟩, ⟨S4x64x64, p5⟩, ⟨S4x64x64, p6⟩, ⟨S4x64x64, p7⟩] concatenates_S4x64x64_S4x64x64_S4x64x64_S4x64x64_S4x64x64_S4x64x64_S4x64x64_S4x64x64_S4x64x512_d2)

/-- The bias table: for each offset of a row in its window, the window's eight rows side by side. -/
def tab (b : FVec Ideal S15x4x64x64 .f32) : FVec Ideal S8x256x512 .f32 :=
  shapeCast S8x256x512 (concatenate S8x4x64x512 0 [
    ⟨S1x4x64x512, strip (slab b ![7, 0, 0, 0] slices_S15x4x64x64_S1x4x64x64_7_0_0_0) (slab b ![8, 0, 0, 0] slices_S15x4x64x64_S1x4x64x64_8_0_0_0) (slab b ![9, 0, 0, 0] slices_S15x4x64x64_S1x4x64x64_9_0_0_0) (slab b ![10, 0, 0, 0] slices_S15x4x64x64_S1x4x64x64_10_0_0_0) (slab b ![11, 0, 0, 0] slices_S15x4x64x64_S1x4x64x64_11_0_0_0) (slab b ![12, 0, 0, 0] slices_S15x4x64x64_S1x4x64x64_12_0_0_0) (slab b ![13, 0, 0, 0] slices_S15x4x64x64_S1x4x64x64_13_0_0_0) (slab b ![14, 0, 0, 0] slices_S15x4x64x64_S1x4x64x64_14_0_0_0)⟩,
    ⟨S1x4x64x512, strip (slab b ![6, 0, 0, 0] slices_S15x4x64x64_S1x4x64x64_6_0_0_0) (slab b ![7, 0, 0, 0] slices_S15x4x64x64_S1x4x64x64_7_0_0_0) (slab b ![8, 0, 0, 0] slices_S15x4x64x64_S1x4x64x64_8_0_0_0) (slab b ![9, 0, 0, 0] slices_S15x4x64x64_S1x4x64x64_9_0_0_0) (slab b ![10, 0, 0, 0] slices_S15x4x64x64_S1x4x64x64_10_0_0_0) (slab b ![11, 0, 0, 0] slices_S15x4x64x64_S1x4x64x64_11_0_0_0) (slab b ![12, 0, 0, 0] slices_S15x4x64x64_S1x4x64x64_12_0_0_0) (slab b ![13, 0, 0, 0] slices_S15x4x64x64_S1x4x64x64_13_0_0_0)⟩,
    ⟨S1x4x64x512, strip (slab b ![5, 0, 0, 0] slices_S15x4x64x64_S1x4x64x64_5_0_0_0) (slab b ![6, 0, 0, 0] slices_S15x4x64x64_S1x4x64x64_6_0_0_0) (slab b ![7, 0, 0, 0] slices_S15x4x64x64_S1x4x64x64_7_0_0_0) (slab b ![8, 0, 0, 0] slices_S15x4x64x64_S1x4x64x64_8_0_0_0) (slab b ![9, 0, 0, 0] slices_S15x4x64x64_S1x4x64x64_9_0_0_0) (slab b ![10, 0, 0, 0] slices_S15x4x64x64_S1x4x64x64_10_0_0_0) (slab b ![11, 0, 0, 0] slices_S15x4x64x64_S1x4x64x64_11_0_0_0) (slab b ![12, 0, 0, 0] slices_S15x4x64x64_S1x4x64x64_12_0_0_0)⟩,
    ⟨S1x4x64x512, strip (slab b ![4, 0, 0, 0] slices_S15x4x64x64_S1x4x64x64_4_0_0_0) (slab b ![5, 0, 0, 0] slices_S15x4x64x64_S1x4x64x64_5_0_0_0) (slab b ![6, 0, 0, 0] slices_S15x4x64x64_S1x4x64x64_6_0_0_0) (slab b ![7, 0, 0, 0] slices_S15x4x64x64_S1x4x64x64_7_0_0_0) (slab b ![8, 0, 0, 0] slices_S15x4x64x64_S1x4x64x64_8_0_0_0) (slab b ![9, 0, 0, 0] slices_S15x4x64x64_S1x4x64x64_9_0_0_0) (slab b ![10, 0, 0, 0] slices_S15x4x64x64_S1x4x64x64_10_0_0_0) (slab b ![11, 0, 0, 0] slices_S15x4x64x64_S1x4x64x64_11_0_0_0)⟩,
    ⟨S1x4x64x512, strip (slab b ![3, 0, 0, 0] slices_S15x4x64x64_S1x4x64x64_3_0_0_0) (slab b ![4, 0, 0, 0] slices_S15x4x64x64_S1x4x64x64_4_0_0_0) (slab b ![5, 0, 0, 0] slices_S15x4x64x64_S1x4x64x64_5_0_0_0) (slab b ![6, 0, 0, 0] slices_S15x4x64x64_S1x4x64x64_6_0_0_0) (slab b ![7, 0, 0, 0] slices_S15x4x64x64_S1x4x64x64_7_0_0_0) (slab b ![8, 0, 0, 0] slices_S15x4x64x64_S1x4x64x64_8_0_0_0) (slab b ![9, 0, 0, 0] slices_S15x4x64x64_S1x4x64x64_9_0_0_0) (slab b ![10, 0, 0, 0] slices_S15x4x64x64_S1x4x64x64_10_0_0_0)⟩,
    ⟨S1x4x64x512, strip (slab b ![2, 0, 0, 0] slices_S15x4x64x64_S1x4x64x64_2_0_0_0) (slab b ![3, 0, 0, 0] slices_S15x4x64x64_S1x4x64x64_3_0_0_0) (slab b ![4, 0, 0, 0] slices_S15x4x64x64_S1x4x64x64_4_0_0_0) (slab b ![5, 0, 0, 0] slices_S15x4x64x64_S1x4x64x64_5_0_0_0) (slab b ![6, 0, 0, 0] slices_S15x4x64x64_S1x4x64x64_6_0_0_0) (slab b ![7, 0, 0, 0] slices_S15x4x64x64_S1x4x64x64_7_0_0_0) (slab b ![8, 0, 0, 0] slices_S15x4x64x64_S1x4x64x64_8_0_0_0) (slab b ![9, 0, 0, 0] slices_S15x4x64x64_S1x4x64x64_9_0_0_0)⟩,
    ⟨S1x4x64x512, strip (slab b ![1, 0, 0, 0] slices_S15x4x64x64_S1x4x64x64_1_0_0_0) (slab b ![2, 0, 0, 0] slices_S15x4x64x64_S1x4x64x64_2_0_0_0) (slab b ![3, 0, 0, 0] slices_S15x4x64x64_S1x4x64x64_3_0_0_0) (slab b ![4, 0, 0, 0] slices_S15x4x64x64_S1x4x64x64_4_0_0_0) (slab b ![5, 0, 0, 0] slices_S15x4x64x64_S1x4x64x64_5_0_0_0) (slab b ![6, 0, 0, 0] slices_S15x4x64x64_S1x4x64x64_6_0_0_0) (slab b ![7, 0, 0, 0] slices_S15x4x64x64_S1x4x64x64_7_0_0_0) (slab b ![8, 0, 0, 0] slices_S15x4x64x64_S1x4x64x64_8_0_0_0)⟩,
    ⟨S1x4x64x512, strip (slab b ![0, 0, 0, 0] slices_S15x4x64x64_S1x4x64x64_0_0_0_0) (slab b ![1, 0, 0, 0] slices_S15x4x64x64_S1x4x64x64_1_0_0_0) (slab b ![2, 0, 0, 0] slices_S15x4x64x64_S1x4x64x64_2_0_0_0) (slab b ![3, 0, 0, 0] slices_S15x4x64x64_S1x4x64x64_3_0_0_0) (slab b ![4, 0, 0, 0] slices_S15x4x64x64_S1x4x64x64_4_0_0_0) (slab b ![5, 0, 0, 0] slices_S15x4x64x64_S1x4x64x64_5_0_0_0) (slab b ![6, 0, 0, 0] slices_S15x4x64x64_S1x4x64x64_6_0_0_0) (slab b ![7, 0, 0, 0] slices_S15x4x64x64_S1x4x64x64_7_0_0_0)⟩] concatenates_S1x4x64x512_S1x4x64x512_S1x4x64x512_S1x4x64x512_S1x4x64x512_S1x4x64x512_S1x4x64x512_S1x4x64x512_S8x4x64x512_d0) shapeCasts_S8x4x64x512_S8x256x512

/-- A concatenation of eight operands, each operand's contents at its own reference. -/
theorem eight (x0 x1 x2 x3 x4 x5 x6 x7 y : Ref sig .tc)
    (f : ((k : Fin 8) → ((![x0, x1, x2, x3, x4, x5, x6, x7] : Fin 8 → Ref sig .tc) k).ty.Contents (Elt Ideal)) → y.ty.Contents (Elt Ideal)) (hxs hy)
    (W : Valuation τ sig (Elt Ideal)) :
    (StableHlo.nary (τ := τ) ![x0, x1, x2, x3, x4, x5, x6, x7] y f hxs hy).result W (no_index (Proc.devRef .tc y))
      = f (Fin.cons (W (Proc.devRef .tc x0)) (Fin.cons (W (Proc.devRef .tc x1)) (Fin.cons (W (Proc.devRef .tc x2)) (Fin.cons (W (Proc.devRef .tc x3))
          (Fin.cons (W (Proc.devRef .tc x4)) (Fin.cons (W (Proc.devRef .tc x5)) (Fin.cons (W (Proc.devRef .tc x6)) (Fin.cons (W (Proc.devRef .tc x7)) (fun i => i.elim0))))))))) := by
  rw [StableHlo.nary_result]
  congr 1
  funext k
  fin_cases k <;> rfl

variable (m : (ℓ : Loc nD τ sig) → Buf (Elt Ideal) ℓ)

theorem V_q (c : Dev nD) : V m c main_v2 = truncf (F := Ideal) .bf16 (mulf (m ((c : Thread nD τ).loc main_arg0)) (broadcastInDim S8x4096x256 ![] bcast_S_S8x4096x256 (constant (F := Ideal) S_ .f32 0x3E000000#32))) bitsLt_bf16_f32 := by
  unfold V hostOps0 hostOps0_1 hostOps0_2 hostOps0_3 hostOps0_4
  after_results_simp
  rfl

set_option maxHeartbeats 1000000 in
theorem tab_of (W : Valuation τ sig (Elt Ideal)) : StableHlo.after hostOps0_4 W main_v188 = tab (W main_v42) := by
  unfold hostOps0_4
  after_reads_simp [↓ eight]
  rfl

end Cert.Proof.Na
end
-- ==== Proof.NaTab.lean ====
module

public import proofs.«01_k».proof.Proof.NaHost

@[expose] public section

noncomputable section

namespace Cert.Proof.Na

open Cert.KernelIdeal Cert.KernelIdeal.Gen Idealize.ShloMosaic Idealize.ShloMosaic.TcCoe

theorem after_app (l l' : List (HloOp τ sig (Elt Ideal))) (W : Valuation τ sig (Elt Ideal)) :
    StableHlo.after (l ++ l') W = StableHlo.after l' (StableHlo.after l W) := by
  induction l generalizing W with
  | nil => rfl
  | cons a l ih => exact ih _

variable (m : (ℓ : Loc nD τ sig) → Buf (Elt Ideal) ℓ)

theorem V_row (W : Valuation τ sig (Elt Ideal)) :
    StableHlo.after (List.flatten [hostOps0, hostOps0_1, hostOps0_2, hostOps0_3]) W main_v42 = byRow (W main_arg5) := by
  unfold hostOps0 hostOps0_1 hostOps0_2 hostOps0_3
  after_reads_simp
  rfl

theorem V_tab (c : Dev nD) : V m c main_v188 = tab (byRow (m ((c : Thread nD τ).loc main_arg5))) := by
  have h : List.flatten [hostOps0, hostOps0_1, hostOps0_2, hostOps0_3, hostOps0_4]
      = List.flatten [hostOps0, hostOps0_1, hostOps0_2, hostOps0_3] ++ (hostOps0_4 : List (HloOp τ sig (Elt Ideal))) := by
    simp only [List.flatten_cons, List.flatten_nil, List.append_nil, List.append_assoc]
  unfold V
  rw [h, after_app, tab_of, V_row]

/-- The first column of a query column's window. -/
def cstart (c : Fin 64) : Nat := min 48 (c.val - 8)

theorem cstart_le (c : Fin 64) : cstart c ≤ 48 := Nat.min_le_left _ _

theorem within_apply (c k : Fin 64) : within (ix3 c k 0) = if cstart c ≤ k.val ∧ k.val < cstart c + 16 then 1#1 else 0#1 := by
  pointwise [within, wstart]
  revert c k
  decide +kernel

theorem rel_apply (c k : Fin 64) : rel (ix3 c k 0) = BitVec.ofNat 32 k.val - BitVec.ofNat 32 c.val + 16#32 - 1#32 := by
  pointwise [rel]
  rfl

theorem rel_within (c k : Fin 64) (h : cstart c ≤ k.val ∧ k.val < cstart c + 16) :
    BitVec.ofNat 32 k.val - BitVec.ofNat 32 c.val + 16#32 - 1#32 = BitVec.ofNat 32 (k.val + 15 - c.val) := by
  revert c k
  decide +kernel

theorem within_bound (c k : Fin 64) (h : cstart c ≤ k.val ∧ k.val < cstart c + 16) : c.val ≤ k.val + 15 ∧ k.val + 15 - c.val < 31 := by
  unfold cstart at h; omega

theorem uitofp_one : (FloatOps.uitofp (F := Ideal) FTy.f32 (1#1)) = (1 : EReal) := by
  show ((BitVec.toNat 1#1 : ℝ) : EReal) = 1
  simp
theorem uitofp_zero : (FloatOps.uitofp (F := Ideal) FTy.f32 (0#1)) = (0 : EReal) := by
  show ((BitVec.toNat 0#1 : ℝ) : EReal) = 0
  simp
theorem cmpi_eq_self (a : BitVec 32) : IntOp.cmpi .eq a a = 1#1 := by simp [IntOp.cmpi]
theorem cmpi_eq_ne (a b : BitVec 32) (h : a ≠ b) : IntOp.cmpi .eq a b = 0#1 := by
  show BitVec.ofBool (a == b) = 0#1
  rw [beq_eq_false_iff_ne.2 h]
  rfl

theorem pick_apply (c k : Fin 64) (h : cstart c ≤ k.val ∧ k.val < cstart c + 16) (x : Fin 31) :
    pick (ix3 c k x) = if k.val + 15 - c.val = x.val then 1 else 0 := by
  have e : pick (ix3 c k x) = FloatOps.uitofp (F := Ideal) FTy.f32 (IntOp.andi (within (ix3 c k 0)) (IntOp.cmpi .eq (rel (ix3 c k 0)) (BitVec.ofNat 32 x.val))) := by
    pointwise [pick]
  rw [e, within_apply, if_pos h, rel_apply, rel_within c k h]
  have hb := within_bound c k h
  by_cases hx : k.val + 15 - c.val = x.val
  · rw [if_pos hx, hx, cmpi_eq_self]
    exact uitofp_one
  · rw [if_neg hx, cmpi_eq_ne]
    · exact uitofp_zero
    · intro h'
      have := congrArg BitVec.toNat h'
      simp only [BitVec.toNat_ofNat] at this
      omega

theorem byRow_apply (rpb : FVec Ideal S4x15x31 .f32) (r : Fin 15) (h : Fin 4) (c k : Fin 64) :
    byRow rpb (ix4 r h c k) = if hk : cstart c ≤ k.val ∧ k.val < cstart c + 16
      then rpb (ix3 h r ⟨k.val + 15 - c.val, (within_bound c k hk).2⟩) else ⊥ := by
  have e : byRow rpb (ix4 r h c k) = if within (ix3 c k 0) = 1#1 then ∑ x : Fin 31, pick (ix3 c k x) * rpb (ix3 h r x) else Ideal.ofBits FTy.f32 4286578688#32 := by
    pointwise [byRow]
    rfl
  rw [e, within_apply]
  split
  · rename_i hk
    rw [if_pos rfl]
    simp only [pick_apply c k hk]
    refine (Finset.sum_eq_single (⟨k.val + 15 - c.val, (within_bound c k hk).2⟩ : Fin 31) ?_ ?_).trans ?_
    · intro x _ hx
      rw [if_neg (fun h' => hx (Fin.ext h'.symm)), zero_mul]
    · intro hx; exact absurd (Finset.mem_univ _) hx
    · rw [if_pos rfl, one_mul]
  · rw [if_neg (by decide), bot_f32]

theorem strip_apply (p0 p1 p2 p3 p4 p5 p6 p7 : FVec Ideal S4x64x64 .f32) (h : Fin 4) (c : Fin 64) (j : Fin 8) (k : Fin 64) :
    strip p0 p1 p2 p3 p4 p5 p6 p7 (ix4 0 h c ⟨64 * j.val + k.val, by omega⟩) = (![p0, p1, p2, p3, p4, p5, p6, p7] j) (ix3 h c k) := by
  have hk := k.isLt
  obtain ⟨j, hj⟩ := j
  interval_cases j <;> (unfold strip; pointwise)
  all_goals
    repeat (first | rw [dif_neg (by omega)] | rw [dif_pos (by omega)])
    refine congrArg _ (congrArg (ix3 h c) (Fin.ext ?_))
    dsimp only
    omega

theorem slab_apply (b : FVec Ideal S15x4x64x64 .f32) (n : Nat) (hn : n < 15) (hs : S15x4x64x64.Slices ![n, 0, 0, 0] S1x4x64x64) (h : Fin 4) (c k : Fin 64) :
    slab b ![n, 0, 0, 0] hs (ix3 h c k) = b (ix4 ⟨n, hn⟩ h c k) := by
  unfold slab
  pointwise

theorem tab_apply (b : FVec Ideal S15x4x64x64 .f32) (o : Fin 8) (h : Fin 4) (c : Fin 64) (j : Fin 8) (k : Fin 64) :
    tab b (ix3 o ⟨64 * h.val + c.val, by omega⟩ ⟨64 * j.val + k.val, by omega⟩) = b (ix4 ⟨j.val + 7 - o.val, by omega⟩ h c k) := by
  obtain ⟨o, ho⟩ := o
  interval_cases o <;> (unfold tab; pointwise)
  all_goals
    refine (strip_apply _ _ _ _ _ _ _ _ h c j k).trans ?_
    obtain ⟨j, hj⟩ := j
    interval_cases j <;> exact slab_apply b _ (by omega) (by decide) h c k

end Cert.Proof.Na
end
-- ==== Proof.NaRows.lean ====
module

public import proofs.«01_k».proof.Proof.NaBlock
public import proofs.«01_k».proof.Proof.NaTab
public import Idealize.ShloMosaic.Lib.Pipeline.ValueKit.Tiles

@[expose] public section

noncomputable section

namespace Cert.Proof.Na

open Cert.KernelIdeal Cert.KernelIdeal.Gen Idealize.ShloMosaic Idealize.ShloMosaic.TcCoe

/-- The first row of a query row's window. -/
def rstart (R : Fin 64) : Nat := min 56 (R.val - 4)

theorem rstart_le (R : Fin 64) : rstart R ≤ 56 := Nat.min_le_left _ _
theorem rstart_off (R : Fin 64) : rstart R ≤ R.val ∧ R.val - rstart R < 8 := by unfold rstart; omega

/-- Row `n` of the sixteen that grid coordinate `g` takes. -/
def rowOf (g : Fin 4) (n : Fin 16) : Fin 64 := ⟨16 * g.val + n.val, by omega⟩

theorem off1_eq (i : grid0.Coords) (n : Fin 16) : k0_off1 i (BitVec.ofNat 32 n.val) = ![0, 64 * rstart (rowOf (i 1) n), 0] := by
  have h : ∀ (g : Fin 4) (n : Fin 16), k0_off1 (fun a => if h : a = 1 then h ▸ g else ⟨0, by revert a; decide⟩) (BitVec.ofNat 32 n.val) = ![0, 64 * rstart (rowOf g n), 0] := by decide +kernel
  exact h (i 1) n

theorem off2_eq (i : grid0.Coords) (n : Fin 16) : k0_off2 i (BitVec.ofNat 32 n.val) = ![(rowOf (i 1) n).val - rstart (rowOf (i 1) n), 0, 0] := by
  have h : ∀ (g : Fin 4) (n : Fin 16), k0_off2 (fun a => if h : a = 1 then h ▸ g else ⟨0, by revert a; decide⟩) (BitVec.ofNat 32 n.val) = ![(rowOf g n).val - rstart (rowOf g n), 0, 0] := by decide +kernel
  exact h (i 1) n

theorem ld_q (a : Memref sig .tc .vmem S1x1024x256 .bf16) (ha : a.IsWhole) (x : Vec Ideal S1x1024x256 .bf16) (n : Fin 16) (o : Fin 3 → Nat)
    (ho : o = ![0, 64 * n.val, 0]) (hin) :
    View.readAt (Elt Ideal) a.view (Rect.unit (s := S1x1024x256) o S1x64x256.size hin).toLoadRect (ha.unread x)
      = fun j => x (ix3 0 ⟨64 * n.val + (j 1).val, by have : (j 1).val < 64 := (j 1).isLt; omega⟩ (j 2)) := by
  subst ho
  rw [View.readAt_eq_ld, ha.read_unread]
  funext j
  refine congrArg x (funext fun a => Fin.ext ?_)
  have h0 : (j 0).val < 1 := (j 0).isLt
  match a with
  | ⟨0, _⟩ => show 0 + 1 * (j 0).val = 0; omega
  | ⟨1, _⟩ => show 64 * n.val + 1 * (j 1).val = 64 * n.val + (j 1).val; omega
  | ⟨2, _⟩ => show 0 + 1 * (j 2).val = (j 2).val; omega

theorem ld_k (a : Memref sig .tc .vmem S1x4096x256 .bf16) (ha : a.IsWhole) (x : Vec Ideal S1x4096x256 .bf16) (R : Fin 64) (o : Fin 3 → Nat)
    (ho : o = ![0, 64 * rstart R, 0]) (hin) :
    View.readAt (Elt Ideal) a.view (Rect.unit (s := S1x4096x256) o S1x512x256.size hin).toLoadRect (ha.unread x)
      = fun j => x (ix3 0 ⟨64 * rstart R + (j 1).val, by have : (j 1).val < 512 := (j 1).isLt; have := rstart_le R; omega⟩ (j 2)) := by
  subst ho
  rw [View.readAt_eq_ld, ha.read_unread]
  funext j
  refine congrArg x (funext fun a => Fin.ext ?_)
  have h0 : (j 0).val < 1 := (j 0).isLt
  match a with
  | ⟨0, _⟩ => show 0 + 1 * (j 0).val = 0; omega
  | ⟨1, _⟩ => show 64 * rstart R + 1 * (j 1).val = 64 * rstart R + (j 1).val; omega
  | ⟨2, _⟩ => show 0 + 1 * (j 2).val = (j 2).val; omega

theorem ld_t (a : Memref sig .tc .vmem S8x256x512 .f32) (ha : a.IsWhole) (x : Vec Ideal S8x256x512 .f32) (R : Fin 64) (o : Fin 3 → Nat)
    (ho : o = ![R.val - rstart R, 0, 0]) (hin) :
    View.readAt (Elt Ideal) a.view (Rect.unit (s := S8x256x512) o S1x256x512.size hin).toLoadRect (ha.unread x)
      = fun j => x (ix3 ⟨R.val - rstart R, (rstart_off R).2⟩ (j 1) (j 2)) := by
  subst ho
  rw [View.readAt_eq_ld, ha.read_unread]
  funext j
  refine congrArg x (funext fun a => Fin.ext ?_)
  have h0 : (j 0).val < 1 := (j 0).isLt
  match a with
  | ⟨0, _⟩ => show R.val - rstart R + 1 * (j 0).val = R.val - rstart R; omega
  | ⟨1, _⟩ => show 0 + 1 * (j 1).val = (j 1).val; omega
  | ⟨2, _⟩ => show 0 + 1 * (j 2).val = (j 2).val; omega

theorem ld_c (a : Memref sig .tc .vmem S1x256x256 .bf16) (ha : a.IsWhole) (x : Vec Ideal S1x256x256 .bf16) (hin) :
    View.readAt (Elt Ideal) a.view (Rect.unit (s := S1x256x256) ![0, 0, 0] S1x256x256.size hin).toLoadRect (ha.unread x) = x := by
  rw [View.readAt_eq_ld, ha.read_unread]
  funext j
  refine congrArg x (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- What the kernel leaves at one index of its block. -/
def rowVal (g : Fin 4) (x0 : Vec Ideal S1x1024x256 .bf16) (x1 x2 : Vec Ideal S1x4096x256 .bf16) (x3 x4 : Vec Ideal S1x256x256 .bf16)
    (x5 : Vec Ideal S8x256x512 .f32) (n : Fin 16) : Vec Ideal S1x64x256 .bf16 :=
  rowPay (fun j => x0 (ix3 0 ⟨64 * n.val + (j 1).val, by have : (j 1).val < 64 := (j 1).isLt; omega⟩ (j 2)))
    (fun j => x1 (ix3 0 ⟨64 * rstart (rowOf g n) + (j 1).val, by have : (j 1).val < 512 := (j 1).isLt; have := rstart_le (rowOf g n); omega⟩ (j 2)))
    (fun j => x2 (ix3 0 ⟨64 * rstart (rowOf g n) + (j 1).val, by have : (j 1).val < 512 := (j 1).isLt; have := rstart_le (rowOf g n); omega⟩ (j 2)))
    (fun j => x5 (ix3 ⟨(rowOf g n).val - rstart (rowOf g n), (rstart_off (rowOf g n)).2⟩ (j 1) (j 2))) x3 x4

theorem loc (x : S1x64x256.Idx) (r : Fin 64) (d : Fin 256) (z : Nat) (h0 : z = (x 0).val) (h1 : r.val = (x 1).val) (h2 : d.val = (x 2).val) : x = ix3 0 r d := by
  funext a
  apply Fin.ext
  match a with
  | ⟨0, _⟩ => have h : (x 0).val < 1 := (x 0).isLt; show (x 0).val = 0; omega
  | ⟨1, _⟩ => exact h1.symm
  | ⟨2, _⟩ => exact h2.symm

theorem row_eq (i : grid0.Coords) (n : Fin 16) (arg2 : Memref sig .tc .vmem S1x1024x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S8x256x512 .f32) (harg7 : arg7.IsWhole)
    (x0 : Vec Ideal S1x1024x256 .bf16) (x1 x2 : Vec Ideal S1x4096x256 .bf16) (x3 x4 : Vec Ideal S1x256x256 .bf16) (x5 : Vec Ideal S8x256x512 .f32)
    (o : Fin 3 → Nat) (ho : o = ![0, 64 * n.val, 0]) (hq) (o1 : Fin 3 → Nat) (ho1 : o1 = ![0, 64 * rstart (rowOf (i 1) n), 0]) (hk hv)
    (o2 : Fin 3 → Nat) (ho2 : o2 = ![(rowOf (i 1) n).val - rstart (rowOf (i 1) n), 0, 0]) (ht hkc hvc) (x : S1x64x256.Idx) :
    rowPay (View.readAt (Elt Ideal) arg2.view (Rect.unit (s := S1x1024x256) o S1x64x256.size hq).toLoadRect (harg2.unread x0))
      (View.readAt (Elt Ideal) arg3.view (Rect.unit (s := S1x4096x256) o1 S1x512x256.size hk).toLoadRect (harg3.unread x1))
      (View.readAt (Elt Ideal) arg4.view (Rect.unit (s := S1x4096x256) o1 S1x512x256.size hv).toLoadRect (harg4.unread x2))
      (View.readAt (Elt Ideal) arg7.view (Rect.unit (s := S8x256x512) o2 S1x256x512.size ht).toLoadRect (harg7.unread x5))
      (View.readAt (Elt Ideal) arg5.view (Rect.unit (s := S1x256x256) ![0, 0, 0] S1x256x256.size hkc).toLoadRect (harg5.unread x3))
      (View.readAt (Elt Ideal) arg6.view (Rect.unit (s := S1x256x256) ![0, 0, 0] S1x256x256.size hvc).toLoadRect (harg6.unread x4)) x
      = rowVal (i 1) x0 x1 x2 x3 x4 x5 n x := by
  rw [ld_q arg2 harg2 x0 n o ho, ld_k arg3 harg3 x1 _ o1 ho1, ld_k arg4 harg4 x2 _ o1 ho1, ld_t arg7 harg7 x5 _ o2 ho2, ld_c arg5 harg5 x3, ld_c arg6 harg6 x4]
  rfl

set_option maxRecDepth 16384 in
theorem out_rows (c : Dev nD) (i : grid0.Coords) (arg2 : Memref sig .tc .vmem S1x1024x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S8x256x512 .f32) (harg7 : arg7.IsWhole) (arg8 : Memref sig .tc .vmem S1x1024x256 .bf16) (harg8 : arg8.IsWhole)
    (x0 : Vec Ideal S1x1024x256 .bf16) (x1 x2 : Vec Ideal S1x4096x256 .bf16) (x3 x4 : Vec Ideal S1x256x256 .bf16) (x5 : Vec Ideal S8x256x512 .f32)
    (n : Fin 16) (r : Fin 64) (d : Fin 256) :
    out0_A_6 c i arg2 harg2 arg3 harg3 arg4 harg4 arg5 harg5 arg6 harg6 arg7 harg7 arg8 harg8 x0 x1 x2 x3 x4 x5 (ix3 0 ⟨64 * n.val + r.val, by omega⟩ d)
      = rowVal (i 1) x0 x1 x2 x3 x4 x5 n (ix3 0 r d) := by
  rw [out_pieces]
  canon_tiles x hx
  case piece0 =>
    have en : n = ⟨15, by decide⟩ := Fin.ext (by have e1 : 64 * n.val + r.val = 960 + (x 1).val := hx1; have : (x 1).val < 64 := (x 1).isLt; show n.val = 15; omega)
    refine (row_eq i ⟨15, by decide⟩ arg2 harg2 arg3 harg3 arg4 harg4 arg5 harg5 arg6 harg6 arg7 harg7 x0 x1 x2 x3 x4 x5 _ rfl _ _ (off1_eq i ⟨15, by decide⟩) _ _ _ (off2_eq i ⟨15, by decide⟩) _ _ _ x).trans ?_
    rw [en]
    refine congrArg _ (loc x r d _ hx0 ?_ hx2)
    have e1 : 64 * n.val + r.val = 960 + (x 1).val := hx1
    rw [en] at e1
    have e2 : 64 * 15 + r.val = 960 + (x 1).val := e1
    omega
  case piece1 =>
    have en : n = ⟨14, by decide⟩ := Fin.ext (by have e1 : 64 * n.val + r.val = 896 + (x 1).val := hx1; have : (x 1).val < 64 := (x 1).isLt; show n.val = 14; omega)
    refine (row_eq i ⟨14, by decide⟩ arg2 harg2 arg3 harg3 arg4 harg4 arg5 harg5 arg6 harg6 arg7 harg7 x0 x1 x2 x3 x4 x5 _ rfl _ _ (off1_eq i ⟨14, by decide⟩) _ _ _ (off2_eq i ⟨14, by decide⟩) _ _ _ x).trans ?_
    rw [en]
    refine congrArg _ (loc x r d _ hx0 ?_ hx2)
    have e1 : 64 * n.val + r.val = 896 + (x 1).val := hx1
    rw [en] at e1
    have e2 : 64 * 14 + r.val = 896 + (x 1).val := e1
    omega
  case piece2 =>
    have en : n = ⟨13, by decide⟩ := Fin.ext (by have e1 : 64 * n.val + r.val = 832 + (x 1).val := hx1; have : (x 1).val < 64 := (x 1).isLt; show n.val = 13; omega)
    refine (row_eq i ⟨13, by decide⟩ arg2 harg2 arg3 harg3 arg4 harg4 arg5 harg5 arg6 harg6 arg7 harg7 x0 x1 x2 x3 x4 x5 _ rfl _ _ (off1_eq i ⟨13, by decide⟩) _ _ _ (off2_eq i ⟨13, by decide⟩) _ _ _ x).trans ?_
    rw [en]
    refine congrArg _ (loc x r d _ hx0 ?_ hx2)
    have e1 : 64 * n.val + r.val = 832 + (x 1).val := hx1
    rw [en] at e1
    have e2 : 64 * 13 + r.val = 832 + (x 1).val := e1
    omega
  case piece3 =>
    have en : n = ⟨12, by decide⟩ := Fin.ext (by have e1 : 64 * n.val + r.val = 768 + (x 1).val := hx1; have : (x 1).val < 64 := (x 1).isLt; show n.val = 12; omega)
    refine (row_eq i ⟨12, by decide⟩ arg2 harg2 arg3 harg3 arg4 harg4 arg5 harg5 arg6 harg6 arg7 harg7 x0 x1 x2 x3 x4 x5 _ rfl _ _ (off1_eq i ⟨12, by decide⟩) _ _ _ (off2_eq i ⟨12, by decide⟩) _ _ _ x).trans ?_
    rw [en]
    refine congrArg _ (loc x r d _ hx0 ?_ hx2)
    have e1 : 64 * n.val + r.val = 768 + (x 1).val := hx1
    rw [en] at e1
    have e2 : 64 * 12 + r.val = 768 + (x 1).val := e1
    omega
  case piece4 =>
    have en : n = ⟨11, by decide⟩ := Fin.ext (by have e1 : 64 * n.val + r.val = 704 + (x 1).val := hx1; have : (x 1).val < 64 := (x 1).isLt; show n.val = 11; omega)
    refine (row_eq i ⟨11, by decide⟩ arg2 harg2 arg3 harg3 arg4 harg4 arg5 harg5 arg6 harg6 arg7 harg7 x0 x1 x2 x3 x4 x5 _ rfl _ _ (off1_eq i ⟨11, by decide⟩) _ _ _ (off2_eq i ⟨11, by decide⟩) _ _ _ x).trans ?_
    rw [en]
    refine congrArg _ (loc x r d _ hx0 ?_ hx2)
    have e1 : 64 * n.val + r.val = 704 + (x 1).val := hx1
    rw [en] at e1
    have e2 : 64 * 11 + r.val = 704 + (x 1).val := e1
    omega
  case piece5 =>
    have en : n = ⟨10, by decide⟩ := Fin.ext (by have e1 : 64 * n.val + r.val = 640 + (x 1).val := hx1; have : (x 1).val < 64 := (x 1).isLt; show n.val = 10; omega)
    refine (row_eq i ⟨10, by decide⟩ arg2 harg2 arg3 harg3 arg4 harg4 arg5 harg5 arg6 harg6 arg7 harg7 x0 x1 x2 x3 x4 x5 _ rfl _ _ (off1_eq i ⟨10, by decide⟩) _ _ _ (off2_eq i ⟨10, by decide⟩) _ _ _ x).trans ?_
    rw [en]
    refine congrArg _ (loc x r d _ hx0 ?_ hx2)
    have e1 : 64 * n.val + r.val = 640 + (x 1).val := hx1
    rw [en] at e1
    have e2 : 64 * 10 + r.val = 640 + (x 1).val := e1
    omega
  case piece6 =>
    have en : n = ⟨9, by decide⟩ := Fin.ext (by have e1 : 64 * n.val + r.val = 576 + (x 1).val := hx1; have : (x 1).val < 64 := (x 1).isLt; show n.val = 9; omega)
    refine (row_eq i ⟨9, by decide⟩ arg2 harg2 arg3 harg3 arg4 harg4 arg5 harg5 arg6 harg6 arg7 harg7 x0 x1 x2 x3 x4 x5 _ rfl _ _ (off1_eq i ⟨9, by decide⟩) _ _ _ (off2_eq i ⟨9, by decide⟩) _ _ _ x).trans ?_
    rw [en]
    refine congrArg _ (loc x r d _ hx0 ?_ hx2)
    have e1 : 64 * n.val + r.val = 576 + (x 1).val := hx1
    rw [en] at e1
    have e2 : 64 * 9 + r.val = 576 + (x 1).val := e1
    omega
  case piece7 =>
    have en : n = ⟨8, by decide⟩ := Fin.ext (by have e1 : 64 * n.val + r.val = 512 + (x 1).val := hx1; have : (x 1).val < 64 := (x 1).isLt; show n.val = 8; omega)
    refine (row_eq i ⟨8, by decide⟩ arg2 harg2 arg3 harg3 arg4 harg4 arg5 harg5 arg6 harg6 arg7 harg7 x0 x1 x2 x3 x4 x5 _ rfl _ _ (off1_eq i ⟨8, by decide⟩) _ _ _ (off2_eq i ⟨8, by decide⟩) _ _ _ x).trans ?_
    rw [en]
    refine congrArg _ (loc x r d _ hx0 ?_ hx2)
    have e1 : 64 * n.val + r.val = 512 + (x 1).val := hx1
    rw [en] at e1
    have e2 : 64 * 8 + r.val = 512 + (x 1).val := e1
    omega
  case piece8 =>
    have en : n = ⟨7, by decide⟩ := Fin.ext (by have e1 : 64 * n.val + r.val = 448 + (x 1).val := hx1; have : (x 1).val < 64 := (x 1).isLt; show n.val = 7; omega)
    refine (row_eq i ⟨7, by decide⟩ arg2 harg2 arg3 harg3 arg4 harg4 arg5 harg5 arg6 harg6 arg7 harg7 x0 x1 x2 x3 x4 x5 _ rfl _ _ (off1_eq i ⟨7, by decide⟩) _ _ _ (off2_eq i ⟨7, by decide⟩) _ _ _ x).trans ?_
    rw [en]
    refine congrArg _ (loc x r d _ hx0 ?_ hx2)
    have e1 : 64 * n.val + r.val = 448 + (x 1).val := hx1
    rw [en] at e1
    have e2 : 64 * 7 + r.val = 448 + (x 1).val := e1
    omega
  case piece9 =>
    have en : n = ⟨6, by decide⟩ := Fin.ext (by have e1 : 64 * n.val + r.val = 384 + (x 1).val := hx1; have : (x 1).val < 64 := (x 1).isLt; show n.val = 6; omega)
    refine (row_eq i ⟨6, by decide⟩ arg2 harg2 arg3 harg3 arg4 harg4 arg5 harg5 arg6 harg6 arg7 harg7 x0 x1 x2 x3 x4 x5 _ rfl _ _ (off1_eq i ⟨6, by decide⟩) _ _ _ (off2_eq i ⟨6, by decide⟩) _ _ _ x).trans ?_
    rw [en]
    refine congrArg _ (loc x r d _ hx0 ?_ hx2)
    have e1 : 64 * n.val + r.val = 384 + (x 1).val := hx1
    rw [en] at e1
    have e2 : 64 * 6 + r.val = 384 + (x 1).val := e1
    omega
  case piece10 =>
    have en : n = ⟨5, by decide⟩ := Fin.ext (by have e1 : 64 * n.val + r.val = 320 + (x 1).val := hx1; have : (x 1).val < 64 := (x 1).isLt; show n.val = 5; omega)
    refine (row_eq i ⟨5, by decide⟩ arg2 harg2 arg3 harg3 arg4 harg4 arg5 harg5 arg6 harg6 arg7 harg7 x0 x1 x2 x3 x4 x5 _ rfl _ _ (off1_eq i ⟨5, by decide⟩) _ _ _ (off2_eq i ⟨5, by decide⟩) _ _ _ x).trans ?_
    rw [en]
    refine congrArg _ (loc x r d _ hx0 ?_ hx2)
    have e1 : 64 * n.val + r.val = 320 + (x 1).val := hx1
    rw [en] at e1
    have e2 : 64 * 5 + r.val = 320 + (x 1).val := e1
    omega
  case piece11 =>
    have en : n = ⟨4, by decide⟩ := Fin.ext (by have e1 : 64 * n.val + r.val = 256 + (x 1).val := hx1; have : (x 1).val < 64 := (x 1).isLt; show n.val = 4; omega)
    refine (row_eq i ⟨4, by decide⟩ arg2 harg2 arg3 harg3 arg4 harg4 arg5 harg5 arg6 harg6 arg7 harg7 x0 x1 x2 x3 x4 x5 _ rfl _ _ (off1_eq i ⟨4, by decide⟩) _ _ _ (off2_eq i ⟨4, by decide⟩) _ _ _ x).trans ?_
    rw [en]
    refine congrArg _ (loc x r d _ hx0 ?_ hx2)
    have e1 : 64 * n.val + r.val = 256 + (x 1).val := hx1
    rw [en] at e1
    have e2 : 64 * 4 + r.val = 256 + (x 1).val := e1
    omega
  case piece12 =>
    have en : n = ⟨3, by decide⟩ := Fin.ext (by have e1 : 64 * n.val + r.val = 192 + (x 1).val := hx1; have : (x 1).val < 64 := (x 1).isLt; show n.val = 3; omega)
    refine (row_eq i ⟨3, by decide⟩ arg2 harg2 arg3 harg3 arg4 harg4 arg5 harg5 arg6 harg6 arg7 harg7 x0 x1 x2 x3 x4 x5 _ rfl _ _ (off1_eq i ⟨3, by decide⟩) _ _ _ (off2_eq i ⟨3, by decide⟩) _ _ _ x).trans ?_
    rw [en]
    refine congrArg _ (loc x r d _ hx0 ?_ hx2)
    have e1 : 64 * n.val + r.val = 192 + (x 1).val := hx1
    rw [en] at e1
    have e2 : 64 * 3 + r.val = 192 + (x 1).val := e1
    omega
  case piece13 =>
    have en : n = ⟨2, by decide⟩ := Fin.ext (by have e1 : 64 * n.val + r.val = 128 + (x 1).val := hx1; have : (x 1).val < 64 := (x 1).isLt; show n.val = 2; omega)
    refine (row_eq i ⟨2, by decide⟩ arg2 harg2 arg3 harg3 arg4 harg4 arg5 harg5 arg6 harg6 arg7 harg7 x0 x1 x2 x3 x4 x5 _ rfl _ _ (off1_eq i ⟨2, by decide⟩) _ _ _ (off2_eq i ⟨2, by decide⟩) _ _ _ x).trans ?_
    rw [en]
    refine congrArg _ (loc x r d _ hx0 ?_ hx2)
    have e1 : 64 * n.val + r.val = 128 + (x 1).val := hx1
    rw [en] at e1
    have e2 : 64 * 2 + r.val = 128 + (x 1).val := e1
    omega
  case piece14 =>
    have en : n = ⟨1, by decide⟩ := Fin.ext (by have e1 : 64 * n.val + r.val = 64 + (x 1).val := hx1; have : (x 1).val < 64 := (x 1).isLt; show n.val = 1; omega)
    refine (row_eq i ⟨1, by decide⟩ arg2 harg2 arg3 harg3 arg4 harg4 arg5 harg5 arg6 harg6 arg7 harg7 x0 x1 x2 x3 x4 x5 _ rfl _ _ (off1_eq i ⟨1, by decide⟩) _ _ _ (off2_eq i ⟨1, by decide⟩) _ _ _ x).trans ?_
    rw [en]
    refine congrArg _ (loc x r d _ hx0 ?_ hx2)
    have e1 : 64 * n.val + r.val = 64 + (x 1).val := hx1
    rw [en] at e1
    have e2 : 64 * 1 + r.val = 64 + (x 1).val := e1
    omega
  case piece15 =>
    have en : n = ⟨0, by decide⟩ := Fin.ext (by have e1 : 64 * n.val + r.val = (x 1).val := hx1; have : (x 1).val < 64 := (x 1).isLt; show n.val = 0; omega)
    refine (row_eq i ⟨0, by decide⟩ arg2 harg2 arg3 harg3 arg4 harg4 arg5 harg5 arg6 harg6 arg7 harg7 x0 x1 x2 x3 x4 x5 _ rfl _ _ (off1_eq i ⟨0, by decide⟩) _ _ _ (off2_eq i ⟨0, by decide⟩) _ _ _ x).trans ?_
    rw [en]
    refine congrArg _ (loc x r d _ hx0 ?_ hx2)
    have e1 : 64 * n.val + r.val = (x 1).val := hx1
    rw [en] at e1
    have e2 : 64 * 0 + r.val = (x 1).val := e1
    omega

end Cert.Proof.Na
end
-- ==== Proof.NaCell.lean ====
module

public import proofs.«01_k».proof.Proof.NaRows

@[expose] public section

noncomputable section

namespace Cert.Proof.Na

open Cert.KernelIdeal Cert.KernelIdeal.Gen Idealize.ShloMosaic Idealize.ShloMosaic.TcCoe

/-- The token of grid row `R` and column `c`. -/
def at' (R c : Fin 64) : Fin 4096 := ⟨64 * R.val + c.val, by omega⟩

/-- The lane of a head's component. -/
def lane (h : Fin 4) (e : Fin 64) : Fin 256 := ⟨64 * h.val + e.val, by omega⟩

/-- Window index `y` of the query at row `R`, column `c`: the grid row, column, and token it names. -/
def wrow (R : Fin 64) (y : Fin 128) : Fin 64 := ⟨rstart R + y.val / 16, by have := rstart_le R; omega⟩
def wcol (c : Fin 64) (y : Fin 128) : Fin 64 := ⟨cstart c + y.val % 16, by have := cstart_le c; omega⟩

/-- The relative row and column of a window index, counted from the most negative. -/
def drow (R : Fin 64) (y : Fin 128) : Fin 15 := ⟨rstart R + y.val / 16 + 7 - R.val, by have := (rstart_off R); omega⟩
def dcol (c : Fin 64) (y : Fin 128) : Fin 31 := ⟨cstart c + y.val % 16 + 15 - c.val, by unfold cstart; omega⟩

/-- The score of a window index: the scaled product of query and key plus the bias of the relative position. -/
def score (q k : Vec Ideal S8x4096x256 .f32) (rpb : Vec Ideal S4x15x31 .f32) (b : Fin 8) (R c : Fin 64) (h : Fin 4) (y : Fin 128) : EReal :=
  (∑ e : Fin 64, q (ix3 b (at' R c) (lane h e)) * k (ix3 b (at' (wrow R y) (wcol c y)) (lane h e))) * ((1 / 8 : ℝ) : EReal)
    + rpb (ix3 h (drow R y) (dcol c y))

/-- The score of a context token. -/
def cscore (q : Vec Ideal S8x4096x256 .f32) (kc : Vec Ideal S8x256x256 .f32) (b : Fin 8) (R c : Fin 64) (h : Fin 4) (x : Fin 256) : EReal :=
  (∑ e : Fin 64, q (ix3 b (at' R c) (lane h e)) * kc (ix3 b x (lane h e))) * ((1 / 8 : ℝ) : EReal)

/-- The attention's result at one batch, row, column, head and component. -/
def cell (q k v : Vec Ideal S8x4096x256 .f32) (kc vc : Vec Ideal S8x256x256 .f32) (rpb : Vec Ideal S4x15x31 .f32)
    (b : Fin 8) (R c : Fin 64) (h : Fin 4) (l : Fin 64) : EReal :=
  soft (score q k rpb b R c h) (cscore q kc b R c h) (fun y => v (ix3 b (at' (wrow R y) (wcol c y)) (lane h l))) (fun x => vc (ix3 b x (lane h l)))

/-- Where a window index lies among the window rows' full columns. -/
def spot (c : Fin 64) (y : Fin 128) : Fin 512 := ⟨64 * (y.val / 16) + cstart c + y.val % 16, by have := cstart_le c; omega⟩

theorem spot_inj (c : Fin 64) : Function.Injective (spot c) := by
  intro y y' h
  have := congrArg Fin.val h
  have h1 : 64 * (y.val / 16) + cstart c + y.val % 16 = 64 * (y'.val / 16) + cstart c + y'.val % 16 := this
  apply Fin.ext
  omega

theorem spot_range (c : Fin 64) (x : Fin 512) (h : x ∉ Set.range (spot c)) : ¬ (cstart c ≤ x.val % 64 ∧ x.val % 64 < cstart c + 16) := by
  intro hc
  have hc' := cstart_le c
  refine h ⟨⟨16 * (x.val / 64) + (x.val % 64 - cstart c), by omega⟩, Fin.ext ?_⟩
  show 64 * ((16 * (x.val / 64) + (x.val % 64 - cstart c)) / 16) + cstart c + (16 * (x.val / 64) + (x.val % 64 - cstart c)) % 16 = x.val
  omega

theorem tab_at (b : FVec Ideal S15x4x64x64 .f32) (o : Fin 8) (h : Fin 4) (c : Fin 64) (x : Fin 512) :
    tab b (ix3 o ⟨64 * h.val + c.val, by omega⟩ x) = b (ix4 ⟨x.val / 64 + 7 - o.val, by omega⟩ h c ⟨x.val % 64, by omega⟩) := by
  have h1 := tab_apply b o h c ⟨x.val / 64, by omega⟩ ⟨x.val % 64, by omega⟩
  rw [← h1]
  refine congrArg (fun z => tab b (ix3 o ⟨64 * h.val + c.val, by omega⟩ z)) (Fin.ext ?_)
  show x.val = 64 * (x.val / 64) + x.val % 64
  omega

/-- An eighth on the query comes out of the product's sum. -/
theorem scaled (f g : Fin 64 → EReal) : ∑ e, f e * ((1 / 8 : ℝ) : EReal) * g e = (∑ e, f e * g e) * ((1 / 8 : ℝ) : EReal) := by
  rw [sum_mul _ _ _ (EReal.coe_nonneg.2 (by norm_num)) (EReal.coe_ne_top _)]
  simp only [mul_right_comm]

theorem eighth_fin : Fin' ((1 / 8 : ℝ) : EReal) := ⟨EReal.coe_ne_top _, EReal.coe_ne_bot _⟩

theorem attn_congr {a b : Nat} {s s' : Fin a → EReal} {t t' : Fin b → EReal} {v v' : Fin a → EReal} {w w' : Fin b → EReal}
    (hs : s = s') (ht : t = t') (hv : v = v') (hw : w = w') : attn s t v w = attn s' t' v' w' := by rw [hs, ht, hv, hw]

/-- The kernel's row value is the attention's result. -/
theorem rowVal_eq (g : Fin 4) (x0 : Vec Ideal S1x1024x256 .bf16) (x1 x2 : Vec Ideal S1x4096x256 .bf16) (x3 x4 : Vec Ideal S1x256x256 .bf16)
    (q k v : Vec Ideal S8x4096x256 .f32) (kc vc : Vec Ideal S8x256x256 .f32) (rpb : Vec Ideal S4x15x31 .f32) (b : Fin 8)
    (h0 : ∀ (t : Fin 1024) (d : Fin 256), x0 (ix3 0 t d) = q (ix3 b ⟨1024 * g.val + t.val, by omega⟩ d) * ((1 / 8 : ℝ) : EReal))
    (h1 : ∀ (t : Fin 4096) (d : Fin 256), x1 (ix3 0 t d) = k (ix3 b t d)) (h2 : ∀ (t : Fin 4096) (d : Fin 256), x2 (ix3 0 t d) = v (ix3 b t d))
    (h3 : ∀ (t : Fin 256) (d : Fin 256), x3 (ix3 0 t d) = kc (ix3 b t d)) (h4 : ∀ (t : Fin 256) (d : Fin 256), x4 (ix3 0 t d) = vc (ix3 b t d))
    (fq : ∀ i, Fin' (q i)) (fk : ∀ i, Fin' (k i)) (fkc : ∀ i, Fin' (kc i)) (fb : ∀ i, Fin' (rpb i))
    (n : Fin 16) (r : Fin 64) (h : Fin 4) (l : Fin 64) :
    rowVal g x0 x1 x2 x3 x4 (tab (byRow rpb)) n (ix3 0 r (lane h l)) = cell q k v kc vc rpb b (rowOf g n) r h l := by
  unfold rowVal lane
  rw [rowPay_apply]
  have e0 : ∀ d : Fin 256, x0 (ix3 0 ⟨64 * n.val + r.val, by omega⟩ d) = q (ix3 b (at' (rowOf g n) r) d) * ((1 / 8 : ℝ) : EReal) := fun d => by
    rw [h0]
    refine congrArg (fun z => q (ix3 b z d) * ((1 / 8 : ℝ) : EReal)) (Fin.ext ?_)
    show 1024 * g.val + (64 * n.val + r.val) = 64 * (16 * g.val + n.val) + r.val
    omega
  have hS : ∀ y : Fin 128, (∑ e : Fin 64, x0 (ix3 0 ⟨64 * n.val + r.val, by omega⟩ (lane h e)) * x1 (ix3 0 ⟨64 * rstart (rowOf g n) + (spot r y).val, by have := rstart_le (rowOf g n); omega⟩ (lane h e)))
        + tab (byRow rpb) (ix3 ⟨(rowOf g n).val - rstart (rowOf g n), (rstart_off (rowOf g n)).2⟩ ⟨64 * h.val + r.val, by omega⟩ (spot r y))
      = score q k rpb b (rowOf g n) r h y := fun y => by
    have hc := cstart_le r
    have hro := rstart_off (rowOf g n)
    rw [tab_at, byRow_apply, dif_pos]
    · simp only [e0, h1]
      rw [scaled]
      unfold score
      congr 1
      · congr 1
        refine Finset.sum_congr rfl fun e _ => congrArg (fun z => _ * k (ix3 b z (lane h e))) (Fin.ext ?_)
        show 64 * rstart (rowOf g n) + (64 * (y.val / 16) + cstart r + y.val % 16) = 64 * (rstart (rowOf g n) + y.val / 16) + (cstart r + y.val % 16)
        omega
      · refine congrArg₂ (fun z w => rpb (ix3 h z w)) (Fin.ext ?_) (Fin.ext ?_)
        · show (64 * (y.val / 16) + cstart r + y.val % 16) / 64 + 7 - ((rowOf g n).val - rstart (rowOf g n)) = rstart (rowOf g n) + y.val / 16 + 7 - (rowOf g n).val
          omega
        · show (64 * (y.val / 16) + cstart r + y.val % 16) % 64 + 15 - r.val = cstart r + y.val % 16 + 15 - r.val
          omega
    · show cstart r ≤ (64 * (y.val / 16) + cstart r + y.val % 16) % 64 ∧ (64 * (y.val / 16) + cstart r + y.val % 16) % 64 < cstart r + 16
      omega
  have hT : ∀ x : Fin 256, (∑ e : Fin 64, x0 (ix3 0 ⟨64 * n.val + r.val, by omega⟩ (lane h e)) * x3 (ix3 0 x (lane h e))) = cscore q kc b (rowOf g n) r h x := fun x => by
    simp only [e0, h3]
    exact scaled _ _
  refine (attn_window (spot r) (spot_inj r) _ _ _ _ ?_).trans ?_
  · intro x hx
    refine (congrArg (fun z => _ + z) ((tab_at _ _ h r x).trans ((byRow_apply ..).trans (dif_neg (spot_range r x hx))))).trans ?_
    exact EReal.add_bot _
  · refine (attn_congr (v' := fun y => v (ix3 b (at' (wrow (rowOf g n) y) (wcol r y)) (lane h l))) (funext hS) (funext hT) (funext fun y => ?_) (funext fun x => h4 x (lane h l))).trans ?_
    · refine (h2 _ (lane h l)).trans (congrArg (fun z => v (ix3 b z (lane h l))) (Fin.ext ?_))
      show 64 * rstart (rowOf g n) + (64 * (y.val / 16) + cstart r + y.val % 16) = 64 * (rstart (rowOf g n) + y.val / 16) + (cstart r + y.val % 16)
      omega
    · exact attn_eq_soft _ _ _ _ (fun y => ((Fin'.sum _ _ fun e => (fq _).mul (fk _)).mul eighth_fin).add (fb _))
        (fun x => (Fin'.sum _ _ fun e => (fq _).mul (fkc _)).mul eighth_fin)

end Cert.Proof.Na
end
-- ==== Proof.NaRef.lean ====
module

public import proofs.«01_k».proof.Proof.NaCell
public import proofs.«01_k».proof.Proof.Gen.ReferenceIdeal.Run
public import Idealize.ShloMosaic.Lib.Tactic.CleanTypes

@[expose] public section

noncomputable section

/-! The reference's index words, gathers and scores, read at an index. -/

namespace Cert.Proof.Na.Ref

open Cert.ReferenceIdeal Cert.ReferenceIdeal.Gen Idealize.ShloMosaic Idealize.ShloMosaic.TcCoe

def rowWords : IVec S64x8x1 32 :=
  broadcastInDim S64x8x1 ![0, 1] bcast_S64x8_S64x8x1_0_1 (select (cmpi .slt (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![] bcast_S_S64x8 (constantI S_ 32 0#32))) (addi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![] bcast_S_S64x8 (constantI S_ 32 64#32))) (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))))

def colWords : IVec S64x16x1 32 :=
  broadcastInDim S64x16x1 ![0, 1] bcast_S64x16_S64x16x1_0_1 (select (cmpi .slt (addi (broadcastInDim S64x16 ![0, 1] bcast_S64x1_S64x16_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))))) (broadcastInDim S64x16 ![0, 1] bcast_S1x16_S64x16_0_1 (broadcastInDim S1x16 ![1] bcast_S16_S1x16_1 (iotaInDim S16 32 0)))) (broadcastInDim S64x16 ![] bcast_S_S64x16 (constantI S_ 32 0#32))) (addi (addi (broadcastInDim S64x16 ![0, 1] bcast_S64x1_S64x16_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))))) (broadcastInDim S64x16 ![0, 1] bcast_S1x16_S64x16_0_1 (broadcastInDim S1x16 ![1] bcast_S16_S1x16_1 (iotaInDim S16 32 0)))) (broadcastInDim S64x16 ![] bcast_S_S64x16 (constantI S_ 32 64#32))) (addi (broadcastInDim S64x16 ![0, 1] bcast_S64x1_S64x16_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))))) (broadcastInDim S64x16 ![0, 1] bcast_S1x16_S64x16_0_1 (broadcastInDim S1x16 ![1] bcast_S16_S1x16_1 (iotaInDim S16 32 0)))))

def rowRel : IVec S64x8x1 32 :=
  broadcastInDim S64x8x1 ![0, 1] bcast_S64x8_S64x8x1_0_1 (select (cmpi .slt (subi (addi (subi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![0, 1] bcast_S64x1_S64x8_0_1 (broadcastInDim S64x1 ![0] bcast_S64_S64x1_0 (iotaInDim S64 32 0)))) (broadcastInDim S64x8 ![] bcast_S_S64x8 (constantI S_ 32 8#32))) (broadcastInDim S64x8 ![] bcast_S_S64x8 (constantI S_ 32 1#32))) (broadcastInDim S64x8 ![] bcast_S_S64x8 (constantI S_ 32 0#32))) (addi (subi (addi (subi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![0, 1] bcast_S64x1_S64x8_0_1 (broadcastInDim S64x1 ![0] bcast_S64_S64x1_0 (iotaInDim S64 32 0)))) (broadcastInDim S64x8 ![] bcast_S_S64x8 (constantI S_ 32 8#32))) (broadcastInDim S64x8 ![] bcast_S_S64x8 (constantI S_ 32 1#32))) (broadcastInDim S64x8 ![] bcast_S_S64x8 (constantI S_ 32 15#32))) (subi (addi (subi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![0, 1] bcast_S64x1_S64x8_0_1 (broadcastInDim S64x1 ![0] bcast_S64_S64x1_0 (iotaInDim S64 32 0)))) (broadcastInDim S64x8 ![] bcast_S_S64x8 (constantI S_ 32 8#32))) (broadcastInDim S64x8 ![] bcast_S_S64x8 (constantI S_ 32 1#32))))

def colRel : IVec S64x16x1 32 :=
  broadcastInDim S64x16x1 ![0, 1] bcast_S64x16_S64x16x1_0_1 (select (cmpi .slt (subi (addi (subi (addi (broadcastInDim S64x16 ![0, 1] bcast_S64x1_S64x16_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))))) (broadcastInDim S64x16 ![0, 1] bcast_S1x16_S64x16_0_1 (broadcastInDim S1x16 ![1] bcast_S16_S1x16_1 (iotaInDim S16 32 0)))) (broadcastInDim S64x16 ![0, 1] bcast_S64x1_S64x16_0_1 (broadcastInDim S64x1 ![0] bcast_S64_S64x1_0 (iotaInDim S64 32 0)))) (broadcastInDim S64x16 ![] bcast_S_S64x16 (constantI S_ 32 16#32))) (broadcastInDim S64x16 ![] bcast_S_S64x16 (constantI S_ 32 1#32))) (broadcastInDim S64x16 ![] bcast_S_S64x16 (constantI S_ 32 0#32))) (addi (subi (addi (subi (addi (broadcastInDim S64x16 ![0, 1] bcast_S64x1_S64x16_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))))) (broadcastInDim S64x16 ![0, 1] bcast_S1x16_S64x16_0_1 (broadcastInDim S1x16 ![1] bcast_S16_S1x16_1 (iotaInDim S16 32 0)))) (broadcastInDim S64x16 ![0, 1] bcast_S64x1_S64x16_0_1 (broadcastInDim S64x1 ![0] bcast_S64_S64x1_0 (iotaInDim S64 32 0)))) (broadcastInDim S64x16 ![] bcast_S_S64x16 (constantI S_ 32 16#32))) (broadcastInDim S64x16 ![] bcast_S_S64x16 (constantI S_ 32 1#32))) (broadcastInDim S64x16 ![] bcast_S_S64x16 (constantI S_ 32 31#32))) (subi (addi (subi (addi (broadcastInDim S64x16 ![0, 1] bcast_S64x1_S64x16_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))))) (broadcastInDim S64x16 ![0, 1] bcast_S1x16_S64x16_0_1 (broadcastInDim S1x16 ![1] bcast_S16_S1x16_1 (iotaInDim S16 32 0)))) (broadcastInDim S64x16 ![0, 1] bcast_S64x1_S64x16_0_1 (broadcastInDim S64x1 ![0] bcast_S64_S64x1_0 (iotaInDim S64 32 0)))) (broadcastInDim S64x16 ![] bcast_S_S64x16 (constantI S_ 32 16#32))) (broadcastInDim S64x16 ![] bcast_S_S64x16 (constantI S_ 32 1#32))))

def heads (a : FVec Ideal S8x4096x256 .f32) : FVec Ideal S8x64x64x4x64 .f32 :=
  shapeCast _ (shapeCast _ a shapeCasts_S8x4096x256_S8x4096x4x64) shapeCasts_S8x4096x4x64_S8x64x64x4x64

def win (a : FVec Ideal S8x4096x256 .f32) : FVec Ideal S8x64x8x64x16x4x64 .f32 :=
  Host.gather gather_S8x64x8x64x4x64_S64x16x1_S8x64x8x64x16x4x64_01256_3_n_n_3_2_86481464 (Host.gather gather_S8x64x64x4x64_S64x8x1_S8x64x8x64x4x64_0345_1_n_n_1_2_8164464 (heads a) rowWords) colWords

def bias (a5 : FVec Ideal S4x15x31 .f32) : FVec Ideal S8x4x64x64x8x16 .f32 :=
  broadcastInDim S8x4x64x64x8x16 ![0, 1, 2, 3, 4, 5] bcast_S1x4x64x64x8x16_S8x4x64x64x8x16_0_1_2_3_4_5 (broadcastInDim S1x4x64x64x8x16 ![1, 2, 3, 4, 5] bcast_S4x64x64x8x16_S1x4x64x64x8x16_1_2_3_4_5 (transpose S4x64x64x8x16 [0, 1, 3, 2, 4] (Host.gather gather_S4x15x64x16_S64x8x1_S4x64x8x64x16_034_1_n_n_1_2_416416 (Host.gather gather_S4x15x31_S64x16x1_S4x15x64x16_01_2_n_n_2_2_4151 a5 colRel) rowRel) transposes_S4x64x8x64x16_S4x64x64x8x16_0_1_3_2_4))

def wscores (a0 a1 : FVec Ideal S8x4096x256 .f32) (a5 : FVec Ideal S4x15x31 .f32) : FVec Ideal S8x4x64x64x128 .f32 :=
  shapeCast _ (addf (mulf (Host.dotGeneral dot_S8x64x64x4x64_S8x64x8x64x16x4x64_S8x4x64x64x8x16_4_6_n_24_0312_0513 none (heads a0) (win a1)) (broadcastInDim S8x4x64x64x8x16 ![] bcast_S_S8x4x64x64x8x16 (constant S_ .f32 0x3E000000#32))) (bias a5)) shapeCasts_S8x4x64x64x8x16_S8x4x64x64x128

def cscores (a0 : FVec Ideal S8x4096x256 .f32) (a3 : FVec Ideal S8x256x256 .f32) : FVec Ideal S8x4x64x64x256 .f32 :=
  mulf (Host.dotGeneral dot_S8x64x64x4x64_S8x256x4x64_S8x4x64x64x256_4_3_12_1_03_02 none (heads a0) (shapeCast _ a3 shapeCasts_S8x256x256_S8x256x4x64)) (broadcastInDim S8x4x64x64x256 ![] bcast_S_S8x4x64x64x256 (constant S_ .f32 0x3E000000#32))

def joined (s : FVec Ideal S8x4x64x64x128 .f32) (t : FVec Ideal S8x4x64x64x256 .f32) : FVec Ideal S8x4x64x64x384 .f32 :=
  concatenate S8x4x64x64x384 4 [⟨S8x4x64x64x128, s⟩, ⟨S8x4x64x64x256, t⟩] concatenates_S8x4x64x64x128_S8x4x64x64x256_S8x4x64x64x384_d4

def highest (x : FVec Ideal S8x4x64x64x384 .f32) : FVec Ideal S8x4x64x64x384 .f32 :=
  broadcastInDim S8x4x64x64x384 ![0, 1, 2, 3, 4] bcast_S8x4x64x64x1_S8x4x64x64x384_0_1_2_3_4 (broadcastInDim S8x4x64x64x1 ![0, 1, 2, 3] bcast_S8x4x64x64_S8x4x64x64x1_0_1_2_3 (maximumf (broadcastInDim S8x4x64x64 ![] bcast_S_S8x4x64x64 (constant S_ .f32 0xFF800000#32)) (Host.reduce FloatOps.maximumf x (constant S_ .f32 0xFF800000#32) reducesTo_S8x4x64x64x384_S8x4x64x64_d4 h_S_)))

def weights (x : FVec Ideal S8x4x64x64x384 .f32) : FVec Ideal S8x4x64x64x384 .f32 :=
  Host.divf (Host.exp (subf x (highest x))) (broadcastInDim S8x4x64x64x384 ![0, 1, 2, 3, 4] bcast_S8x4x64x64x1_S8x4x64x64x384_0_1_2_3_4 (broadcastInDim S8x4x64x64x1 ![0, 1, 2, 3] bcast_S8x4x64x64_S8x4x64x64x1_0_1_2_3 (Host.reduceAdd (Host.exp (subf x (highest x))) (constant S_ .f32 0x00000000#32) reducesTo_S8x4x64x64x384_S8x4x64x64_d4 h_S_)))

def result (a0 a1 a2 : FVec Ideal S8x4096x256 .f32) (a3 a4 : FVec Ideal S8x256x256 .f32) (a5 : FVec Ideal S4x15x31 .f32) : FVec Ideal S8x4096x256 .bf16 :=
  truncf .bf16 (shapeCast _ (addf (Host.dotGeneral dot_S8x4x64x64x8x16_S8x64x8x64x16x4x64_S8x64x64x4x64_45_24_n_6_0231_0135 none (shapeCast _ (extractStridedSlice S8x4x64x64x128 ![0, 0, 0, 0, 0] (weights (joined (wscores a0 a1 a5) (cscores a0 a3))) slices_S8x4x64x64x384_S8x4x64x64x128_0_0_0_0_0) shapeCasts_S8x4x64x64x128_S8x4x64x64x8x16) (win a2)) (transpose S8x64x64x4x64 [0, 3, 4, 1, 2] (Host.dotGeneral dot_S8x256x4x64_S8x4x64x64x256_S8x4x64x64x64_1_4_3_23_02_01 none (shapeCast _ a4 shapeCasts_S8x256x256_S8x256x4x64) (extractStridedSlice S8x4x64x64x256 ![0, 0, 0, 0, 128] (weights (joined (wscores a0 a1 a5) (cscores a0 a3))) slices_S8x4x64x64x384_S8x4x64x64x256_0_0_0_0_128)) transposes_S8x4x64x64x64_S8x64x64x4x64_0_3_4_1_2)) shapeCasts_S8x64x64x4x64_S8x4096x256) bitsLt_bf16_f32

theorem take_rows (x : FVec Ideal S8x64x64x4x64 .f32) (idx : IVec S64x8x1 32) (b : Fin 8) (r : Fin 64) (j : Fin 8) (c : Fin 64) (h : Fin 4) (d : Fin 64) :
    Host.gather gather_S8x64x64x4x64_S64x8x1_S8x64x8x64x4x64_0345_1_n_n_1_2_8164464 x idx (ix6 b r j c h d) = x (ix5 b ⟨min (idx (ix3 r j 0)).toInt.toNat 63, by omega⟩ c h d) := by
  have hs : ∀ hp, gather_S8x64x64x4x64_S64x8x1_S8x64x8x64x4x64_0345_1_n_n_1_2_8164464.siIdx (ix6 b r j c h d) ⟨0, hp⟩ = ix3 r j 0 := by
    intro hp
    funext a; apply Fin.ext
    match a with
    | ⟨0, _⟩ => rfl
    | ⟨1, _⟩ => rfl
    | ⟨2, _⟩ => rfl
  unfold Host.gather
  refine congrArg x ?_
  funext a
  apply Fin.ext
  show gather_S8x64x64x4x64_S64x8x1_S8x64x8x64x4x64_0345_1_n_n_1_2_8164464.start _ idx a + gather_S8x64x64x4x64_S64x8x1_S8x64x8x64x4x64_0345_1_n_n_1_2_8164464.batchCoord _ a + gather_S8x64x64x4x64_S64x8x1_S8x64x8x64x4x64_0345_1_n_n_1_2_8164464.offCoord _ a = _
  match a with
  | ⟨0, _⟩ => exact Nat.zero_add _
  | ⟨1, _⟩ =>
    have e : gather_S8x64x64x4x64_S64x8x1_S8x64x8x64x4x64_0345_1_n_n_1_2_8164464.start (ix6 b r j c h d) idx 1 = min (idx (ix3 r j 0)).toInt.toNat 63 := by
      unfold GatherDims.start
      rw [dif_pos (by decide)]
      exact congrArg (fun z => min (idx z).toInt.toNat 63) (hs _)
    show gather_S8x64x64x4x64_S64x8x1_S8x64x8x64x4x64_0345_1_n_n_1_2_8164464.start _ idx 1 + 0 + 0 = _
    rw [e]
    rfl
  | ⟨2, _⟩ => exact Nat.zero_add _
  | ⟨3, _⟩ => exact Nat.zero_add _
  | ⟨4, _⟩ => exact Nat.zero_add _

theorem take_cols (x : FVec Ideal S8x64x8x64x4x64 .f32) (idx : IVec S64x16x1 32) (b : Fin 8) (r : Fin 64) (j : Fin 8) (c : Fin 64) (k : Fin 16) (h : Fin 4) (d : Fin 64) :
    Host.gather gather_S8x64x8x64x4x64_S64x16x1_S8x64x8x64x16x4x64_01256_3_n_n_3_2_86481464 x idx (ix7 b r j c k h d) = x (ix6 b r j ⟨min (idx (ix3 c k 0)).toInt.toNat 63, by omega⟩ h d) := by
  have hs : ∀ hp, gather_S8x64x8x64x4x64_S64x16x1_S8x64x8x64x16x4x64_01256_3_n_n_3_2_86481464.siIdx (ix7 b r j c k h d) ⟨0, hp⟩ = ix3 c k 0 := by
    intro hp
    funext a; apply Fin.ext
    match a with
    | ⟨0, _⟩ => rfl
    | ⟨1, _⟩ => rfl
    | ⟨2, _⟩ => rfl
  unfold Host.gather
  refine congrArg x ?_
  funext a
  apply Fin.ext
  show gather_S8x64x8x64x4x64_S64x16x1_S8x64x8x64x16x4x64_01256_3_n_n_3_2_86481464.start _ idx a + gather_S8x64x8x64x4x64_S64x16x1_S8x64x8x64x16x4x64_01256_3_n_n_3_2_86481464.batchCoord _ a + gather_S8x64x8x64x4x64_S64x16x1_S8x64x8x64x16x4x64_01256_3_n_n_3_2_86481464.offCoord _ a = _
  match a with
  | ⟨0, _⟩ => exact Nat.zero_add _
  | ⟨1, _⟩ => exact Nat.zero_add _
  | ⟨2, _⟩ => exact Nat.zero_add _
  | ⟨3, _⟩ =>
    have e : gather_S8x64x8x64x4x64_S64x16x1_S8x64x8x64x16x4x64_01256_3_n_n_3_2_86481464.start (ix7 b r j c k h d) idx 3 = min (idx (ix3 c k 0)).toInt.toNat 63 := by
      unfold GatherDims.start
      rw [dif_pos (by decide)]
      exact congrArg (fun z => min (idx z).toInt.toNat 63) (hs _)
    show gather_S8x64x8x64x4x64_S64x16x1_S8x64x8x64x16x4x64_01256_3_n_n_3_2_86481464.start _ idx 3 + 0 + 0 = _
    rw [e]
    rfl
  | ⟨4, _⟩ => exact Nat.zero_add _
  | ⟨5, _⟩ => exact Nat.zero_add _

theorem take_bcol (x : FVec Ideal S4x15x31 .f32) (idx : IVec S64x16x1 32) (h : Fin 4) (i : Fin 15) (c : Fin 64) (k : Fin 16) :
    Host.gather gather_S4x15x31_S64x16x1_S4x15x64x16_01_2_n_n_2_2_4151 x idx (ix4 h i c k) = x (ix3 h i ⟨min (idx (ix3 c k 0)).toInt.toNat 30, by omega⟩) := by
  have hs : ∀ hp, gather_S4x15x31_S64x16x1_S4x15x64x16_01_2_n_n_2_2_4151.siIdx (ix4 h i c k) ⟨0, hp⟩ = ix3 c k 0 := by
    intro hp
    funext a; apply Fin.ext
    match a with
    | ⟨0, _⟩ => rfl
    | ⟨1, _⟩ => rfl
    | ⟨2, _⟩ => rfl
  unfold Host.gather
  refine congrArg x ?_
  funext a
  apply Fin.ext
  show gather_S4x15x31_S64x16x1_S4x15x64x16_01_2_n_n_2_2_4151.start _ idx a + gather_S4x15x31_S64x16x1_S4x15x64x16_01_2_n_n_2_2_4151.batchCoord _ a + gather_S4x15x31_S64x16x1_S4x15x64x16_01_2_n_n_2_2_4151.offCoord _ a = _
  match a with
  | ⟨0, _⟩ => exact Nat.zero_add _
  | ⟨1, _⟩ => exact Nat.zero_add _
  | ⟨2, _⟩ =>
    have e : gather_S4x15x31_S64x16x1_S4x15x64x16_01_2_n_n_2_2_4151.start (ix4 h i c k) idx 2 = min (idx (ix3 c k 0)).toInt.toNat 30 := by
      unfold GatherDims.start
      rw [dif_pos (by decide)]
      exact congrArg (fun z => min (idx z).toInt.toNat 30) (hs _)
    show gather_S4x15x31_S64x16x1_S4x15x64x16_01_2_n_n_2_2_4151.start _ idx 2 + 0 + 0 = _
    rw [e]
    rfl

theorem take_brow (x : FVec Ideal S4x15x64x16 .f32) (idx : IVec S64x8x1 32) (h : Fin 4) (r : Fin 64) (j : Fin 8) (c : Fin 64) (k : Fin 16) :
    Host.gather gather_S4x15x64x16_S64x8x1_S4x64x8x64x16_034_1_n_n_1_2_416416 x idx (ix5 h r j c k) = x (ix4 h ⟨min (idx (ix3 r j 0)).toInt.toNat 14, by omega⟩ c k) := by
  have hs : ∀ hp, gather_S4x15x64x16_S64x8x1_S4x64x8x64x16_034_1_n_n_1_2_416416.siIdx (ix5 h r j c k) ⟨0, hp⟩ = ix3 r j 0 := by
    intro hp
    funext a; apply Fin.ext
    match a with
    | ⟨0, _⟩ => rfl
    | ⟨1, _⟩ => rfl
    | ⟨2, _⟩ => rfl
  unfold Host.gather
  refine congrArg x ?_
  funext a
  apply Fin.ext
  show gather_S4x15x64x16_S64x8x1_S4x64x8x64x16_034_1_n_n_1_2_416416.start _ idx a + gather_S4x15x64x16_S64x8x1_S4x64x8x64x16_034_1_n_n_1_2_416416.batchCoord _ a + gather_S4x15x64x16_S64x8x1_S4x64x8x64x16_034_1_n_n_1_2_416416.offCoord _ a = _
  match a with
  | ⟨0, _⟩ => exact Nat.zero_add _
  | ⟨1, _⟩ =>
    have e : gather_S4x15x64x16_S64x8x1_S4x64x8x64x16_034_1_n_n_1_2_416416.start (ix5 h r j c k) idx 1 = min (idx (ix3 r j 0)).toInt.toNat 14 := by
      unfold GatherDims.start
      rw [dif_pos (by decide)]
      exact congrArg (fun z => min (idx z).toInt.toNat 14) (hs _)
    show gather_S4x15x64x16_S64x8x1_S4x64x8x64x16_034_1_n_n_1_2_416416.start _ idx 1 + 0 + 0 = _
    rw [e]
    rfl
  | ⟨2, _⟩ => exact Nat.zero_add _
  | ⟨3, _⟩ => exact Nat.zero_add _

set_option maxRecDepth 16384 in
theorem rowWords_apply (r : Fin 64) (j : Fin 8) : (rowWords (ix3 r j 0)).toInt.toNat = rstart r + j.val := by
  unfold rowWords
  pointwise
  revert r j
  decide +kernel

set_option maxRecDepth 16384 in
theorem colWords_apply (c : Fin 64) (k : Fin 16) : (colWords (ix3 c k 0)).toInt.toNat = cstart c + k.val := by
  unfold colWords
  pointwise
  revert c k
  decide +kernel

set_option maxRecDepth 16384 in
theorem rowRel_apply (r : Fin 64) (j : Fin 8) : (rowRel (ix3 r j 0)).toInt.toNat = rstart r + j.val + 7 - r.val := by
  unfold rowRel
  pointwise
  revert r j
  decide +kernel

set_option maxRecDepth 16384 in
theorem colRel_apply (c : Fin 64) (k : Fin 16) : (colRel (ix3 c k 0)).toInt.toNat = cstart c + k.val + 15 - c.val := by
  unfold colRel
  pointwise
  revert c k
  decide +kernel

theorem heads_apply (a : FVec Ideal S8x4096x256 .f32) (b : Fin 8) (r c : Fin 64) (h : Fin 4) (d : Fin 64) :
    heads a (ix5 b r c h d) = a (ix3 b (at' r c) (lane h d)) := by
  unfold heads
  pointwise
  refine congrArg a ?_
  refine congrArg₂ (fun y z => ix3 b y z) (Fin.ext ?_) (Fin.ext ?_)
  · show r.val * 64 + c.val = 64 * r.val + c.val; omega
  · show h.val * 64 + d.val = 64 * h.val + d.val; omega

/-- Window index of window row `j` and window column `k`. -/
def widx (j : Fin 8) (k : Fin 16) : Fin 128 := ⟨16 * j.val + k.val, by omega⟩

theorem win_apply (a : FVec Ideal S8x4096x256 .f32) (b : Fin 8) (r : Fin 64) (j : Fin 8) (c : Fin 64) (k : Fin 16) (h : Fin 4) (d : Fin 64) :
    win a (ix7 b r j c k h d) = a (ix3 b (at' (wrow r (widx j k)) (wcol c (widx j k))) (lane h d)) := by
  unfold win
  rw [take_cols, take_rows, heads_apply]
  refine congrArg (fun z => a (ix3 b z (lane h d))) (Fin.ext ?_)
  show 64 * min (rowWords (ix3 r j 0)).toInt.toNat 63 + min (colWords (ix3 c k 0)).toInt.toNat 63
    = 64 * (rstart r + (16 * j.val + k.val) / 16) + (cstart c + (16 * j.val + k.val) % 16)
  rw [rowWords_apply, colWords_apply]
  have := rstart_le r
  have := cstart_le c
  omega

theorem bias_apply (a : FVec Ideal S4x15x31 .f32) (b : Fin 8) (h : Fin 4) (r c : Fin 64) (j : Fin 8) (k : Fin 16) :
    bias a (ix6 b h r c j k) = a (ix3 h (drow r (widx j k)) (dcol c (widx j k))) := by
  unfold bias
  pointwise
  rw [take_brow, take_bcol]
  refine congrArg₂ (fun y z => a (ix3 h y z)) (Fin.ext ?_) (Fin.ext ?_)
  · show min (rowRel (ix3 r j 0)).toInt.toNat 14 = rstart r + (16 * j.val + k.val) / 16 + 7 - r.val
    rw [rowRel_apply]
    have := rstart_off r
    omega
  · show min (colRel (ix3 c k 0)).toInt.toNat 30 = cstart c + (16 * j.val + k.val) % 16 + 15 - c.val
    rw [colRel_apply]
    unfold cstart
    omega

theorem wscores_apply (a0 a1 : FVec Ideal S8x4096x256 .f32) (a5 : FVec Ideal S4x15x31 .f32) (b : Fin 8) (h : Fin 4) (r c : Fin 64) (y : Fin 128) :
    wscores a0 a1 a5 (ix5 b h r c y) = score a0 a1 a5 b r c h y := by
  unfold wscores
  pointwise
  simp only [heads_apply, win_apply, bias_apply]
  rw [eighth_f32]
  have e : widx ⟨y.val / 16, by omega⟩ ⟨y.val % 16, by omega⟩ = y := Fin.ext (by show 16 * (y.val / 16) + y.val % 16 = y.val; omega)
  rw [e]
  rfl

theorem cscores_apply (a0 : FVec Ideal S8x4096x256 .f32) (a3 : FVec Ideal S8x256x256 .f32) (b : Fin 8) (h : Fin 4) (r c : Fin 64) (y : Fin 256) :
    cscores a0 a3 (ix5 b h r c y) = cscore a0 a3 b r c h y := by
  unfold cscores
  pointwise
  simp only [heads_apply]
  rw [eighth_f32]
  refine congrArg (· * _) (Finset.sum_congr rfl fun x _ => congrArg (fun z => _ * a3 (ix3 b y z)) (Fin.ext ?_))
  show h.val * 64 + x.val = 64 * h.val + x.val
  omega

theorem joined_apply (s : FVec Ideal S8x4x64x64x128 .f32) (t : FVec Ideal S8x4x64x64x256 .f32) (b : Fin 8) (h : Fin 4) (r c : Fin 64) (y : Fin 384) :
    joined s t (ix5 b h r c y) = if hy : y.val < 128 then s (ix5 b h r c ⟨y.val, hy⟩) else t (ix5 b h r c ⟨y.val - 128, by omega⟩) := by
  unfold joined
  pointwise

end Cert.Proof.Na.Ref
end
-- ==== Proof.NaRun.lean ====
module

public import proofs.«01_k».proof.Proof.NaCell

@[expose] public section

noncomputable section

namespace Cert.Proof.Na

open Cert.KernelIdeal Cert.KernelIdeal.Gen Cert.KernelIdeal.Value Idealize.ShloMosaic Idealize.ShloMosaic.TcCoe Idealize.SL.Sem

/-- The result array as one function of the argument arrays. -/
def G (q k v : Vec Ideal S8x4096x256 .f32) (kc vc : Vec Ideal S8x256x256 .f32) (rpb : Vec Ideal S4x15x31 .f32) : Vec Ideal S8x4096x256 .bf16 := fun i =>
  cell q k v kc vc rpb (i 0) ⟨(i 1).val / 64, by have : (i 1).val < 4096 := (i 1).isLt; omega⟩ ⟨(i 1).val % 64, by omega⟩
    ⟨(i 2).val / 64, by have : (i 2).val < 256 := (i 2).isLt; omega⟩ ⟨(i 2).val % 64, by omega⟩

theorem G_apply (q k v : Vec Ideal S8x4096x256 .f32) (kc vc : Vec Ideal S8x256x256 .f32) (rpb : Vec Ideal S4x15x31 .f32) (b : Fin 8) (R c : Fin 64) (h : Fin 4) (l : Fin 64) :
    G q k v kc vc rpb (ix3 b (at' R c) (lane h l)) = cell q k v kc vc rpb b R c h l := by
  have e1 : (⟨(64 * R.val + c.val) / 64, by omega⟩ : Fin 64) = R := Fin.ext (by show (64 * R.val + c.val) / 64 = R.val; omega)
  have e2 : (⟨(64 * R.val + c.val) % 64, by omega⟩ : Fin 64) = c := Fin.ext (by show (64 * R.val + c.val) % 64 = c.val; omega)
  have e3 : (⟨(64 * h.val + l.val) / 64, by omega⟩ : Fin 4) = h := Fin.ext (by show (64 * h.val + l.val) / 64 = h.val; omega)
  have e4 : (⟨(64 * h.val + l.val) % 64, by omega⟩ : Fin 64) = l := Fin.ext (by show (64 * h.val + l.val) % 64 = l.val; omega)
  show cell q k v kc vc rpb b ⟨(64 * R.val + c.val) / 64, _⟩ ⟨(64 * R.val + c.val) % 64, _⟩ ⟨(64 * h.val + l.val) / 64, _⟩ ⟨(64 * h.val + l.val) % 64, _⟩ = _
  rw [e1, e2, e3, e4]

variable (m : (ℓ : Loc nD τ sig) → Buf (Elt Ideal) ℓ)

theorem idx0 : ∀ t : Fin cfg0.N, win0_0.index t (0 : Fin 3) = win0_6.index t (0 : Fin 3) ∧ win0_0.index t (1 : Fin 3) = win0_6.index t (1 : Fin 3) ∧ win0_0.index t (2 : Fin 3) = 0 := (by decide +kernel : ∀ t : Fin grid0.N, _)
theorem idx1 : ∀ t : Fin cfg0.N, win0_1.index t (0 : Fin 3) = win0_6.index t (0 : Fin 3) ∧ win0_1.index t (1 : Fin 3) = 0 ∧ win0_1.index t (2 : Fin 3) = 0 := (by decide +kernel : ∀ t : Fin grid0.N, _)
theorem idx2 : ∀ t : Fin cfg0.N, win0_2.index t (0 : Fin 3) = win0_6.index t (0 : Fin 3) ∧ win0_2.index t (1 : Fin 3) = 0 ∧ win0_2.index t (2 : Fin 3) = 0 := (by decide +kernel : ∀ t : Fin grid0.N, _)
theorem idx3 : ∀ t : Fin cfg0.N, win0_3.index t (0 : Fin 3) = win0_6.index t (0 : Fin 3) ∧ win0_3.index t (1 : Fin 3) = 0 ∧ win0_3.index t (2 : Fin 3) = 0 := (by decide +kernel : ∀ t : Fin grid0.N, _)
theorem idx4 : ∀ t : Fin cfg0.N, win0_4.index t (0 : Fin 3) = win0_6.index t (0 : Fin 3) ∧ win0_4.index t (1 : Fin 3) = 0 ∧ win0_4.index t (2 : Fin 3) = 0 := (by decide +kernel : ∀ t : Fin grid0.N, _)
theorem idx5 : ∀ t : Fin cfg0.N, win0_5.index t (0 : Fin 3) = 0 ∧ win0_5.index t (1 : Fin 3) = 0 ∧ win0_5.index t (2 : Fin 3) = 0 := (by decide +kernel : ∀ t : Fin grid0.N, _)
theorem idx6 : ∀ t : Fin cfg0.N, win0_6.index t (0 : Fin 3) < 8 ∧ win0_6.index t (1 : Fin 3) = (grid0.coords t 1).val ∧ win0_6.index t (2 : Fin 3) = 0 := (by decide +kernel : ∀ t : Fin grid0.N, _)
theorem idx6_onto : ∀ (b : Fin 8) (k : Fin 4), ∃ t : Fin cfg0.N, win0_6.index t (0 : Fin 3) = b.val ∧ win0_6.index t (1 : Fin 3) = k.val := (by decide +kernel : ∀ (b : Fin 8) (k : Fin 4), ∃ t : Fin grid0.N, _)

/-- The batch and the row group of a grid point, and the token of the array that a token of its block is. -/
def bat (t : Fin cfg0.N) : Fin 8 := ⟨win0_6.index t (0 : Fin 3), (idx6 t).1⟩
def grp (t : Fin cfg0.N) : Fin 4 := grid0.coords t 1
def tokOf (t : Fin cfg0.N) (r : Fin 1024) : Fin 4096 := ⟨1024 * (grp t).val + r.val, by have := (grp t).isLt; omega⟩

theorem emb0 (t : Fin cfg0.N) (j : S1x1024x256.Idx) : ((cfg0.win 0).blk t).view.emb j = ix3 (bat t) (tokOf t (j 1)) (j 2) := by
  obtain ⟨e0, e1, e2⟩ := idx0 t
  have e3 := (idx6 t).2.1
  have h0 : (j 0).val < 1 := (j 0).isLt
  funext a; apply Fin.ext
  match a with
  | ⟨0, _⟩ => show win0_0.index t (0 : Fin 3) * 1 + 1 * (j 0).val = win0_6.index t (0 : Fin 3); omega
  | ⟨1, _⟩ => show win0_0.index t (1 : Fin 3) * 1024 + 1 * (j 1).val = 1024 * (grid0.coords t 1).val + (j 1).val; omega
  | ⟨2, _⟩ => show win0_0.index t (2 : Fin 3) * 256 + 1 * (j 2).val = (j 2).val; omega

theorem emb6 (t : Fin cfg0.N) (j : S1x1024x256.Idx) : ((cfg0.win 6).blk t).view.emb j = ix3 (bat t) (tokOf t (j 1)) (j 2) := by
  obtain ⟨e0, e1, e2⟩ := idx6 t
  have h0 : (j 0).val < 1 := (j 0).isLt
  funext a; apply Fin.ext
  match a with
  | ⟨0, _⟩ => show win0_6.index t (0 : Fin 3) * 1 + 1 * (j 0).val = win0_6.index t (0 : Fin 3); omega
  | ⟨1, _⟩ => show win0_6.index t (1 : Fin 3) * 1024 + 1 * (j 1).val = 1024 * (grid0.coords t 1).val + (j 1).val; omega
  | ⟨2, _⟩ => show win0_6.index t (2 : Fin 3) * 256 + 1 * (j 2).val = (j 2).val; omega

theorem emb1 (t : Fin cfg0.N) (j : S1x4096x256.Idx) : ((cfg0.win 1).blk t).view.emb j = ix3 (bat t) (j 1) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = win0_6.index t (0 : Fin 3); omega
  | ⟨1, _⟩ => show win0_1.index t (1 : Fin 3) * 4096 + 1 * (j 1).val = (j 1).val; omega
  | ⟨2, _⟩ => show win0_1.index t (2 : Fin 3) * 256 + 1 * (j 2).val = (j 2).val; omega

theorem emb2 (t : Fin cfg0.N) (j : S1x4096x256.Idx) : ((cfg0.win 2).blk t).view.emb j = ix3 (bat t) (j 1) (j 2) := by
  obtain ⟨e0, e1, e2⟩ := idx2 t
  have h0 : (j 0).val < 1 := (j 0).isLt
  funext a; apply Fin.ext
  match a with
  | ⟨0, _⟩ => show win0_2.index t (0 : Fin 3) * 1 + 1 * (j 0).val = win0_6.index t (0 : Fin 3); omega
  | ⟨1, _⟩ => show win0_2.index t (1 : Fin 3) * 4096 + 1 * (j 1).val = (j 1).val; omega
  | ⟨2, _⟩ => show win0_2.index t (2 : Fin 3) * 256 + 1 * (j 2).val = (j 2).val; omega

theorem emb3 (t : Fin cfg0.N) (j : S1x256x256.Idx) : ((cfg0.win 3).blk t).view.emb j = ix3 (bat t) (j 1) (j 2) := by
  obtain ⟨e0, e1, e2⟩ := idx3 t
  have h0 : (j 0).val < 1 := (j 0).isLt
  funext a; apply Fin.ext
  match a with
  | ⟨0, _⟩ => show win0_3.index t (0 : Fin 3) * 1 + 1 * (j 0).val = win0_6.index t (0 : Fin 3); omega
  | ⟨1, _⟩ => show win0_3.index t (1 : Fin 3) * 256 + 1 * (j 1).val = (j 1).val; omega
  | ⟨2, _⟩ => show win0_3.index t (2 : Fin 3) * 256 + 1 * (j 2).val = (j 2).val; omega

theorem emb4 (t : Fin cfg0.N) (j : S1x256x256.Idx) : ((cfg0.win 4).blk t).view.emb j = ix3 (bat t) (j 1) (j 2) := by
  obtain ⟨e0, e1, e2⟩ := idx4 t
  have h0 : (j 0).val < 1 := (j 0).isLt
  funext a; apply Fin.ext
  match a with
  | ⟨0, _⟩ => show win0_4.index t (0 : Fin 3) * 1 + 1 * (j 0).val = win0_6.index t (0 : Fin 3); omega
  | ⟨1, _⟩ => show win0_4.index t (1 : Fin 3) * 256 + 1 * (j 1).val = (j 1).val; omega
  | ⟨2, _⟩ => show win0_4.index t (2 : Fin 3) * 256 + 1 * (j 2).val = (j 2).val; omega

theorem emb5 (t : Fin cfg0.N) (j : S8x256x512.Idx) : ((cfg0.win 5).blk t).view.emb j = j := by
  obtain ⟨e0, e1, e2⟩ := idx5 t
  funext a; apply Fin.ext
  match a with
  | ⟨0, _⟩ => show win0_5.index t (0 : Fin 3) * 8 + 1 * (j 0).val = (j 0).val; omega
  | ⟨1, _⟩ => show win0_5.index t (1 : Fin 3) * 256 + 1 * (j 1).val = (j 1).val; omega
  | ⟨2, _⟩ => show win0_5.index t (2 : Fin 3) * 512 + 1 * (j 2).val = (j 2).val; omega

theorem V_k (c : Dev nD) : V m c main_v3 = truncf (F := Ideal) .bf16 (m ((c : Thread nD τ).loc main_arg1)) bitsLt_bf16_f32 := by
  unfold V hostOps0 hostOps0_1 hostOps0_2 hostOps0_3 hostOps0_4
  after_results_simp
  rfl
theorem V_v (c : Dev nD) : V m c main_v4 = truncf (F := Ideal) .bf16 (m ((c : Thread nD τ).loc main_arg2)) bitsLt_bf16_f32 := by
  unfold V hostOps0 hostOps0_1 hostOps0_2 hostOps0_3 hostOps0_4
  after_results_simp
  rfl
theorem V_kc (c : Dev nD) : V m c main_v5 = truncf (F := Ideal) .bf16 (m ((c : Thread nD τ).loc main_arg3)) bitsLt_bf16_f32 := by
  unfold V hostOps0 hostOps0_1 hostOps0_2 hostOps0_3 hostOps0_4
  after_results_simp
  rfl
theorem V_vc (c : Dev nD) : V m c main_v6 = truncf (F := Ideal) .bf16 (m ((c : Thread nD τ).loc main_arg4)) bitsLt_bf16_f32 := by
  unfold V hostOps0 hostOps0_1 hostOps0_2 hostOps0_3 hostOps0_4
  after_results_simp
  rfl

/-- What the region needs of the arguments' values. -/
def Finite (q k : Vec Ideal S8x4096x256 .f32) (kc : Vec Ideal S8x256x256 .f32) (rpb : Vec Ideal S4x15x31 .f32) : Prop :=
  (∀ i, Fin' (q i)) ∧ (∀ i, Fin' (k i)) ∧ (∀ i, Fin' (kc i)) ∧ ∀ i, Fin' (rpb i)

/-- A function of a block's indices that is the attention's result by row, column, head and component is that block of `G`. -/
theorem of_cells (q k v : Vec Ideal S8x4096x256 .f32) (kc vc : Vec Ideal S8x256x256 .f32) (rpb : Vec Ideal S4x15x31 .f32) (t : Fin cfg0.N)
    (f : S1x1024x256.Idx → EReal)
    (hf : ∀ (n : Fin 16) (r : Fin 64) (h : Fin 4) (l : Fin 64), f (ix3 0 ⟨64 * n.val + r.val, by omega⟩ (lane h l)) = cell q k v kc vc rpb (bat t) (rowOf (grp t) n) r h l)
    (j : S1x1024x256.Idx) : f j = G q k v kc vc rpb (ix3 (bat t) (tokOf t (j 1)) (j 2)) := by
  have h0 : (j 0).val < 1 := (j 0).isLt
  have h1 : (j 1).val < 1024 := (j 1).isLt
  have h2 : (j 2).val < 256 := (j 2).isLt
  have ej : j = ix3 0 ⟨64 * ((j 1).val / 64) + (j 1).val % 64, by omega⟩ (lane ⟨(j 2).val / 64, by omega⟩ ⟨(j 2).val % 64, by omega⟩) := by
    funext a; apply Fin.ext
    match a with
    | ⟨0, _⟩ => show (j 0).val = 0; omega
    | ⟨1, _⟩ => show (j 1).val = 64 * ((j 1).val / 64) + (j 1).val % 64; omega
    | ⟨2, _⟩ => show (j 2).val = 64 * ((j 2).val / 64) + (j 2).val % 64; omega
  have ek : ix3 (bat t) (tokOf t (j 1)) (j 2) = ix3 (bat t) (at' (rowOf (grp t) ⟨(j 1).val / 64, by omega⟩) ⟨(j 1).val % 64, by omega⟩) (lane ⟨(j 2).val / 64, by omega⟩ ⟨(j 2).val % 64, by omega⟩) := by
    funext a; apply Fin.ext
    match a with
    | ⟨0, _⟩ => rfl
    | ⟨1, _⟩ => show 1024 * (grp t).val + (j 1).val = 64 * (16 * (grp t).val + (j 1).val / 64) + (j 1).val % 64; omega
    | ⟨2, _⟩ => show (j 2).val = 64 * ((j 2).val / 64) + (j 2).val % 64; omega
  exact (congrArg f ej).trans ((hf _ _ _ _).trans ((G_apply ..).symm.trans (congrArg (G q k v kc vc rpb) ek.symm)))

theorem blk5 (c : Dev nD) (t : Fin cfg0.N) : iblk m c 5 t = tab (byRow (m ((c : Thread nD τ).loc main_arg5))) := by
  rw [← V_tab m c]
  funext z
  exact congrArg (V m c main_v188) (emb5 t z)

theorem block_val (c : Dev nD) (q k v : Vec Ideal S8x4096x256 .f32) (kc vc : Vec Ideal S8x256x256 .f32) (rpb : Vec Ideal S4x15x31 .f32)
    (hfin : Finite q k kc rpb) (t : Fin cfg0.N) (arg2 : Memref sig .tc .vmem S1x1024x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S8x256x512 .f32) (harg7 : arg7.IsWhole) (arg8 : Memref sig .tc .vmem S1x1024x256 .bf16) (harg8 : arg8.IsWhole)
    (z0 : Vec Ideal S1x1024x256 .bf16) (z1 : Vec Ideal S1x4096x256 .bf16) (z2 : Vec Ideal S1x4096x256 .bf16) (z3 : Vec Ideal S1x256x256 .bf16) (z4 : Vec Ideal S1x256x256 .bf16) (z5 : Vec Ideal S8x256x512 .f32)
    (h0 : ∀ r d, z0 (ix3 0 r d) = q (ix3 (bat t) ⟨1024 * (grp t).val + r.val, by omega⟩ d) * ((1 / 8 : ℝ) : EReal)) (h1 : ∀ r d, z1 (ix3 0 r d) = k (ix3 (bat t) r d)) (h2 : ∀ r d, z2 (ix3 0 r d) = v (ix3 (bat t) r d))
    (h3 : ∀ r d, z3 (ix3 0 r d) = kc (ix3 (bat t) r d)) (h4 : ∀ r d, z4 (ix3 0 r d) = vc (ix3 (bat t) r d)) (h5 : z5 = tab (byRow rpb))
    (n : Fin 16) (r : Fin 64) (h : Fin 4) (l : Fin 64) :
    out0_A_6 c (grid0.coords t) arg2 harg2 arg3 harg3 arg4 harg4 arg5 harg5 arg6 harg6 arg7 harg7 arg8 harg8 z0 z1 z2 z3 z4 z5 (ix3 0 ⟨64 * n.val + r.val, by omega⟩ (lane h l))
      = cell q k v kc vc rpb (bat t) (rowOf (grp t) n) r h l := by
  obtain ⟨fq, fk, fkc, fb⟩ := hfin
  refine (out_rows c (grid0.coords t) arg2 harg2 arg3 harg3 arg4 harg4 arg5 harg5 arg6 harg6 arg7 harg7 arg8 harg8 z0 z1 z2 z3 z4 z5 n r (lane h l)).trans ?_
  subst h5
  exact rowVal_eq (grp t) _ _ _ _ _ q k v kc vc rpb (bat t) h0 h1 h2 h3 h4 fq fk fkc fb n r h l

theorem blk0 (c : Dev nD) (t : Fin cfg0.N) (r : Fin 1024) (d : Fin 256) : iblk m c 0 t (ix3 (0 : Fin 1) r d) = (show Vec Ideal S8x4096x256 .f32 from m ((c : Thread nD τ).loc main_arg0)) (ix3 (bat t) ⟨1024 * (grp t).val + r.val, by omega⟩ d) * ((1 / 8 : ℝ) : EReal) :=
  (congrArg (V m c main_v2) (emb0 t (ix3 (0 : Fin 1) r d))).trans ((congrFun (V_q m c) _).trans (congrArg (_ * ·) eighth_f32))

theorem blk1 (c : Dev nD) (t : Fin cfg0.N) (r : Fin 4096) (d : Fin 256) : iblk m c 1 t (ix3 (0 : Fin 1) r d) = (m ((c : Thread nD τ).loc main_arg1)) (ix3 (bat t) r d) :=
  (congrArg (V m c main_v3) (emb1 t (ix3 (0 : Fin 1) r d))).trans (congrFun (V_k m c) _)

theorem blk2 (c : Dev nD) (t : Fin cfg0.N) (r : Fin 4096) (d : Fin 256) : iblk m c 2 t (ix3 (0 : Fin 1) r d) = (m ((c : Thread nD τ).loc main_arg2)) (ix3 (bat t) r d) :=
  (congrArg (V m c main_v4) (emb2 t (ix3 (0 : Fin 1) r d))).trans (congrFun (V_v m c) _)

theorem blk3 (c : Dev nD) (t : Fin cfg0.N) (r : Fin 256) (d : Fin 256) : iblk m c 3 t (ix3 (0 : Fin 1) r d) = (m ((c : Thread nD τ).loc main_arg3)) (ix3 (bat t) r d) :=
  (congrArg (V m c main_v5) (emb3 t (ix3 (0 : Fin 1) r d))).trans (congrFun (V_kc m c) _)

theorem blk4 (c : Dev nD) (t : Fin cfg0.N) (r : Fin 256) (d : Fin 256) : iblk m c 4 t (ix3 (0 : Fin 1) r d) = (m ((c : Thread nD τ).loc main_arg4)) (ix3 (bat t) r d) :=
  (congrArg (V m c main_v6) (emb4 t (ix3 (0 : Fin 1) r d))).trans (congrFun (V_vc m c) _)

/-- What a grid point writes back is its block of `G` of the arguments. -/
theorem flushed_eq (c : Dev nD) (hfin : Finite (m ((c : Thread nD τ).loc main_arg0)) (m ((c : Thread nD τ).loc main_arg1)) (m ((c : Thread nD τ).loc main_arg3)) (m ((c : Thread nD τ).loc main_arg5))) (t : Fin cfg0.N) :
    (dats m 0 c).flushed 6 t = ((cfg0.win 6).blk t).view.read (Elt Ideal)
      (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed6_A]
  funext j
  refine (?_ : out0_A_6 c (grid0.coords t) _ _ _ _ _ _ _ _ _ _ _ _ _ _ (iblk m c 0 t) (iblk m c 1 t) (iblk m c 2 t) (iblk m c 3 t) (iblk m c 4 t) (iblk m c 5 t) j = G _ _ _ _ _ _ (((cfg0.win 6).blk t).view.emb j))
  rw [emb6]
  exact of_cells _ _ _ _ _ _ t (fun j => out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) j)
    (block_val c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) hfin t _ _ _ _ _ _ _ _ _ _ _ _ _ _ (iblk m c 0 t) (iblk m c 1 t) (iblk m c 2 t) (iblk m c 3 t) (iblk m c 4 t) (iblk m c 5 t) (blk0 m c t) (blk1 m c t) (blk2 m c t) (blk3 m c t) (blk4 m c t) (blk5 m c t)) j

/-- Every index of the result array is in some point's block. -/
theorem covered (i : S8x4096x256.Idx) : ∃ t : Fin cfg0.N, (cfg0.win 6).flush t = true ∧ i ∈ ((cfg0.win 6).blk t).view.set := by
  have h1 : (i 1).val < 4096 := (i 1).isLt
  obtain ⟨t, hb, hk⟩ := idx6_onto (i 0) ⟨(i 1).val / 1024, by omega⟩
  have hg := (idx6 t).2.1
  refine ⟨t, flush0_6 _, ?_⟩
  have h := ((cfg0.win 6).blk t).view.emb_mem_set (ix3 (0 : Fin 1) ⟨(i 1).val % 1024, by omega⟩ (i 2))
  rw [emb6] at h
  have e : ix3 (bat t) (tokOf t ⟨(i 1).val % 1024, by omega⟩) (i 2) = i := by
    funext a; apply Fin.ext
    match a with
    | ⟨0, _⟩ => exact hb
    | ⟨1, _⟩ =>
      show 1024 * (grid0.coords t 1).val + (i 1).val % 1024 = (i 1).val
      rw [← hg, hk]; show 1024 * ((i 1).val / 1024) + (i 1).val % 1024 = (i 1).val; omega
    | ⟨2, _⟩ => rfl
  rw [← e]; exact h

/-- The result array after the run is `G` of the arguments. -/
theorem final (c : Dev nD) (hfin : Finite (m ((c : Thread nD τ).loc main_arg0)) (m ((c : Thread nD τ).loc main_arg1)) (m ((c : Thread nD τ).loc main_arg3)) (m ((c : Thread nD τ).loc main_arg5))) :
    (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c hfin t) covered

end Cert.Proof.Na
end
-- ==== Proof.NaRefSoft.lean ====
module

public import proofs.«01_k».proof.Proof.NaRef
public import proofs.«01_k».proof.Proof.NaRun

@[expose] public section

noncomputable section

namespace Cert.Proof.Na.Ref

open Cert.ReferenceIdeal Cert.ReferenceIdeal.Gen Idealize.ShloMosaic Idealize.ShloMosaic.TcCoe

/-- The largest score of each query. -/
def largest (x : FVec Ideal S8x4x64x64x384 .f32) : FVec Ideal S8x4x64x64 .f32 :=
  Host.reduce FloatOps.maximumf x (constant S_ .f32 0xFF800000#32) reducesTo_S8x4x64x64x384_S8x4x64x64_d4 h_S_

theorem spread_max (z : FVec Ideal S8x4x64x64 .f32) (b : Fin 8) (h : Fin 4) (r c : Fin 64) (y : Fin 384) :
    broadcastInDim S8x4x64x64x384 ![0, 1, 2, 3, 4] bcast_S8x4x64x64x1_S8x4x64x64x384_0_1_2_3_4 (broadcastInDim S8x4x64x64x1 ![0, 1, 2, 3] bcast_S8x4x64x64_S8x4x64x64x1_0_1_2_3 (maximumf (broadcastInDim S8x4x64x64 ![] bcast_S_S8x4x64x64 (constant S_ .f32 0xFF800000#32)) z)) (ix5 b h r c y)
      = max (Ideal.ofBits FTy.f32 4286578688#32) (z (ix4 b h r c)) := by
  pointwise

theorem largest_apply (x : FVec Ideal S8x4x64x64x384 .f32) (b : Fin 8) (h : Fin 4) (r c : Fin 64) :
    largest x (ix4 b h r c) = Finset.fold max (Ideal.ofBits FTy.f32 4286578688#32) (fun z => x (ix5 b h r c z)) Finset.univ := by
  have hr : S8x4x64x64x384.Reduces [4] S8x4x64x64 := by decide
  refine (Host.reduce_eq_fold_single FloatOps.maximumf x _ _ hr _ _).trans ?_
  have hl : ∀ z : Fin 384, hr.lift (ix4 b h r c) z = ix5 b h r c z := fun z => by
    funext a; apply Fin.ext
    match a with
    | ⟨0, _⟩ => rfl
    | ⟨1, _⟩ => rfl
    | ⟨2, _⟩ => rfl
    | ⟨3, _⟩ => rfl
    | ⟨4, _⟩ => rfl
  have hx : (x ∘ hr.lift (ix4 b h r c)) = fun z => x (ix5 b h r c z) := funext fun z => congrArg x (hl z)
  rw [hx]
  rfl

theorem highest_apply (x : FVec Ideal S8x4x64x64x384 .f32) (b : Fin 8) (h : Fin 4) (r c : Fin 64) (y : Fin 384) :
    highest x (ix5 b h r c y) = Finset.fold max ⊥ (fun z => x (ix5 b h r c z)) Finset.univ := by
  have e := largest_apply x b h r c
  have e' := spread_max (largest x) b h r c y
  rw [e, bot_f32] at e'
  unfold largest at e'
  unfold highest
  exact e'.trans (max_eq_right bot_le)

theorem weights_apply (x : FVec Ideal S8x4x64x64x384 .f32) (b : Fin 8) (h : Fin 4) (r c : Fin 64) (y : Fin 384) :
    weights x (ix5 b h r c y) = Ideal.div (Ideal.exp (x (ix5 b h r c y) - Finset.fold max ⊥ (fun z => x (ix5 b h r c z)) Finset.univ))
      (∑ w, Ideal.exp (x (ix5 b h r c w) - Finset.fold max ⊥ (fun z => x (ix5 b h r c z)) Finset.univ)) := by
  unfold weights
  pointwise
  simp only [highest_apply]

/-- A sum over all scores is the sum over the window's and over the context's. -/
theorem sum_split (f : Fin 384 → EReal) : ∑ y, f y = ∑ y : Fin 128, f ⟨y.val, by omega⟩ + ∑ y : Fin 256, f ⟨128 + y.val, by omega⟩ :=
  (Fin.sum_univ_add (a := 128) (b := 256) f)

theorem sum_window (f : Fin 128 → EReal) : ∑ j : Fin 8, ∑ k : Fin 16, f (widx j k) = ∑ y, f y := by
  rw [← Finset.sum_product']
  refine Finset.sum_nbij' (fun p => widx p.1 p.2) (fun y => (⟨y.val / 16, by omega⟩, ⟨y.val % 16, by omega⟩)) (by simp) (by simp) ?_ ?_ (fun _ _ => rfl)
  · rintro ⟨j, k⟩ _
    refine Prod.ext (Fin.ext ?_) (Fin.ext ?_)
    · show (16 * j.val + k.val) / 16 = j.val; omega
    · show (16 * j.val + k.val) % 16 = k.val; omega
  · intro y _
    exact Fin.ext (by show 16 * (y.val / 16) + y.val % 16 = y.val; omega)

theorem sup_split (f : Fin 384 → EReal) : Finset.fold max ⊥ f Finset.univ
    = max (Finset.fold max ⊥ (fun y : Fin 128 => f ⟨y.val, by omega⟩) Finset.univ) (Finset.fold max ⊥ (fun y : Fin 256 => f ⟨128 + y.val, by omega⟩) Finset.univ) := by
  rw [fold_eq_sup, fold_eq_sup, fold_eq_sup]
  refine le_antisymm (Finset.sup_le fun y _ => ?_) (max_le (Finset.sup_le fun y _ => Finset.le_sup (Finset.mem_univ (⟨y.val, by omega⟩ : Fin 384))) (Finset.sup_le fun y _ => Finset.le_sup (Finset.mem_univ (⟨128 + y.val, by omega⟩ : Fin 384))))
  by_cases h : y.val < 128
  · exact le_max_of_le_left (Finset.le_sup (f := fun y : Fin 128 => f ⟨y.val, by omega⟩) (Finset.mem_univ ⟨y.val, h⟩))
  · refine le_max_of_le_right ((?_ : f y ≤ f ⟨128 + (y.val - 128), by omega⟩).trans (Finset.le_sup (f := fun y : Fin 256 => f ⟨128 + y.val, by omega⟩) (Finset.mem_univ ⟨y.val - 128, by omega⟩)))
    exact le_of_eq (congrArg f (Fin.ext (by show y.val = 128 + (y.val - 128); omega)))

section
variable (a0 a1 a2 : FVec Ideal S8x4096x256 .f32) (a3 a4 : FVec Ideal S8x256x256 .f32) (a5 : FVec Ideal S4x15x31 .f32) (b : Fin 8) (r c : Fin 64) (h : Fin 4)

theorem left_apply (y : Fin 128) : joined (wscores a0 a1 a5) (cscores a0 a3) (ix5 b h r c ⟨y.val, by omega⟩) = score a0 a1 a5 b r c h y := by
  rw [joined_apply, dif_pos (show (⟨y.val, by omega⟩ : Fin 384).val < 128 from y.isLt), wscores_apply]

theorem right_apply (y : Fin 256) : joined (wscores a0 a1 a5) (cscores a0 a3) (ix5 b h r c ⟨128 + y.val, by omega⟩) = cscore a0 a3 b r c h y := by
  rw [joined_apply, dif_neg (show ¬ (⟨128 + y.val, by omega⟩ : Fin 384).val < 128 from by show ¬ 128 + y.val < 128; omega), cscores_apply]
  exact congrArg (cscore a0 a3 b r c h) (Fin.ext (by show 128 + y.val - 128 = y.val; omega))

theorem peak : Finset.fold max ⊥ (fun z => joined (wscores a0 a1 a5) (cscores a0 a3) (ix5 b h r c z)) Finset.univ
    = top (score a0 a1 a5 b r c h) (cscore a0 a3 b r c h) := by
  rw [sup_split]
  simp only [left_apply, right_apply]
  unfold top
  simp only [bot_f32]

theorem weighed (l : Fin 64) (d : Fin 256) (hd : d = lane h l) :
    ∑ j : Fin 8, ∑ k : Fin 16, weights (joined (wscores a0 a1 a5) (cscores a0 a3)) (ix5 b h r c ⟨j.val * 16 + k.val, by omega⟩) * win a2 (ix7 b r j c k h l)
      + ∑ x : Fin 256, a4 (ix3 b x d) * weights (joined (wscores a0 a1 a5) (cscores a0 a3)) (ix5 b h r c ⟨128 + x.val, by omega⟩)
    = cell a0 a1 a2 a3 a4 a5 b r c h l := by
  have hw : ∀ y : Fin 128, weights (joined (wscores a0 a1 a5) (cscores a0 a3)) (ix5 b h r c ⟨y.val, by omega⟩)
      = Ideal.div (Ideal.exp (score a0 a1 a5 b r c h y - top (score a0 a1 a5 b r c h) (cscore a0 a3 b r c h)))
          (∑ x, Ideal.exp (score a0 a1 a5 b r c h x - top (score a0 a1 a5 b r c h) (cscore a0 a3 b r c h)) + ∑ x, Ideal.exp (cscore a0 a3 b r c h x - top (score a0 a1 a5 b r c h) (cscore a0 a3 b r c h))) := fun y => by
    rw [weights_apply, peak, sum_split]
    simp only [left_apply, right_apply]
  have hc : ∀ y : Fin 256, weights (joined (wscores a0 a1 a5) (cscores a0 a3)) (ix5 b h r c ⟨128 + y.val, by omega⟩)
      = Ideal.div (Ideal.exp (cscore a0 a3 b r c h y - top (score a0 a1 a5 b r c h) (cscore a0 a3 b r c h)))
          (∑ x, Ideal.exp (score a0 a1 a5 b r c h x - top (score a0 a1 a5 b r c h) (cscore a0 a3 b r c h)) + ∑ x, Ideal.exp (cscore a0 a3 b r c h x - top (score a0 a1 a5 b r c h) (cscore a0 a3 b r c h))) := fun y => by
    rw [weights_apply, peak, sum_split]
    simp only [left_apply, right_apply]
  subst hd
  simp only [win_apply, hc]
  unfold cell soft
  refine congrArg₂ (· + ·) ?_ (Finset.sum_congr rfl fun x _ => mul_comm _ _)
  refine Eq.trans ?_ (sum_window _)
  refine Finset.sum_congr rfl fun j _ => Finset.sum_congr rfl fun k _ => congrArg (· * _) ?_
  refine Eq.trans (congrArg (fun z => weights (joined (wscores a0 a1 a5) (cscores a0 a3)) (ix5 b h r c z)) (Fin.ext ?_)) (hw (widx j k))
  show j.val * 16 + k.val = 16 * j.val + k.val
  omega

end

/-- Weights times values, over the window and over the context. -/
def weigh (w : FVec Ideal S8x4x64x64x384 .f32) (v : FVec Ideal S8x64x8x64x16x4x64 .f32) (a4 : FVec Ideal S8x256x256 .f32) : FVec Ideal S8x4096x256 .bf16 :=
  truncf .bf16 (shapeCast _ (addf (Host.dotGeneral dot_S8x4x64x64x8x16_S8x64x8x64x16x4x64_S8x64x64x4x64_45_24_n_6_0231_0135 none (shapeCast _ (extractStridedSlice S8x4x64x64x128 ![0, 0, 0, 0, 0] w slices_S8x4x64x64x384_S8x4x64x64x128_0_0_0_0_0) shapeCasts_S8x4x64x64x128_S8x4x64x64x8x16) v) (transpose S8x64x64x4x64 [0, 3, 4, 1, 2] (Host.dotGeneral dot_S8x256x4x64_S8x4x64x64x256_S8x4x64x64x64_1_4_3_23_02_01 none (shapeCast _ a4 shapeCasts_S8x256x256_S8x256x4x64) (extractStridedSlice S8x4x64x64x256 ![0, 0, 0, 0, 128] w slices_S8x4x64x64x384_S8x4x64x64x256_0_0_0_0_128)) transposes_S8x4x64x64x64_S8x64x64x4x64_0_3_4_1_2)) shapeCasts_S8x64x64x4x64_S8x4096x256) bitsLt_bf16_f32

theorem result_weigh (a0 a1 a2 : FVec Ideal S8x4096x256 .f32) (a3 a4 : FVec Ideal S8x256x256 .f32) (a5 : FVec Ideal S4x15x31 .f32) :
    result a0 a1 a2 a3 a4 a5 = weigh (weights (joined (wscores a0 a1 a5) (cscores a0 a3))) (win a2) a4 := by
  unfold result weigh
  rfl

set_option maxRecDepth 16384 in
theorem weigh_apply (w : FVec Ideal S8x4x64x64x384 .f32) (v : FVec Ideal S8x64x8x64x16x4x64 .f32) (a4 : FVec Ideal S8x256x256 .f32) (b : Fin 8) (r c : Fin 64) (h : Fin 4) (l : Fin 64) :
    weigh w v a4 (ix3 b (at' r c) (lane h l))
      = ∑ j : Fin 8, ∑ k : Fin 16, w (ix5 b h r c ⟨j.val * 16 + k.val, by omega⟩) * v (ix7 b r j c k h l)
        + ∑ x : Fin 256, a4 (ix3 b x (lane h l)) * w (ix5 b h r c ⟨128 + x.val, by omega⟩) := by
  have hr : ∀ t : Fin 4096, ∀ d : Fin 256, weigh w v a4 (ix3 b t d)
      = ∑ j : Fin 8, ∑ k : Fin 16, w (ix5 b ⟨d.val / 64, by omega⟩ ⟨t.val / 64, by omega⟩ ⟨t.val % 64, by omega⟩ ⟨j.val * 16 + k.val, by omega⟩) * v (ix7 b ⟨t.val / 64, by omega⟩ j ⟨t.val % 64, by omega⟩ k ⟨d.val / 64, by omega⟩ ⟨d.val % 64, by omega⟩)
        + ∑ x : Fin 256, a4 (ix3 b x d) * w (ix5 b ⟨d.val / 64, by omega⟩ ⟨t.val / 64, by omega⟩ ⟨t.val % 64, by omega⟩ ⟨128 + x.val, by omega⟩) := fun t d => by
    unfold weigh
    pointwise
  have e1 : (⟨(lane h l).val / 64, by omega⟩ : Fin 4) = h := Fin.ext (by show (64 * h.val + l.val) / 64 = h.val; omega)
  have e2 : (⟨(lane h l).val % 64, by omega⟩ : Fin 64) = l := Fin.ext (by show (64 * h.val + l.val) % 64 = l.val; omega)
  have e3 : (⟨(at' r c).val / 64, by omega⟩ : Fin 64) = r := Fin.ext (by show (64 * r.val + c.val) / 64 = r.val; omega)
  have e4 : (⟨(at' r c).val % 64, by omega⟩ : Fin 64) = c := Fin.ext (by show (64 * r.val + c.val) % 64 = c.val; omega)
  refine (hr (at' r c) (lane h l)).trans ?_
  rw [e1, e2, e3, e4]

theorem result_apply (a0 a1 a2 : FVec Ideal S8x4096x256 .f32) (a3 a4 : FVec Ideal S8x256x256 .f32) (a5 : FVec Ideal S4x15x31 .f32) (b : Fin 8) (r c : Fin 64) (h : Fin 4) (l : Fin 64) :
    result a0 a1 a2 a3 a4 a5 (ix3 b (at' r c) (lane h l)) = cell a0 a1 a2 a3 a4 a5 b r c h l := by
  rw [result_weigh, weigh_apply]
  exact weighed a0 a1 a2 a3 a4 a5 b r c h l (lane h l) rfl

end Cert.Proof.Na.Ref
end
-- ==== Proof.NaCover.lean ====
module

public import proofs.«01_k».proof.Proof.NaRefSoft
public import proofs.«01_k».proof.Proof.NaRun

@[expose] public section

noncomputable section

namespace Cert.Proof.Na.Ref

open Cert.KernelIdeal Cert.KernelIdeal.Gen Idealize.ShloMosaic Idealize.ShloMosaic.TcCoe

/-- A function of the result's indices that is the attention's result by row, column, head and component is `G`. -/
theorem eq_G (f : Vec Ideal S8x4096x256 .bf16) (x0 x1 x2 : Vec Ideal S8x4096x256 .f32) (x3 x4 : Vec Ideal S8x256x256 .f32) (x5 : Vec Ideal S4x15x31 .f32)
    (hf : ∀ (b : Fin 8) (r c : Fin 64) (h : Fin 4) (l : Fin 64), f (ix3 b (at' r c) (lane h l)) = cell x0 x1 x2 x3 x4 x5 b r c h l) :
    f = G x0 x1 x2 x3 x4 x5 := by
  funext i
  have h1 : (i 1).val < 4096 := (i 1).isLt
  have h2 : (i 2).val < 256 := (i 2).isLt
  have ei : i = ix3 (i 0) (at' ⟨(i 1).val / 64, by omega⟩ ⟨(i 1).val % 64, by omega⟩) (lane ⟨(i 2).val / 64, by omega⟩ ⟨(i 2).val % 64, by omega⟩) := by
    funext a; apply Fin.ext
    match a with
    | ⟨0, _⟩ => rfl
    | ⟨1, _⟩ => show (i 1).val = 64 * ((i 1).val / 64) + (i 1).val % 64; omega
    | ⟨2, _⟩ => show (i 2).val = 64 * ((i 2).val / 64) + (i 2).val % 64; omega
  exact (congrArg f ei).trans ((hf _ _ _ _ _).trans ((G_apply ..).symm.trans (congrArg (G x0 x1 x2 x3 x4 x5) ei.symm)))

end Cert.Proof.Na.Ref
end
-- ==== Proof.NaRefEq.lean ====
module

public import proofs.«01_k».proof.Proof.NaCover
public import proofs.«01_k».proof.Proof.NaRun

@[expose] public section

noncomputable section

namespace Cert.Proof.Na.Ref

open Cert.ReferenceIdeal Cert.ReferenceIdeal.Gen Idealize.ShloMosaic Idealize.ShloMosaic.TcCoe

open Cert.ReferenceIdeal.Value in
set_option maxRecDepth 16384 in
theorem res_result (m : (ℓ : Loc nD τ sig) → Buf (Elt Ideal) ℓ) (c : Dev nD) : res_out0 m c = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold res_out0 res_main_v115
  generalize m ((c : Thread nD τ).loc main_arg0) = x0
  generalize m ((c : Thread nD τ).loc main_arg1) = x1
  generalize m ((c : Thread nD τ).loc main_arg2) = x2
  generalize m ((c : Thread nD τ).loc main_arg3) = x3
  generalize m ((c : Thread nD τ).loc main_arg4) = x4
  generalize m ((c : Thread nD τ).loc main_arg5) = x5
  clean_types
  unfold result weights highest joined cscores wscores bias win heads rowWords colWords rowRel colRel
  rfl

open Cert.ReferenceIdeal.Value in
/-- The reference's result array is the same function of its arguments. -/
theorem ref_eq (m : (ℓ : Loc nD τ sig) → Buf (Elt Ideal) ℓ) (c : Dev nD) : res_out0 m c = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (res_result m c).trans (eq_G _ _ _ _ _ _ _ (fun b r c h l => result_apply _ _ _ _ _ _ b r c h l))

end Cert.Proof.Na.Ref
end
-- ==== Proof.FfnBlock.lean ====
module

public import proofs.«01_k».proof.Proof.Gen.KernelFfnIdeal.Value
public import Idealize.ShloMosaic.Lib.Pointwise

@[expose] public section

noncomputable section

namespace Cert.Proof.Ffn

open Cert.KernelFfnIdeal Cert.KernelFfnIdeal.Gen Idealize.ShloMosaic Idealize.ShloMosaic.TcCoe

theorem hz3 : (![0, 0, 0] : Fin 3 → Nat) = fun _ => 0 := funext fun a => by fin_cases a <;> rfl

/-- A sum over `n = a + b` is the sum over the first `a` plus the sum over the last `b`. -/
theorem sum_split {n : Nat} (a b : Nat) (h : n = a + b) (f : Fin n → EReal) :
    ∑ i, f i = ∑ i : Fin a, f ⟨i.val, by omega⟩ + ∑ i : Fin b, f ⟨a + i.val, by omega⟩ := by
  subst h
  exact Fin.sum_univ_add f

/-- The gate's activation, `a · 1 / (1 + exp (-a))`. -/
def silu (a : EReal) : EReal := a * Ideal.div 1 (1 + Ideal.exp (0 - a))

/-- One row, divided by its root mean square, scaled by `1 + sc` and shifted by `sh`. -/
def normed (x sh sc : Fin 1024 → EReal) (d : Fin 1024) : EReal :=
  x d * Ideal.rsqrt (Ideal.div (∑ e, x e * x e) (Ideal.ofBits FTy.f32 1149239296#32) + Ideal.ofBits FTy.f32 897988541#32)
    * (1 + sc d) + sh d

/-- The hidden unit `f` of the gated network over a row `h`. -/
def hidden (h : Fin 1024 → EReal) (w1 w3 : Fin 1024 → Fin 2816 → EReal) (f : Fin 2816) : EReal :=
  silu (∑ e, h e * w1 e f) * ∑ e, h e * w3 e f

/-- One row of the half step: the row plus half the gate times the network of the normed row. -/
def halfStep (x sh sc g : Fin 1024 → EReal) (w1 w3 : Fin 1024 → Fin 2816 → EReal) (w2 : Fin 2816 → Fin 1024 → EReal)
    (d : Fin 1024) : EReal :=
  x d + Ideal.ofBits FTy.f32 1056964608#32 * g d * ∑ f, hidden (normed x sh sc) w1 w3 f * w2 f d

set_option maxRecDepth 16384 in
theorem pay3_apply (x0 : Vec Ideal S1x512x1024 .f32) (x1 : Vec Ideal S1x9x1024 .f32) (r : Fin 512) (d : Fin 1024) :
    k0_pay3 (View.ld x0 r0_0) (View.ld x1 r0_1) (View.ld x1 r0_2) (ix2 r d)
      = normed (fun e => x0 (ix3 0 r e)) (fun e => x1 (ix3 0 6 e)) (fun e => x1 (ix3 0 7 e)) d := by
  pointwise [k0_pay3, k0_pay2]
  rfl

/-- The block the kernel stores, read at a row and a column, is the half step of that row. -/
theorem out_apply (x0 : Vec Ideal S1x512x1024 .f32) (x1 : Vec Ideal S1x9x1024 .f32) (x2 x3 : Vec Ideal S1x1024x2816 .f32) (x4 : Vec Ideal S1x2816x1024 .f32)
    (r : Fin 512) (d : Fin 1024) :
    out0_5 x0 x1 x2 x3 x4 (ix3 0 r d)
      = halfStep (fun e => x0 (ix3 0 r e)) (fun e => x1 (ix3 0 6 e)) (fun e => x1 (ix3 0 7 e)) (fun e => x1 (ix3 0 8 e))
          (fun e f => x2 (ix3 0 e f)) (fun e f => x3 (ix3 0 e f)) (fun f e => x4 (ix3 0 f e)) d := by
  have h15 : k0_pay15 x0 x1 x2 x3 x4 = k0_pay3 (View.ld x0 r0_0) (View.ld x1 r0_1) (View.ld x1 r0_2) := rfl
  unfold out0_5
  rw [View.canon_unit_zero hz3, h15]
  generalize hp : k0_pay3 (View.ld x0 r0_0) (View.ld x1 r0_1) (View.ld x1 r0_2) = p
  have hp' : ∀ e, p (ix2 r e) = normed (fun e => x0 (ix3 0 r e)) (fun e => x1 (ix3 0 6 e)) (fun e => x1 (ix3 0 7 e)) e := by
    intro e; rw [← hp]; exact pay3_apply x0 x1 r e
  unfold halfStep
  rw [sum_split 2560 256 rfl, sum_split 2048 512 rfl, sum_split 1536 512 rfl, sum_split 1024 512 rfl, sum_split 512 512 rfl]
  unfold hidden silu
  pointwise [k0_pay1, k0_pay2,k0_pay4,k0_pay5,k0_pay6,k0_pay7,k0_pay8,k0_pay9,k0_pay10,k0_pay11,k0_pay12,k0_pay13,k0_pay14]
  simp only [hp, hp']
end Cert.Proof.Ffn
end
-- ==== Proof.FfnRun.lean ====
module

public import proofs.«01_k».proof.Proof.FfnBlock
public import proofs.«01_k».proof.Proof.Gen.ReferenceFfnIdeal.Run
public import Idealize.ShloMosaic.Lib.Tactic.CleanTypes

@[expose] public section

noncomputable section

namespace Cert.Proof.Ffn

open Cert.KernelFfnIdeal Cert.KernelFfnIdeal.Gen Cert.KernelFfnIdeal.Value Idealize.ShloMosaic Idealize.ShloMosaic.TcCoe Idealize.SL.Sem

/-- The result array as one function of the argument arrays: every row's half step, by rows 6 to 8 of its batch's
    modulation and layer 0 of the weights. -/
def G (x : Vec Ideal S8x4096x1024 .f32) (mods : Vec Ideal S8x9216 .f32) (w1 w3 : Vec Ideal S2x1024x2816 .f32)
    (w2 : Vec Ideal S2x2816x1024 .f32) : Vec Ideal S8x4096x1024 .f32 := fun i =>
  halfStep (fun e => x (ix3 (i 0) (i 1) e)) (fun e => mods (ix2 (i 0) ⟨6144 + e.val, by omega⟩))
    (fun e => mods (ix2 (i 0) ⟨7168 + e.val, by omega⟩)) (fun e => mods (ix2 (i 0) ⟨8192 + e.val, by omega⟩))
    (fun e f => w1 (ix3 0 e f)) (fun e f => w3 (ix3 0 e f)) (fun f e => w2 (ix3 0 f e)) (i 2)

variable (m : (ℓ : Loc nD τ sig) → Buf (Elt Ideal) ℓ) (ρ : Dev nD → PrngReg)

/-- Each window's block index at a grid point: the batch and row block of the point for the rows, the batch for the
    modulation, zero for the weights. -/
theorem idx0 : ∀ t : Fin cfg0.N, win0_0.index t (0 : Fin 3) = win0_5.index t (0 : Fin 3) ∧ win0_0.index t (1 : Fin 3) = win0_5.index t (1 : Fin 3) ∧ win0_0.index t (2 : Fin 3) = 0 := (by decide +kernel : ∀ t : Fin grid0.N, _)
theorem idx1 : ∀ t : Fin cfg0.N, win0_1.index t (0 : Fin 3) = win0_5.index t (0 : Fin 3) ∧ win0_1.index t (1 : Fin 3) = 0 ∧ win0_1.index t (2 : Fin 3) = 0 := (by decide +kernel : ∀ t : Fin grid0.N, _)
theorem idx2 : ∀ t : Fin cfg0.N, win0_2.index t (0 : Fin 3) = 0 ∧ win0_2.index t (1 : Fin 3) = 0 ∧ win0_2.index t (2 : Fin 3) = 0 := (by decide +kernel : ∀ t : Fin grid0.N, _)
theorem idx3 : ∀ t : Fin cfg0.N, win0_3.index t (0 : Fin 3) = 0 ∧ win0_3.index t (1 : Fin 3) = 0 ∧ win0_3.index t (2 : Fin 3) = 0 := (by decide +kernel : ∀ t : Fin grid0.N, _)
theorem idx4 : ∀ t : Fin cfg0.N, win0_4.index t (0 : Fin 3) = 0 ∧ win0_4.index t (1 : Fin 3) = 0 ∧ win0_4.index t (2 : Fin 3) = 0 := (by decide +kernel : ∀ t : Fin grid0.N, _)
theorem idx5 : ∀ t : Fin cfg0.N, win0_5.index t (0 : Fin 3) < 8 ∧ win0_5.index t (1 : Fin 3) < 8 ∧ win0_5.index t (2 : Fin 3) = 0 := (by decide +kernel : ∀ t : Fin grid0.N, _)
theorem idx5_onto : ∀ b k : Fin 8, ∃ t : Fin cfg0.N, win0_5.index t (0 : Fin 3) = b.val ∧ win0_5.index t (1 : Fin 3) = k.val := (by decide +kernel : ∀ b k : Fin 8, ∃ t : Fin grid0.N, _)

/-- The batch of a grid point, and the row of the array that a row of its block is. -/
def bat (t : Fin cfg0.N) : Fin 8 := ⟨win0_5.index t (0 : Fin 3), (idx5 t).1⟩
def row (t : Fin cfg0.N) (r : Fin 512) : Fin 4096 := ⟨win0_5.index t (1 : Fin 3) * 512 + r.val, by have := (idx5 t).2.1; omega⟩

theorem emb0 (t : Fin cfg0.N) (j : S1x512x1024.Idx) : ((cfg0.win 0).blk t).view.emb j = ix3 (bat t) (row t (j 1)) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = win0_5.index t (0 : Fin 3); omega
  | ⟨1, _⟩ => show win0_0.index t (1 : Fin 3) * 512 + 1 * (j 1).val = win0_5.index t (1 : Fin 3) * 512 + (j 1).val; omega
  | ⟨2, _⟩ => show win0_0.index t (2 : Fin 3) * 1024 + 1 * (j 2).val = (j 2).val; omega

theorem emb5 (t : Fin cfg0.N) (j : S1x512x1024.Idx) : ((cfg0.win 5).blk t).view.emb j = ix3 (bat t) (row t (j 1)) (j 2) := by
  obtain ⟨e0, e1, e2⟩ := idx5 t
  have h0 : (j 0).val < 1 := (j 0).isLt
  funext a; apply Fin.ext
  match a with
  | ⟨0, _⟩ => show win0_5.index t (0 : Fin 3) * 1 + 1 * (j 0).val = win0_5.index t (0 : Fin 3); omega
  | ⟨1, _⟩ => show win0_5.index t (1 : Fin 3) * 512 + 1 * (j 1).val = win0_5.index t (1 : Fin 3) * 512 + (j 1).val; omega
  | ⟨2, _⟩ => show win0_5.index t (2 : Fin 3) * 1024 + 1 * (j 2).val = (j 2).val; omega

theorem emb1 (t : Fin cfg0.N) (j : S1x9x1024.Idx) : ((cfg0.win 1).blk t).view.emb j = ix3 (bat t) (j 1) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = win0_5.index t (0 : Fin 3); omega
  | ⟨1, _⟩ => show win0_1.index t (1 : Fin 3) * 9 + 1 * (j 1).val = (j 1).val; omega
  | ⟨2, _⟩ => show win0_1.index t (2 : Fin 3) * 1024 + 1 * (j 2).val = (j 2).val; omega

theorem emb2 (t : Fin cfg0.N) (j : S1x1024x2816.Idx) : ((cfg0.win 2).blk t).view.emb j = ix3 (0 : Fin 2) (j 1) (j 2) := by
  obtain ⟨e0, e1, e2⟩ := idx2 t
  have h0 : (j 0).val < 1 := (j 0).isLt
  funext a; apply Fin.ext
  match a with
  | ⟨0, _⟩ => show win0_2.index t (0 : Fin 3) * 1 + 1 * (j 0).val = 0; omega
  | ⟨1, _⟩ => show win0_2.index t (1 : Fin 3) * 1024 + 1 * (j 1).val = (j 1).val; omega
  | ⟨2, _⟩ => show win0_2.index t (2 : Fin 3) * 2816 + 1 * (j 2).val = (j 2).val; omega

theorem emb3 (t : Fin cfg0.N) (j : S1x1024x2816.Idx) : ((cfg0.win 3).blk t).view.emb j = ix3 (0 : Fin 2) (j 1) (j 2) := by
  obtain ⟨e0, e1, e2⟩ := idx3 t
  have h0 : (j 0).val < 1 := (j 0).isLt
  funext a; apply Fin.ext
  match a with
  | ⟨0, _⟩ => show win0_3.index t (0 : Fin 3) * 1 + 1 * (j 0).val = 0; omega
  | ⟨1, _⟩ => show win0_3.index t (1 : Fin 3) * 1024 + 1 * (j 1).val = (j 1).val; omega
  | ⟨2, _⟩ => show win0_3.index t (2 : Fin 3) * 2816 + 1 * (j 2).val = (j 2).val; omega

theorem emb4 (t : Fin cfg0.N) (j : S1x2816x1024.Idx) : ((cfg0.win 4).blk t).view.emb j = ix3 (0 : Fin 2) (j 1) (j 2) := by
  obtain ⟨e0, e1, e2⟩ := idx4 t
  have h0 : (j 0).val < 1 := (j 0).isLt
  funext a; apply Fin.ext
  match a with
  | ⟨0, _⟩ => show win0_4.index t (0 : Fin 3) * 1 + 1 * (j 0).val = 0; omega
  | ⟨1, _⟩ => show win0_4.index t (1 : Fin 3) * 2816 + 1 * (j 1).val = (j 1).val; omega
  | ⟨2, _⟩ => show win0_4.index t (2 : Fin 3) * 1024 + 1 * (j 2).val = (j 2).val; omega

/-- The modulation array that the region finds is the argument with its columns in nine rows. -/
theorem V_mods (c : Dev nD) (b : Fin 8) (k : Fin 9) (e : Fin 1024) :
    V m c main_v0 (ix3 b k e) = m ((c : Thread nD τ).loc main_arg1) (ix2 b ⟨k.val * 1024 + e.val, by omega⟩) := by
  have h : V m c main_v0 = shapeCast S8x9x1024 (m ((c : Thread nD τ).loc main_arg1)) shapeCasts_S8x9216_S8x9x1024 := by
    unfold V hostOps0
    after_results_simp
    rfl
  rw [h]
  pointwise

/-- What a grid point writes back is its block of `G` of the arguments. -/
theorem flushed_eq (c : Dev nD) (t : Fin cfg0.N) :
    (dats m 0 c).flushed 5 t = ((cfg0.win 5).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4))) := by
  rw [flushed5]
  funext j
  refine (?_ : out0_5 (iblk m c 0 t) (iblk m c 1 t) (iblk m c 2 t) (iblk m c 3 t) (iblk m c 4 t) j = G _ _ _ _ _ (((cfg0.win 5).blk t).view.emb j))
  rw [emb5]
  revert j
  refine (?_ : ∀ j : S1x512x1024.Idx, out0_5 (iblk m c 0 t) (iblk m c 1 t) (iblk m c 2 t) (iblk m c 3 t) (iblk m c 4 t) j = G _ _ _ _ _ (ix3 (bat t) (row t (j 1)) (j 2)))
  intro j
  idx_vars j
  obtain rfl : j0 = 0 := Subsingleton.elim (α := Fin 1) _ _
  rw [out_apply]
  have a0 : ∀ e : Fin 1024, iblk m c 0 t (ix3 (0 : Fin 1) j1 e) = m ((c : Thread nD τ).loc main_arg0) (ix3 (bat t) (row t j1) e) := fun e =>
    (congrArg (V m c main_arg0) (emb0 t (ix3 (0 : Fin 1) j1 e))).trans (congrFun (V_main_arg0 m c) _)
  have a1 : ∀ (k : Fin 9) (e : Fin 1024), iblk m c 1 t (ix3 (0 : Fin 1) k e) = m ((c : Thread nD τ).loc main_arg1) (ix2 (bat t) ⟨k.val * 1024 + e.val, by omega⟩) := fun k e =>
    (congrArg (V m c main_v0) (emb1 t (ix3 (0 : Fin 1) k e))).trans (V_mods m c (bat t) k e)
  have a2 : ∀ (e : Fin 1024) (f : Fin 2816), iblk m c 2 t (ix3 (0 : Fin 1) e f) = m ((c : Thread nD τ).loc main_arg2) (ix3 (0 : Fin 2) e f) := fun e f =>
    (congrArg (V m c main_arg2) (emb2 t (ix3 (0 : Fin 1) e f))).trans (congrFun (V_main_arg2 m c) _)
  have a3 : ∀ (e : Fin 1024) (f : Fin 2816), iblk m c 3 t (ix3 (0 : Fin 1) e f) = m ((c : Thread nD τ).loc main_arg3) (ix3 (0 : Fin 2) e f) := fun e f =>
    (congrArg (V m c main_arg3) (emb3 t (ix3 (0 : Fin 1) e f))).trans (congrFun (V_main_arg3 m c) _)
  have a4 : ∀ (f : Fin 2816) (e : Fin 1024), iblk m c 4 t (ix3 (0 : Fin 1) f e) = m ((c : Thread nD τ).loc main_arg4) (ix3 (0 : Fin 2) f e) := fun f e =>
    (congrArg (V m c main_arg4) (emb4 t (ix3 (0 : Fin 1) f e))).trans (congrFun (V_main_arg4 m c) _)
  simp only [a0, a1, a2, a3, a4]
  rfl

/-- Every index of the result array is in some point's block. -/
theorem covered (i : S8x4096x1024.Idx) : ∃ t : Fin cfg0.N, (cfg0.win 5).flush t = true ∧ i ∈ ((cfg0.win 5).blk t).view.set := by
  have h1 : (i 1).val < 4096 := (i 1).isLt
  obtain ⟨t, hb, hk⟩ := idx5_onto (i 0) ⟨(i 1).val / 512, by omega⟩
  refine ⟨t, flush0_5 _, ?_⟩
  have h := ((cfg0.win 5).blk t).view.emb_mem_set (ix3 (0 : Fin 1) ⟨(i 1).val % 512, by omega⟩ (i 2))
  rw [emb5] at h
  have e : ix3 (bat t) (row t ⟨(i 1).val % 512, by omega⟩) (i 2) = i := by
    funext a; apply Fin.ext
    match a with
    | ⟨0, _⟩ => exact hb
    | ⟨1, _⟩ => show win0_5.index t (1 : Fin 3) * 512 + (i 1).val % 512 = (i 1).val; rw [hk]; show (i 1).val / 512 * 512 + (i 1).val % 512 = (i 1).val; omega
    | ⟨2, _⟩ => rfl
  rw [← e]; exact h

/-- The result array after the run is `G` of the arguments. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) covered

end Cert.Proof.Ffn

namespace Cert.Proof.Ffn
open Cert.ReferenceFfnIdeal Cert.ReferenceFfnIdeal.Value Idealize.ShloMosaic Idealize.ShloMosaic.TcCoe Idealize.SL.Sem

set_option maxRecDepth 16384 in
/-- The reference's result array is the same function of its arguments. -/
theorem ref_eq (m : (ℓ : Loc nD τ sig) → Buf (Elt Ideal) ℓ) (c : Dev nD) : res_out0 m c
    = G (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  idx_vars i
  unfold res_out0 res_main_v41
  generalize m ((c : Thread nD τ).loc main_arg0) = x
  generalize m ((c : Thread nD τ).loc main_arg1) = x1
  generalize m ((c : Thread nD τ).loc main_arg2) = x2
  generalize m ((c : Thread nD τ).loc main_arg3) = x3
  generalize m ((c : Thread nD τ).loc main_arg4) = x4
  clean_types
  pointwise
  unfold G halfStep hidden normed silu
  simp only [zero_sub]
  rfl

end Cert.Proof.Ffn
end
-- ==== Proof.InSpec.lean ====
module

public import proofs.«01_k».proof.Proof.FfnBlock
public import proofs.«01_k».proof.Proof.Gen.KernelInIdeal.Skeleton

@[expose] public section

noncomputable section

namespace Cert.Proof.In

open Cert.KernelInIdeal Idealize.ShloMosaic Idealize.ShloMosaic.TcCoe
open Cert.Proof.Ffn (normed silu halfStep)

/-- The row `s` of batch `b` after the first half step, by rows 0 to 2 of its batch's modulation. -/
def stepped (x : Vec Ideal S8x4096x1024 .f32) (mods : Vec Ideal S8x9216 .f32) (w1 w3 : Vec Ideal S1024x2816 .f32) (w2 : Vec Ideal S2816x1024 .f32) (b : Fin 8) (s : Fin 4096) : Fin 1024 → EReal :=
  halfStep (fun e => x (ix3 b s e)) (fun e => mods (ix2 b ⟨e.val, by omega⟩)) (fun e => mods (ix2 b ⟨1024 + e.val, by omega⟩)) (fun e => mods (ix2 b ⟨2048 + e.val, by omega⟩))
    (fun e f => w1 (ix2 e f)) (fun e f => w3 (ix2 e f)) (fun f e => w2 (ix2 f e))

/-- Column `j` of the input projection of that row, by rows 3 and 4 of the modulation. -/
def proj (x : Vec Ideal S8x4096x1024 .f32) (mods : Vec Ideal S8x9216 .f32) (w1 w3 : Vec Ideal S1024x2816 .f32) (w2 : Vec Ideal S2816x1024 .f32) (win : Vec Ideal S1024x2336 .f32) (b : Fin 8) (s : Fin 4096) (j : Fin 2336) : EReal :=
  ∑ e, normed (stepped x mods w1 w3 w2 b s) (fun e => mods (ix2 b ⟨3072 + e.val, by omega⟩)) (fun e => mods (ix2 b ⟨4096 + e.val, by omega⟩)) e * win (ix2 e j)

/-- The five result arrays: the rows after the half step, and four groups of columns of the projection. -/
def G0 (x : Vec Ideal S8x4096x1024 .f32) (mods : Vec Ideal S8x9216 .f32) (w1 w3 : Vec Ideal S1024x2816 .f32) (w2 : Vec Ideal S2816x1024 .f32) : Vec Ideal S8x4096x1024 .f32 := fun i => stepped x mods w1 w3 w2 (i 0) (i 1) (i 2)
def G1 (x : Vec Ideal S8x4096x1024 .f32) (mods : Vec Ideal S8x9216 .f32) (w1 w3 : Vec Ideal S1024x2816 .f32) (w2 : Vec Ideal S2816x1024 .f32) (win : Vec Ideal S1024x2336 .f32) : Vec Ideal S8x4096x256 .bf16 := fun i =>
  proj x mods w1 w3 w2 win (i 0) (i 1) ⟨768 + (i 2).val, by have : (i 2).val < 256 := (i 2).isLt; omega⟩
def G2 (x : Vec Ideal S8x4096x1024 .f32) (mods : Vec Ideal S8x9216 .f32) (w1 w3 : Vec Ideal S1024x2816 .f32) (w2 : Vec Ideal S2816x1024 .f32) (win : Vec Ideal S1024x2336 .f32) : Vec Ideal S8x4096x256 .bf16 := fun i =>
  proj x mods w1 w3 w2 win (i 0) (i 1) ⟨1280 + (i 2).val, by have : (i 2).val < 256 := (i 2).isLt; omega⟩
def G3 (x : Vec Ideal S8x4096x1024 .f32) (mods : Vec Ideal S8x9216 .f32) (w1 w3 : Vec Ideal S1024x2816 .f32) (w2 : Vec Ideal S2816x1024 .f32) (win : Vec Ideal S1024x2336 .f32) : Vec Ideal S8x4096x256 .bf16 := fun i =>
  silu (proj x mods w1 w3 w2 win (i 0) (i 1) ⟨1536 + (i 2).val, by have : (i 2).val < 256 := (i 2).isLt; omega⟩)
def G4 (x : Vec Ideal S8x4096x1024 .f32) (mods : Vec Ideal S8x9216 .f32) (w1 w3 : Vec Ideal S1024x2816 .f32) (w2 : Vec Ideal S2816x1024 .f32) (win : Vec Ideal S1024x2336 .f32) : Vec Ideal S8x4096x128 .bf16 := fun i =>
  proj x mods w1 w3 w2 win (i 0) (i 1) ⟨2208 + (i 2).val, by have : (i 2).val < 128 := (i 2).isLt; omega⟩

end Cert.Proof.In
end
-- ==== Proof.InRef.lean ====
module

public import proofs.«01_k».proof.Proof.InSpec
public import proofs.«01_k».proof.Proof.Gen.ReferenceInIdeal.Run
public import Idealize.ShloMosaic.Lib.Pointwise
public import Idealize.ShloMosaic.Lib.Tactic.CleanTypes

@[expose] public section

noncomputable section

namespace Cert.Proof.In.Ref

open Cert.ReferenceInIdeal Cert.ReferenceInIdeal.Value Idealize.ShloMosaic Idealize.ShloMosaic.TcCoe Idealize.SL.Sem
open Cert.Proof.Ffn (normed silu halfStep)

set_option maxRecDepth 16384 in
set_option maxHeartbeats 2000000 in
theorem ref_eq0 (m : (ℓ : Loc nD τ sig) → Buf (Elt Ideal) ℓ) (c : Dev nD) : res_out0 m c
    = G0 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  idx_vars i
  unfold res_out0 res_main_v35
  generalize m ((c : Thread nD τ).loc main_arg0) = x0
  generalize m ((c : Thread nD τ).loc main_arg1) = x1
  generalize m ((c : Thread nD τ).loc main_arg2) = x2
  generalize m ((c : Thread nD τ).loc main_arg3) = x3
  generalize m ((c : Thread nD τ).loc main_arg4) = x4
  clean_types
  pointwise
  unfold G0 stepped halfStep Cert.Proof.Ffn.hidden normed silu
  simp only [zero_sub]
  rfl

set_option maxRecDepth 16384 in
set_option maxHeartbeats 2000000 in
theorem ref_eq1 (m : (ℓ : Loc nD τ sig) → Buf (Elt Ideal) ℓ) (c : Dev nD) : res_out1 m c
    = G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  idx_vars i
  unfold res_out1 res_main_v66
  generalize m ((c : Thread nD τ).loc main_arg0) = x0
  generalize m ((c : Thread nD τ).loc main_arg1) = x1
  generalize m ((c : Thread nD τ).loc main_arg2) = x2
  generalize m ((c : Thread nD τ).loc main_arg3) = x3
  generalize m ((c : Thread nD τ).loc main_arg4) = x4
  generalize m ((c : Thread nD τ).loc main_arg5) = x5
  clean_types
  pointwise
  unfold G1 proj normed stepped halfStep Cert.Proof.Ffn.hidden normed silu
  simp only [zero_sub]
  rfl

set_option maxRecDepth 16384 in
set_option maxHeartbeats 2000000 in
theorem ref_eq2 (m : (ℓ : Loc nD τ sig) → Buf (Elt Ideal) ℓ) (c : Dev nD) : res_out2 m c
    = G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  idx_vars i
  unfold res_out2 res_main_v67
  generalize m ((c : Thread nD τ).loc main_arg0) = x0
  generalize m ((c : Thread nD τ).loc main_arg1) = x1
  generalize m ((c : Thread nD τ).loc main_arg2) = x2
  generalize m ((c : Thread nD τ).loc main_arg3) = x3
  generalize m ((c : Thread nD τ).loc main_arg4) = x4
  generalize m ((c : Thread nD τ).loc main_arg5) = x5
  clean_types
  pointwise
  unfold G2 proj normed stepped halfStep Cert.Proof.Ffn.hidden normed silu
  simp only [zero_sub]
  rfl

set_option maxRecDepth 16384 in
set_option maxHeartbeats 2000000 in
theorem ref_eq3 (m : (ℓ : Loc nD τ sig) → Buf (Elt Ideal) ℓ) (c : Dev nD) : res_out3 m c
    = G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  idx_vars i
  unfold res_out3 res_main_v69
  generalize m ((c : Thread nD τ).loc main_arg0) = x0
  generalize m ((c : Thread nD τ).loc main_arg1) = x1
  generalize m ((c : Thread nD τ).loc main_arg2) = x2
  generalize m ((c : Thread nD τ).loc main_arg3) = x3
  generalize m ((c : Thread nD τ).loc main_arg4) = x4
  generalize m ((c : Thread nD τ).loc main_arg5) = x5
  clean_types
  pointwise
  unfold G3 proj normed stepped halfStep Cert.Proof.Ffn.hidden normed silu
  simp only [zero_sub]
  rfl

set_option maxRecDepth 16384 in
set_option maxHeartbeats 2000000 in
theorem ref_eq4 (m : (ℓ : Loc nD τ sig) → Buf (Elt Ideal) ℓ) (c : Dev nD) : res_out4 m c
    = G4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  idx_vars i
  unfold res_out4 res_main_v70
  generalize m ((c : Thread nD τ).loc main_arg0) = x0
  generalize m ((c : Thread nD τ).loc main_arg1) = x1
  generalize m ((c : Thread nD τ).loc main_arg2) = x2
  generalize m ((c : Thread nD τ).loc main_arg3) = x3
  generalize m ((c : Thread nD τ).loc main_arg4) = x4
  generalize m ((c : Thread nD τ).loc main_arg5) = x5
  clean_types
  pointwise
  unfold G4 proj normed stepped halfStep Cert.Proof.Ffn.hidden normed silu
  simp only [zero_sub]
  rfl

end Cert.Proof.In.Ref
end
-- ==== Proof.InMath.lean ====
module

public import proofs.«01_k».proof.Proof.FfnBlock
public import proofs.«01_k».proof.Proof.Gen.KernelInIdeal.Skeleton
public import Idealize.ShloMosaic.Lib.Pointwise

@[expose] public section

noncomputable section

namespace Cert.Proof.In

open Cert.KernelInIdeal Cert.KernelInIdeal.Gen Idealize.ShloMosaic Idealize.ShloMosaic.TcCoe
open Cert.Proof.Ffn (normed silu hidden halfStep sum_split)

/-- The gated network of the normed rows, summed over the six blocks of hidden units. -/
def acc (v0 : Vec Ideal S1x512x1024 .f32) (v2 v4 : Vec Ideal S1x1x1024 .f32) (a0 b0 : Vec Ideal S1024x512 .bf16) (c0 : Vec Ideal S512x1024 .bf16) (a1 b1 : Vec Ideal S1024x512 .bf16) (c1 : Vec Ideal S512x1024 .bf16) (a2 b2 : Vec Ideal S1024x512 .bf16) (c2 : Vec Ideal S512x1024 .bf16) (a3 b3 : Vec Ideal S1024x512 .bf16) (c3 : Vec Ideal S512x1024 .bf16) (a4 b4 : Vec Ideal S1024x512 .bf16) (c4 : Vec Ideal S512x1024 .bf16) (a5 b5 : Vec Ideal S1024x256 .bf16) (c5 : Vec Ideal S256x1024 .bf16) : FVec Ideal S512x1024 .f32 :=
  k0_pay14 (k0_pay5 v0 v2 v4) (k0_pay12 (k0_pay5 v0 v2 v4) (k0_pay10 (k0_pay5 v0 v2 v4) (k0_pay7 (F := Ideal)) (k0_pay8 v0 v2 v4 a0) (k0_pay9 v0 v2 v4 b0) c0 a1 b1 c1)
    (k0_pay11 (k0_pay5 v0 v2 v4) a2) b2 c2 a3 b3 c3) (k0_pay13 a4) b4 c4 a5 b5 c5

set_option maxRecDepth 16384 in
theorem normed_apply (v0 : Vec Ideal S1x512x1024 .f32) (v2 v4 : Vec Ideal S1x1x1024 .f32) (r : Fin 512) (d : Fin 1024) :
    k0_pay5 v0 v2 v4 (ix2 r d) = normed (fun e => v0 (ix3 0 r e)) (fun e => v2 (ix3 0 0 e)) (fun e => v4 (ix3 0 0 e)) d := by
  pointwise [k0_pay5, k0_pay4]
  rfl

set_option maxRecDepth 16384 in
/-- The rows after the half step. -/
theorem x1_apply (v0 : Vec Ideal S1x512x1024 .f32) (v2 v4 v23 : Vec Ideal S1x1x1024 .f32) (a0 b0 : Vec Ideal S1024x512 .bf16) (c0 : Vec Ideal S512x1024 .bf16) (a1 b1 : Vec Ideal S1024x512 .bf16) (c1 : Vec Ideal S512x1024 .bf16) (a2 b2 : Vec Ideal S1024x512 .bf16) (c2 : Vec Ideal S512x1024 .bf16) (a3 b3 : Vec Ideal S1024x512 .bf16) (c3 : Vec Ideal S512x1024 .bf16) (a4 b4 : Vec Ideal S1024x512 .bf16) (c4 : Vec Ideal S512x1024 .bf16) (a5 b5 : Vec Ideal S1024x256 .bf16) (c5 : Vec Ideal S256x1024 .bf16)
    (w1 w3 : Fin 1024 → Fin 2816 → EReal) (w2 : Fin 2816 → Fin 1024 → EReal)
    (ha0 : ∀ (e : Fin 1024) (f : Fin 512), a0 (ix2 e f) = w1 e ⟨f.val, by omega⟩) (hb0 : ∀ (e : Fin 1024) (f : Fin 512), b0 (ix2 e f) = w3 e ⟨f.val, by omega⟩) (hc0 : ∀ (f : Fin 512) (e : Fin 1024), c0 (ix2 f e) = w2 ⟨f.val, by omega⟩ e)
    (ha1 : ∀ (e : Fin 1024) (f : Fin 512), a1 (ix2 e f) = w1 e ⟨512 + f.val, by omega⟩) (hb1 : ∀ (e : Fin 1024) (f : Fin 512), b1 (ix2 e f) = w3 e ⟨512 + f.val, by omega⟩) (hc1 : ∀ (f : Fin 512) (e : Fin 1024), c1 (ix2 f e) = w2 ⟨512 + f.val, by omega⟩ e)
    (ha2 : ∀ (e : Fin 1024) (f : Fin 512), a2 (ix2 e f) = w1 e ⟨1024 + f.val, by omega⟩) (hb2 : ∀ (e : Fin 1024) (f : Fin 512), b2 (ix2 e f) = w3 e ⟨1024 + f.val, by omega⟩) (hc2 : ∀ (f : Fin 512) (e : Fin 1024), c2 (ix2 f e) = w2 ⟨1024 + f.val, by omega⟩ e)
    (ha3 : ∀ (e : Fin 1024) (f : Fin 512), a3 (ix2 e f) = w1 e ⟨1536 + f.val, by omega⟩) (hb3 : ∀ (e : Fin 1024) (f : Fin 512), b3 (ix2 e f) = w3 e ⟨1536 + f.val, by omega⟩) (hc3 : ∀ (f : Fin 512) (e : Fin 1024), c3 (ix2 f e) = w2 ⟨1536 + f.val, by omega⟩ e)
    (ha4 : ∀ (e : Fin 1024) (f : Fin 512), a4 (ix2 e f) = w1 e ⟨2048 + f.val, by omega⟩) (hb4 : ∀ (e : Fin 1024) (f : Fin 512), b4 (ix2 e f) = w3 e ⟨2048 + f.val, by omega⟩) (hc4 : ∀ (f : Fin 512) (e : Fin 1024), c4 (ix2 f e) = w2 ⟨2048 + f.val, by omega⟩ e)
    (ha5 : ∀ (e : Fin 1024) (f : Fin 256), a5 (ix2 e f) = w1 e ⟨2560 + f.val, by omega⟩) (hb5 : ∀ (e : Fin 1024) (f : Fin 256), b5 (ix2 e f) = w3 e ⟨2560 + f.val, by omega⟩) (hc5 : ∀ (f : Fin 256) (e : Fin 1024), c5 (ix2 f e) = w2 ⟨2560 + f.val, by omega⟩ e)
    (r : Fin 512) (d : Fin 1024) :
    k0_pay15 (k0_pay4 v0) (k0_pay6 v23) (acc v0 v2 v4 a0 b0 c0 a1 b1 c1 a2 b2 c2 a3 b3 c3 a4 b4 c4 a5 b5 c5) (ix2 r d)
      = halfStep (fun e => v0 (ix3 0 r e)) (fun e => v2 (ix3 0 0 e)) (fun e => v4 (ix3 0 0 e)) (fun e => v23 (ix3 0 0 e)) w1 w3 w2 d := by
  have h8 : k0_pay8 v0 v2 v4 a0 = k0_pay11 (k0_pay5 v0 v2 v4) a0 := rfl
  have h9 : k0_pay9 v0 v2 v4 b0 = k0_pay11 (k0_pay5 v0 v2 v4) b0 := rfl
  unfold acc
  rw [h8, h9]
  have hp' : ∀ e, k0_pay5 v0 v2 v4 (ix2 r e) = normed (fun e => v0 (ix3 0 r e)) (fun e => v2 (ix3 0 0 e)) (fun e => v4 (ix3 0 0 e)) e := normed_apply v0 v2 v4 r
  generalize k0_pay5 v0 v2 v4 = p at hp' ⊢
  unfold halfStep
  rw [sum_split 2560 256 rfl, sum_split 2048 512 rfl, sum_split 1536 512 rfl, sum_split 1024 512 rfl, sum_split 512 512 rfl]
  unfold Cert.Proof.Ffn.hidden silu
  pointwise [k0_pay15, k0_pay4, k0_pay6, k0_pay7, k0_pay10, k0_pay11, k0_pay12, k0_pay13, k0_pay14]
  simp only [hp', ha0, hb0, hc0, ha1, hb1, hc1, ha2, hb2, hc2, ha3, hb3, hc3, ha4, hb4, hc4, ha5, hb5, hc5]

theorem store_apply (v1 : FVec Ideal S512x1024 .f32) (v26 : FVec Ideal S1x1024 .f32) (v147 : FVec Ideal S512x1024 .f32) (r : Fin 512) (d : Fin 1024) :
    k0_pay16 v1 v26 v147 (ix3 0 r d) = k0_pay15 v1 v26 v147 (ix2 r d) := by
  unfold k0_pay16
  generalize k0_pay15 v1 v26 v147 = p
  pointwise

set_option maxRecDepth 16384 in
/-- A column of the input projection of the normed rows `y`. -/
theorem proj_apply (v1 : FVec Ideal S512x1024 .f32) (v26 : FVec Ideal S1x1024 .f32) (v147 : FVec Ideal S512x1024 .f32) (v154 v156 : Vec Ideal S1x1x1024 .f32)
    (v175 : Vec Ideal S1024x2432 .bf16) (r : Fin 512) (j : Fin 2432) (y : Fin 1024 → EReal) (hy : ∀ e, k0_pay15 v1 v26 v147 (ix2 r e) = y e) :
    k0_pay17 v1 v26 v147 v154 v156 v175 (ix2 r j) = ∑ e, normed y (fun e => v154 (ix3 0 0 e)) (fun e => v156 (ix3 0 0 e)) e * v175 (ix2 e j) := by
  unfold k0_pay17
  generalize k0_pay15 v1 v26 v147 = p at hy ⊢
  unfold normed
  pointwise
  simp only [hy]

/-- The five results as columns of the projection. -/
theorem nav_apply (h : FVec Ideal S512x2432 .f32) (r : Fin 512) (j : Fin 256) : k0_pay37 h (ix3 0 r j) = h (ix2 r ⟨768 + j.val, by omega⟩) := by
  pointwise [k0_pay37]
theorem gv_apply (h : FVec Ideal S512x2432 .f32) (r : Fin 512) (j : Fin 256) : k0_pay43 h (ix3 0 r j) = h (ix2 r ⟨1280 + j.val, by omega⟩) := by
  pointwise [k0_pay43]
theorem gr_apply (h : FVec Ideal S512x2432 .f32) (r : Fin 512) (j : Fin 256) : k0_pay45 (k0_pay44 h) (ix3 0 r j) = silu (h (ix2 r ⟨1536 + j.val, by omega⟩)) := by
  unfold silu
  pointwise [k0_pay45, k0_pay44]
theorem av_apply (h : FVec Ideal S512x2432 .f32) (r : Fin 512) (j : Fin 128) : k0_pay3 h (ix3 0 r j) = h (ix2 r ⟨2176 + j.val, by omega⟩) := by
  pointwise [k0_pay3]

end Cert.Proof.In
end
-- ==== Proof.InBlock.lean ====
module

public import proofs.«01_k».proof.Proof.InMath
public import proofs.«01_k».proof.Proof.InFrame

@[expose] public section

noncomputable section

namespace Cert.Proof.In

open Cert.KernelInIdeal Cert.KernelInIdeal.Gen Idealize.ShloMosaic Idealize.ShloMosaic.TcCoe
open Cert.Proof.Ffn (normed silu halfStep hz3)

/-- Reading a buffer that holds `x`. -/
theorem rd_eq {s : Shape} {e : EltTy} (a : Memref sig .tc .vmem s e) (ha : a.IsWhole) (x : Vec Ideal s e) (r : Rect s) :
    View.readAt (Elt Ideal) a.view r.toLoadRect (ha.unread x) = View.ld x r := by
  rw [View.readAt_eq_ld, ha.read_unread]

/-- The gated network of a block's rows, from the block's own arrays. -/
def accx (x0 : Vec Ideal S1x512x1024 .f32) (x1 : Vec Ideal S1x9x1024 .f32) (x2 x3 : Vec Ideal S1024x2816 .bf16) (x4 : Vec Ideal S2816x1024 .bf16) : FVec Ideal S512x1024 .f32 :=
  acc (View.ld x0 (Rect.unit (s := S1x512x1024) ![0, 0, 0] S1x512x1024.size inb_S1x512x1024_S1x512x1024_0_0_0)) (View.ld x1 (Rect.unit (s := S1x9x1024) ![0, 0, 0] S1x1x1024.size inb_S1x9x1024_S1x1x1024_0_0_0)) (View.ld x1 (Rect.unit (s := S1x9x1024) ![0, 1, 0] S1x1x1024.size inb_S1x9x1024_S1x1x1024_0_1_0)) (View.ld x2 (Rect.unit (s := S1024x2816) ![0, 0] S1024x512.size inb_S1024x2816_S1024x512_0_0)) (View.ld x3 (Rect.unit (s := S1024x2816) ![0, 0] S1024x512.size inb_S1024x2816_S1024x512_0_0)) (View.ld x4 (Rect.unit (s := S2816x1024) ![0, 0] S512x1024.size inb_S2816x1024_S512x1024_0_0)) (View.ld x2 (Rect.unit (s := S1024x2816) ![0, 512] S1024x512.size inb_S1024x2816_S1024x512_0_512)) (View.ld x3 (Rect.unit (s := S1024x2816) ![0, 512] S1024x512.size inb_S1024x2816_S1024x512_0_512)) (View.ld x4 (Rect.unit (s := S2816x1024) ![512, 0] S512x1024.size inb_S2816x1024_S512x1024_512_0)) (View.ld x2 (Rect.unit (s := S1024x2816) ![0, 1024] S1024x512.size inb_S1024x2816_S1024x512_0_1024)) (View.ld x3 (Rect.unit (s := S1024x2816) ![0, 1024] S1024x512.size inb_S1024x2816_S1024x512_0_1024)) (View.ld x4 (Rect.unit (s := S2816x1024) ![1024, 0] S512x1024.size inb_S2816x1024_S512x1024_1024_0)) (View.ld x2 (Rect.unit (s := S1024x2816) ![0, 1536] S1024x512.size inb_S1024x2816_S1024x512_0_1536)) (View.ld x3 (Rect.unit (s := S1024x2816) ![0, 1536] S1024x512.size inb_S1024x2816_S1024x512_0_1536)) (View.ld x4 (Rect.unit (s := S2816x1024) ![1536, 0] S512x1024.size inb_S2816x1024_S512x1024_1536_0)) (View.ld x2 (Rect.unit (s := S1024x2816) ![0, 2048] S1024x512.size inb_S1024x2816_S1024x512_0_2048)) (View.ld x3 (Rect.unit (s := S1024x2816) ![0, 2048] S1024x512.size inb_S1024x2816_S1024x512_0_2048)) (View.ld x4 (Rect.unit (s := S2816x1024) ![2048, 0] S512x1024.size inb_S2816x1024_S512x1024_2048_0)) (View.ld x2 (Rect.unit (s := S1024x2816) ![0, 2560] S1024x256.size inb_S1024x2816_S1024x256_0_2560)) (View.ld x3 (Rect.unit (s := S1024x2816) ![0, 2560] S1024x256.size inb_S1024x2816_S1024x256_0_2560)) (View.ld x4 (Rect.unit (s := S2816x1024) ![2560, 0] S256x1024.size inb_S2816x1024_S256x1024_2560_0))

/-- The projection of a block's rows. -/
def hx (x0 : Vec Ideal S1x512x1024 .f32) (x1 : Vec Ideal S1x9x1024 .f32) (x2 x3 : Vec Ideal S1024x2816 .bf16) (x4 : Vec Ideal S2816x1024 .bf16) (x5 : Vec Ideal S1024x2432 .bf16) : FVec Ideal S512x2432 .f32 :=
  k0_pay17 (k0_pay4 (View.ld x0 (Rect.unit (s := S1x512x1024) ![0, 0, 0] S1x512x1024.size inb_S1x512x1024_S1x512x1024_0_0_0))) (k0_pay6 (View.ld x1 (Rect.unit (s := S1x9x1024) ![0, 2, 0] S1x1x1024.size inb_S1x9x1024_S1x1x1024_0_2_0))) (accx x0 x1 x2 x3 x4) (View.ld x1 (Rect.unit (s := S1x9x1024) ![0, 3, 0] S1x1x1024.size inb_S1x9x1024_S1x1x1024_0_3_0)) (View.ld x1 (Rect.unit (s := S1x9x1024) ![0, 4, 0] S1x1x1024.size inb_S1x9x1024_S1x1x1024_0_4_0)) (View.ld x5 (Rect.unit (s := S1024x2432) ![0, 0] S1024x2432.size inb_S1024x2432_S1024x2432_0_0))

/-- The block of result 18 that the body leaves. -/
theorem piece18 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec Ideal S1x512x1024 .f32) (x1 : Vec Ideal S1x9x1024 .f32) (x2 x3 : Vec Ideal S1024x2816 .bf16) (x4 : Vec Ideal S2816x1024 .bf16) (x5 : Vec Ideal S1024x2432 .bf16) (x6 : Vec Ideal S256x256 .bf16) (x7 : Vec Ideal S128x128 .bf16) (x8 x9 : Vec Ideal S256x256 .bf16) (x10 x11 x12 x13 : Vec Ideal S1x256 .f32) (x14 : Vec Ideal S128x256 .bf16) (x15 : Vec Ideal S1x256 .f32) (x16 x17 : Vec Ideal S512x128 .f32) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 = k0_pay16 (k0_pay4 (View.ld x0 (Rect.unit (s := S1x512x1024) ![0, 0, 0] S1x512x1024.size inb_S1x512x1024_S1x512x1024_0_0_0))) (k0_pay6 (View.ld x1 (Rect.unit (s := S1x9x1024) ![0, 2, 0] S1x1x1024.size inb_S1x9x1024_S1x1x1024_0_2_0))) (accx x0 x1 x2 x3 x4) := by
  unfold out0_A_18
  rw [View.read_writes_junk_eq_canon]
  refine (View.canon_unit_zero (Val := Elt Ideal) (S := S1x512x1024) (e := .f32) hz3 inb_S1x512x1024_S1x512x1024_0_0_0 (k0_pay16 (k0_pay4 _) (k0_pay6 _) (acc _ _ _ _ _ _ _ _ _ _ _ _ _ _ _ _ _ _ _ _ _))).trans ?_
  simp only [rd_eq]
  rfl

/-- The block of result 23 that the body leaves. -/
theorem piece23 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec Ideal S1x512x1024 .f32) (x1 : Vec Ideal S1x9x1024 .f32) (x2 x3 : Vec Ideal S1024x2816 .bf16) (x4 : Vec Ideal S2816x1024 .bf16) (x5 : Vec Ideal S1024x2432 .bf16) (x6 : Vec Ideal S256x256 .bf16) (x7 : Vec Ideal S128x128 .bf16) (x8 x9 : Vec Ideal S256x256 .bf16) (x10 x11 x12 x13 : Vec Ideal S1x256 .f32) (x14 : Vec Ideal S128x256 .bf16) (x15 : Vec Ideal S1x256 .f32) (x16 x17 : Vec Ideal S512x128 .f32) :
    out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 = k0_pay37 (hx x0 x1 x2 x3 x4 x5) := by
  unfold out0_A_23
  rw [View.read_writes_junk_eq_canon]
  refine (View.canon_unit_zero (Val := Elt Ideal) (S := S1x512x256) (e := .bf16) hz3 inb_S1x512x256_S1x512x256_0_0_0 (k0_pay37 (k0_pay17 (k0_pay4 _) (k0_pay6 _) (acc _ _ _ _ _ _ _ _ _ _ _ _ _ _ _ _ _ _ _ _ _) _ _ _))).trans ?_
  simp only [rd_eq]
  rfl

/-- The block of result 25 that the body leaves. -/
theorem piece25 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec Ideal S1x512x1024 .f32) (x1 : Vec Ideal S1x9x1024 .f32) (x2 x3 : Vec Ideal S1024x2816 .bf16) (x4 : Vec Ideal S2816x1024 .bf16) (x5 : Vec Ideal S1024x2432 .bf16) (x6 : Vec Ideal S256x256 .bf16) (x7 : Vec Ideal S128x128 .bf16) (x8 x9 : Vec Ideal S256x256 .bf16) (x10 x11 x12 x13 : Vec Ideal S1x256 .f32) (x14 : Vec Ideal S128x256 .bf16) (x15 : Vec Ideal S1x256 .f32) (x16 x17 : Vec Ideal S512x128 .f32) :
    out0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 = k0_pay43 (hx x0 x1 x2 x3 x4 x5) := by
  unfold out0_A_25
  rw [View.read_writes_junk_eq_canon]
  refine (View.canon_unit_zero (Val := Elt Ideal) (S := S1x512x256) (e := .bf16) hz3 inb_S1x512x256_S1x512x256_0_0_0 (k0_pay43 (k0_pay17 (k0_pay4 _) (k0_pay6 _) (acc _ _ _ _ _ _ _ _ _ _ _ _ _ _ _ _ _ _ _ _ _) _ _ _))).trans ?_
  simp only [rd_eq]
  rfl

/-- The block of result 26 that the body leaves. -/
theorem piece26 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec Ideal S1x512x1024 .f32) (x1 : Vec Ideal S1x9x1024 .f32) (x2 x3 : Vec Ideal S1024x2816 .bf16) (x4 : Vec Ideal S2816x1024 .bf16) (x5 : Vec Ideal S1024x2432 .bf16) (x6 : Vec Ideal S256x256 .bf16) (x7 : Vec Ideal S128x128 .bf16) (x8 x9 : Vec Ideal S256x256 .bf16) (x10 x11 x12 x13 : Vec Ideal S1x256 .f32) (x14 : Vec Ideal S128x256 .bf16) (x15 : Vec Ideal S1x256 .f32) (x16 x17 : Vec Ideal S512x128 .f32) :
    out0_A_26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 = k0_pay45 (k0_pay44 (hx x0 x1 x2 x3 x4 x5)) := by
  unfold out0_A_26
  rw [View.read_writes_junk_eq_canon]
  refine (View.canon_unit_zero (Val := Elt Ideal) (S := S1x512x256) (e := .bf16) hz3 inb_S1x512x256_S1x512x256_0_0_0 (k0_pay45 (k0_pay44 (k0_pay17 (k0_pay4 _) (k0_pay6 _) (acc _ _ _ _ _ _ _ _ _ _ _ _ _ _ _ _ _ _ _ _ _) _ _ _)))).trans ?_
  simp only [rd_eq]
  rfl

/-- The block of result 29 that the body leaves. -/
theorem piece29 (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x2432 .bf16) (harg7 : arg7.IsWhole) (arg8 : Memref sig .tc .vmem S256x256 .bf16) (harg8 : arg8.IsWhole) (arg9 : Memref sig .tc .vmem S128x128 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1x512x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S1x512x256 .bf16) (harg23 : arg23.IsWhole) (arg24 : Memref sig .tc .vmem S1x512x256 .bf16) (harg24 : arg24.IsWhole) (arg25 : Memref sig .tc .vmem S1x512x256 .bf16) (harg25 : arg25.IsWhole) (arg26 : Memref sig .tc .vmem S1x512x512 .f32) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x128 .bf16) (harg30 : arg30.IsWhole) (arg31 : Memref sig .tc .vmem S1x512x128 .bf16) (harg31 : arg31.IsWhole) (arg32 : Memref sig .tc .vmem S4x512x128 .f32) (harg32 : arg32.IsWhole)
    (x0 : Vec Ideal S1x512x1024 .f32) (x1 : Vec Ideal S1x9x1024 .f32) (x2 x3 : Vec Ideal S1024x2816 .bf16) (x4 : Vec Ideal S2816x1024 .bf16) (x5 : Vec Ideal S1024x2432 .bf16) (x6 : Vec Ideal S256x256 .bf16) (x7 : Vec Ideal S128x128 .bf16) (x8 x9 : Vec Ideal S256x256 .bf16) (x10 x11 x12 x13 : Vec Ideal S1x256 .f32) (x14 : Vec Ideal S128x256 .bf16) (x15 : Vec Ideal S1x256 .f32) (x16 x17 : Vec Ideal S512x128 .f32) :
    out0_A_29 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 = k0_pay3 (hx x0 x1 x2 x3 x4 x5) := by
  unfold out0_A_29
  rw [View.read_writes_junk_eq_canon]
  refine (View.canon_unit_zero (Val := Elt Ideal) (S := S1x512x128) (e := .bf16) hz3 inb_S1x512x128_S1x512x128_0_0_0 (k0_pay3 (k0_pay17 (k0_pay4 _) (k0_pay6 _) (acc _ _ _ _ _ _ _ _ _ _ _ _ _ _ _ _ _ _ _ _ _) _ _ _))).trans ?_
  simp only [rd_eq]
  rfl

set_option maxRecDepth 16384 in
theorem accx_apply (x0 : Vec Ideal S1x512x1024 .f32) (x1 : Vec Ideal S1x9x1024 .f32) (x2 x3 : Vec Ideal S1024x2816 .bf16) (x4 : Vec Ideal S2816x1024 .bf16) (r : Fin 512) (d : Fin 1024) :
    k0_pay15 (k0_pay4 (View.ld x0 (Rect.unit (s := S1x512x1024) ![0, 0, 0] S1x512x1024.size inb_S1x512x1024_S1x512x1024_0_0_0))) (k0_pay6 (View.ld x1 (Rect.unit (s := S1x9x1024) ![0, 2, 0] S1x1x1024.size inb_S1x9x1024_S1x1x1024_0_2_0))) (accx x0 x1 x2 x3 x4) (ix2 r d)
      = halfStep (fun e => x0 (ix3 0 r e)) (fun e => x1 (ix3 0 0 e)) (fun e => x1 (ix3 0 1 e)) (fun e => x1 (ix3 0 2 e)) (fun e f => x2 (ix2 e f)) (fun e f => x3 (ix2 e f)) (fun f e => x4 (ix2 f e)) d := by
  unfold accx
  refine (x1_apply _ _ _ _ _ _ _ _ _ _ _ _ _ _ _ _ _ _ _ _ _ _ (fun e f => x2 (ix2 e f)) (fun e f => x3 (ix2 e f)) (fun f e => x4 (ix2 f e)) (by intro e f; pointwise) (by intro e f; pointwise) (by intro e f; pointwise) (by intro e f; pointwise) (by intro e f; pointwise) (by intro e f; pointwise) (by intro e f; pointwise) (by intro e f; pointwise) (by intro e f; pointwise) (by intro e f; pointwise) (by intro e f; pointwise) (by intro e f; pointwise) (by intro e f; pointwise) (by intro e f; pointwise) (by intro e f; pointwise) (by intro e f; pointwise) (by intro e f; pointwise) (by intro e f; pointwise) r d).trans ?_
  · pointwise

theorem hx_apply (x0 : Vec Ideal S1x512x1024 .f32) (x1 : Vec Ideal S1x9x1024 .f32) (x2 x3 : Vec Ideal S1024x2816 .bf16) (x4 : Vec Ideal S2816x1024 .bf16) (x5 : Vec Ideal S1024x2432 .bf16) (r : Fin 512) (j : Fin 2432) :
    hx x0 x1 x2 x3 x4 x5 (ix2 r j)
      = ∑ e, normed (halfStep (fun e => x0 (ix3 0 r e)) (fun e => x1 (ix3 0 0 e)) (fun e => x1 (ix3 0 1 e)) (fun e => x1 (ix3 0 2 e)) (fun e f => x2 (ix2 e f)) (fun e f => x3 (ix2 e f)) (fun f e => x4 (ix2 f e)))
          (fun e => x1 (ix3 0 3 e)) (fun e => x1 (ix3 0 4 e)) e * x5 (ix2 e j) := by
  unfold hx
  refine (proj_apply _ _ _ _ _ _ r j _ (accx_apply x0 x1 x2 x3 x4 r)).trans ?_
  generalize halfStep _ _ _ _ _ _ _ = y
  unfold normed
  pointwise

end Cert.Proof.In
end
-- ==== Proof.InHost.lean ====
module

public import proofs.«01_k».proof.Proof.Gen.KernelInIdeal.Frame.Runs
public import Idealize.ShloMosaic.Lib.Pointwise
public import Idealize.ShloMosaic.Lib.StableHlo.RunRead

@[expose] public section

noncomputable section

namespace Cert.Proof.In

open Cert.KernelInIdeal Cert.KernelInIdeal.Gen Idealize.ShloMosaic Idealize.ShloMosaic.TcCoe

variable (m : (ℓ : Loc nD τ sig) → Buf (Elt Ideal) ℓ)

/-- The projection's weights as the body takes them: the columns of the argument, regrouped. -/
theorem V_win (c : Dev nD) : ∃ (z1 : FVec Ideal S1024x256 .f32) (z3 : FVec Ideal S1024x32 .f32) (z4 : FVec Ideal S1024x96 .f32),
    V m c main_v91 = truncf (F := Ideal) .bf16 (concatenate S1024x2432 1 [
      ⟨S1024x1792, extractStridedSlice S1024x1792 ![0, 0] (m ((c : Thread nD τ).loc main_arg5)) slices_S1024x2336_S1024x1792_0_0⟩, ⟨S1024x256, z1⟩,
      ⟨S1024x256, extractStridedSlice S1024x256 ![0, 2080] (m ((c : Thread nD τ).loc main_arg5)) slices_S1024x2336_S1024x256_0_2080⟩, ⟨S1024x32, z3⟩, ⟨S1024x96, z4⟩]
      concatenates_S1024x1792_S1024x256_S1024x256_S1024x32_S1024x96_S1024x2432_d1) bitsLt_bf16_f32 := by
  refine ⟨?z1, ?z3, ?z4, ?_⟩
  rotate_left 3
  unfold V hostOps0
  after_results_simp
  rfl

theorem V_mods (c : Dev nD) (b : Fin 8) (k : Fin 9) (e : Fin 1024) :
    V m c main_v0 (ix3 b k e) = m ((c : Thread nD τ).loc main_arg1) (ix2 b ⟨k.val * 1024 + e.val, by omega⟩) := by
  have h : V m c main_v0 = shapeCast S8x9x1024 (m ((c : Thread nD τ).loc main_arg1)) shapeCasts_S8x9216_S8x9x1024 := by
    unfold V hostOps0
    after_results_simp
    rfl
  rw [h]
  pointwise

theorem V_w1 (c : Dev nD) : V m c main_v120 = m ((c : Thread nD τ).loc main_arg2) := by
  unfold V hostOps0
  after_results_simp
  rfl
theorem V_w3 (c : Dev nD) : V m c main_v121 = m ((c : Thread nD τ).loc main_arg3) := by
  unfold V hostOps0
  after_results_simp
  rfl
theorem V_w2 (c : Dev nD) : V m c main_v122 = m ((c : Thread nD τ).loc main_arg4) := by
  unfold V hostOps0
  after_results_simp
  rfl

/-- The columns that the body reads for the results. -/
theorem V_win_low (c : Dev nD) (e : Fin 1024) (j : Fin 2432) (h : j.val < 1792) :
    V m c main_v91 (ix2 e j) = m ((c : Thread nD τ).loc main_arg5) (ix2 e ⟨j.val, by omega⟩) := by
  obtain ⟨z1, z3, z4, hz⟩ := V_win m c
  rw [hz]
  generalize m ((c : Thread nD τ).loc main_arg5) = w
  pointwise
  simp [h]

theorem V_win_av (c : Dev nD) (e : Fin 1024) (j : Fin 128) :
    V m c main_v91 (ix2 e ⟨2176 + j.val, by omega⟩) = m ((c : Thread nD τ).loc main_arg5) (ix2 e ⟨2208 + j.val, by omega⟩) := by
  obtain ⟨z1, z3, z4, hz⟩ := V_win m c
  rw [hz]
  generalize m ((c : Thread nD τ).loc main_arg5) = w
  pointwise
  rw [dif_neg (by omega), dif_neg (by omega), dif_pos (by have := j.isLt; omega)]
  exact congrArg (fun k => w (ix2 e k)) (Fin.ext (by show 2080 + (2176 + j.val - 1792 - 256) = 2208 + j.val; omega))

end Cert.Proof.In
end
-- ==== Proof.InRun.lean ====
module

public import proofs.«01_k».proof.Proof.InSpec
public import proofs.«01_k».proof.Proof.InBlock
public import proofs.«01_k».proof.Proof.InHost
public import proofs.«01_k».proof.Proof.InValue

@[expose] public section

noncomputable section

namespace Cert.Proof.In

open Cert.KernelInIdeal Cert.KernelInIdeal.Gen Cert.KernelInIdeal.Value Idealize.ShloMosaic Idealize.ShloMosaic.TcCoe Idealize.SL.Sem
open Cert.Proof.Ffn (normed silu halfStep)

variable (m : (ℓ : Loc nD τ sig) → Buf (Elt Ideal) ℓ) (ρ : Dev nD → PrngReg)

/-- Each window's block index at a grid point: the batch and row block of the point for the rows, the batch for the
    modulation, zero for the weights. -/
theorem idx18 : ∀ t : Fin cfg0.N, win0_18.index t (0 : Fin 3) < 8 ∧ win0_18.index t (1 : Fin 3) < 8 ∧ win0_18.index t (2 : Fin 3) = 0 := (by decide +kernel : ∀ t : Fin grid0.N, _)
theorem idx18_onto : ∀ b k : Fin 8, ∃ t : Fin cfg0.N, win0_18.index t (0 : Fin 3) = b.val ∧ win0_18.index t (1 : Fin 3) = k.val := (by decide +kernel : ∀ b k : Fin 8, ∃ t : Fin grid0.N, _)
theorem idx1 : ∀ t : Fin cfg0.N, win0_1.index t (0 : Fin 3) = win0_18.index t (0 : Fin 3) ∧ win0_1.index t (1 : Fin 3) = 0 ∧ win0_1.index t (2 : Fin 3) = 0 := (by decide +kernel : ∀ t : Fin grid0.N, _)
theorem idx0 : ∀ t : Fin cfg0.N, win0_0.index t (0 : Fin 3) = win0_18.index t (0 : Fin 3) ∧ win0_0.index t (1 : Fin 3) = win0_18.index t (1 : Fin 3) ∧ win0_0.index t (2 : Fin 3) = 0 := (by decide +kernel : ∀ t : Fin grid0.N, _)
theorem idx23 : ∀ t : Fin cfg0.N, win0_23.index t (0 : Fin 3) = win0_18.index t (0 : Fin 3) ∧ win0_23.index t (1 : Fin 3) = win0_18.index t (1 : Fin 3) ∧ win0_23.index t (2 : Fin 3) = 0 := (by decide +kernel : ∀ t : Fin grid0.N, _)
theorem idx25 : ∀ t : Fin cfg0.N, win0_25.index t (0 : Fin 3) = win0_18.index t (0 : Fin 3) ∧ win0_25.index t (1 : Fin 3) = win0_18.index t (1 : Fin 3) ∧ win0_25.index t (2 : Fin 3) = 0 := (by decide +kernel : ∀ t : Fin grid0.N, _)
theorem idx26 : ∀ t : Fin cfg0.N, win0_26.index t (0 : Fin 3) = win0_18.index t (0 : Fin 3) ∧ win0_26.index t (1 : Fin 3) = win0_18.index t (1 : Fin 3) ∧ win0_26.index t (2 : Fin 3) = 0 := (by decide +kernel : ∀ t : Fin grid0.N, _)
theorem idx29 : ∀ t : Fin cfg0.N, win0_29.index t (0 : Fin 3) = win0_18.index t (0 : Fin 3) ∧ win0_29.index t (1 : Fin 3) = win0_18.index t (1 : Fin 3) ∧ win0_29.index t (2 : Fin 3) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)

/-- The batch of a grid point, and the row of the array that a row of its block is. -/
def bat (t : Fin cfg0.N) : Fin 8 := ⟨win0_18.index t (0 : Fin 3), (idx18 t).1⟩
def row (t : Fin cfg0.N) (r : Fin 512) : Fin 4096 := ⟨win0_18.index t (1 : Fin 3) * 512 + r.val, by have := (idx18 t).2.1; omega⟩

theorem emb0 (t : Fin cfg0.N) (j : S1x512x1024.Idx) : ((cfg0.win 0).blk t).view.emb j = ix3 (bat t) (row t (j 1)) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = win0_18.index t (0 : Fin 3); omega
  | ⟨1, _⟩ => show win0_0.index t (1 : Fin 3) * 512 + 1 * (j 1).val = win0_18.index t (1 : Fin 3) * 512 + (j 1).val; omega
  | ⟨2, _⟩ => show win0_0.index t (2 : Fin 3) * 1024 + 1 * (j 2).val = (j 2).val; omega

theorem emb18 (t : Fin cfg0.N) (j : S1x512x1024.Idx) : ((cfg0.win 18).blk t).view.emb j = ix3 (bat t) (row t (j 1)) (j 2) := by
  obtain ⟨e0, e1, e2⟩ := idx18 t
  have h0 : (j 0).val < 1 := (j 0).isLt
  funext a; apply Fin.ext
  match a with
  | ⟨0, _⟩ => show win0_18.index t (0 : Fin 3) * 1 + 1 * (j 0).val = win0_18.index t (0 : Fin 3); omega
  | ⟨1, _⟩ => show win0_18.index t (1 : Fin 3) * 512 + 1 * (j 1).val = win0_18.index t (1 : Fin 3) * 512 + (j 1).val; omega
  | ⟨2, _⟩ => show win0_18.index t (2 : Fin 3) * 1024 + 1 * (j 2).val = (j 2).val; omega

theorem emb23 (t : Fin cfg0.N) (j : S1x512x256.Idx) : ((cfg0.win 23).blk t).view.emb j = ix3 (bat t) (row t (j 1)) (j 2) := by
  obtain ⟨e0, e1, e2⟩ := idx23 t
  have h0 : (j 0).val < 1 := (j 0).isLt
  funext a; apply Fin.ext
  match a with
  | ⟨0, _⟩ => show win0_23.index t (0 : Fin 3) * 1 + 1 * (j 0).val = win0_18.index t (0 : Fin 3); omega
  | ⟨1, _⟩ => show win0_23.index t (1 : Fin 3) * 512 + 1 * (j 1).val = win0_18.index t (1 : Fin 3) * 512 + (j 1).val; omega
  | ⟨2, _⟩ => show win0_23.index t (2 : Fin 3) * 256 + 1 * (j 2).val = (j 2).val; omega

theorem emb25 (t : Fin cfg0.N) (j : S1x512x256.Idx) : ((cfg0.win 25).blk t).view.emb j = ix3 (bat t) (row t (j 1)) (j 2) := by
  obtain ⟨e0, e1, e2⟩ := idx25 t
  have h0 : (j 0).val < 1 := (j 0).isLt
  funext a; apply Fin.ext
  match a with
  | ⟨0, _⟩ => show win0_25.index t (0 : Fin 3) * 1 + 1 * (j 0).val = win0_18.index t (0 : Fin 3); omega
  | ⟨1, _⟩ => show win0_25.index t (1 : Fin 3) * 512 + 1 * (j 1).val = win0_18.index t (1 : Fin 3) * 512 + (j 1).val; omega
  | ⟨2, _⟩ => show win0_25.index t (2 : Fin 3) * 256 + 1 * (j 2).val = (j 2).val; omega

theorem emb26 (t : Fin cfg0.N) (j : S1x512x256.Idx) : ((cfg0.win 26).blk t).view.emb j = ix3 (bat t) (row t (j 1)) (j 2) := by
  obtain ⟨e0, e1, e2⟩ := idx26 t
  have h0 : (j 0).val < 1 := (j 0).isLt
  funext a; apply Fin.ext
  match a with
  | ⟨0, _⟩ => show win0_26.index t (0 : Fin 3) * 1 + 1 * (j 0).val = win0_18.index t (0 : Fin 3); omega
  | ⟨1, _⟩ => show win0_26.index t (1 : Fin 3) * 512 + 1 * (j 1).val = win0_18.index t (1 : Fin 3) * 512 + (j 1).val; omega
  | ⟨2, _⟩ => show win0_26.index t (2 : Fin 3) * 256 + 1 * (j 2).val = (j 2).val; omega

theorem emb29 (t : Fin cfg0.N) (j : S1x512x128.Idx) : ((cfg0.win 29).blk t).view.emb j = ix3 (bat t) (row t (j 1)) (j 2) := by
  obtain ⟨e0, e1, e2⟩ := idx29 t
  have h0 : (j 0).val < 1 := (j 0).isLt
  funext a; apply Fin.ext
  match a with
  | ⟨0, _⟩ => show win0_29.index t (0 : Fin 3) * 1 + 1 * (j 0).val = win0_18.index t (0 : Fin 3); omega
  | ⟨1, _⟩ => show win0_29.index t (1 : Fin 3) * 512 + 1 * (j 1).val = win0_18.index t (1 : Fin 3) * 512 + (j 1).val; omega
  | ⟨2, _⟩ => show win0_29.index t (2 : Fin 3) * 128 + 1 * (j 2).val = (j 2).val; omega

theorem emb1 (t : Fin cfg0.N) (j : S1x9x1024.Idx) : ((cfg0.win 1).blk t).view.emb j = ix3 (bat t) (j 1) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = win0_18.index t (0 : Fin 3); omega
  | ⟨1, _⟩ => show win0_1.index t (1 : Fin 3) * 9 + 1 * (j 1).val = (j 1).val; omega
  | ⟨2, _⟩ => show win0_1.index t (2 : Fin 3) * 1024 + 1 * (j 2).val = (j 2).val; omega

theorem emb2 (t : Fin cfg0.N) (j : S1024x2816.Idx) : ((cfg0.win 2).blk t).view.emb j = j := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 2816 + 1 * (j 1).val = (j 1).val; omega

theorem emb3 (t : Fin cfg0.N) (j : S1024x2816.Idx) : ((cfg0.win 3).blk t).view.emb j = j := by
  obtain ⟨e0, e1⟩ := idx3 t
  funext a; apply Fin.ext
  match a with
  | ⟨0, _⟩ => show win0_3.index t (0 : Fin 2) * 1024 + 1 * (j 0).val = (j 0).val; omega
  | ⟨1, _⟩ => show win0_3.index t (1 : Fin 2) * 2816 + 1 * (j 1).val = (j 1).val; omega

theorem emb4 (t : Fin cfg0.N) (j : S2816x1024.Idx) : ((cfg0.win 4).blk t).view.emb j = j := by
  obtain ⟨e0, e1⟩ := idx4 t
  funext a; apply Fin.ext
  match a with
  | ⟨0, _⟩ => show win0_4.index t (0 : Fin 2) * 2816 + 1 * (j 0).val = (j 0).val; omega
  | ⟨1, _⟩ => show win0_4.index t (1 : Fin 2) * 1024 + 1 * (j 1).val = (j 1).val; omega

theorem emb5 (t : Fin cfg0.N) (j : S1024x2432.Idx) : ((cfg0.win 5).blk t).view.emb j = j := by
  obtain ⟨e0, e1⟩ := idx5 t
  funext a; apply Fin.ext
  match a with
  | ⟨0, _⟩ => show win0_5.index t (0 : Fin 2) * 1024 + 1 * (j 0).val = (j 0).val; omega
  | ⟨1, _⟩ => show win0_5.index t (1 : Fin 2) * 2432 + 1 * (j 1).val = (j 1).val; omega

/- The blocks that a grid point finds, read as the arguments. -/
set_option maxHeartbeats 4000000 in
theorem blk0 (c : Dev nD) (t : Fin cfg0.N) (r : Fin 512) (e : Fin 1024) : iblk m c 0 t (ix3 (0 : Fin 1) r e) = m ((c : Thread nD τ).loc main_arg0) (ix3 (bat t) (row t r) e) :=
  (congrArg (V m c main_arg0) (emb0 t (ix3 (0 : Fin 1) r e))).trans (congrFun (V_main_arg0 m c) _)
set_option maxHeartbeats 4000000 in
theorem blk1 (c : Dev nD) (t : Fin cfg0.N) (k : Fin 9) (e : Fin 1024) : iblk m c 1 t (ix3 (0 : Fin 1) k e) = m ((c : Thread nD τ).loc main_arg1) (ix2 (bat t) ⟨k.val * 1024 + e.val, by omega⟩) :=
  (congrArg (V m c main_v0) (emb1 t (ix3 (0 : Fin 1) k e))).trans (V_mods m c (bat t) k e)
set_option maxHeartbeats 4000000 in
theorem blk2 (c : Dev nD) (t : Fin cfg0.N) (e : Fin 1024) (f : Fin 2816) : iblk m c 2 t (ix2 e f) = m ((c : Thread nD τ).loc main_arg2) (ix2 e f) :=
  (congrArg (V m c main_v120) (emb2 t (ix2 e f))).trans (congrFun (V_w1 m c) _)
set_option maxHeartbeats 4000000 in
theorem blk3 (c : Dev nD) (t : Fin cfg0.N) (e : Fin 1024) (f : Fin 2816) : iblk m c 3 t (ix2 e f) = m ((c : Thread nD τ).loc main_arg3) (ix2 e f) :=
  (congrArg (V m c main_v121) (emb3 t (ix2 e f))).trans (congrFun (V_w3 m c) _)
set_option maxHeartbeats 4000000 in
theorem blk4 (c : Dev nD) (t : Fin cfg0.N) (f : Fin 2816) (e : Fin 1024) : iblk m c 4 t (ix2 f e) = m ((c : Thread nD τ).loc main_arg4) (ix2 f e) :=
  (congrArg (V m c main_v122) (emb4 t (ix2 f e))).trans (congrFun (V_w2 m c) _)
set_option maxHeartbeats 4000000 in
theorem blk5 (c : Dev nD) (t : Fin cfg0.N) (e : Fin 1024) (j : Fin 2432) (h : j.val < 1792) : iblk m c 5 t (ix2 e j) = m ((c : Thread nD τ).loc main_arg5) (ix2 e ⟨j.val, by omega⟩) :=
  (congrArg (V m c main_v91) (emb5 t (ix2 e j))).trans (V_win_low m c e j h)
set_option maxHeartbeats 4000000 in
theorem blk5av (c : Dev nD) (t : Fin cfg0.N) (e : Fin 1024) (j : Fin 128) : iblk m c 5 t (ix2 e ⟨2176 + j.val, by omega⟩) = m ((c : Thread nD τ).loc main_arg5) (ix2 e ⟨2208 + j.val, by omega⟩) :=
  (congrArg (V m c main_v91) (emb5 t (ix2 e ⟨2176 + j.val, by omega⟩))).trans (V_win_av m c e j)

/-- A block's rows after the half step, and a column of their projection, from what the blocks hold. -/
theorem stepped_of (x : Vec Ideal S8x4096x1024 .f32) (mods : Vec Ideal S8x9216 .f32) (w1 w3 : Vec Ideal S1024x2816 .f32) (w2 : Vec Ideal S2816x1024 .f32)
    (b : Fin 8) (s : Fin 4096) (z0 : Vec Ideal S1x512x1024 .f32) (z1 : Vec Ideal S1x9x1024 .f32) (z2 z3 : Vec Ideal S1024x2816 .bf16) (z4 : Vec Ideal S2816x1024 .bf16) (r : Fin 512)
    (h0 : ∀ e, z0 (ix3 0 r e) = x (ix3 b s e)) (h1 : ∀ (k : Fin 9) (e : Fin 1024), z1 (ix3 0 k e) = mods (ix2 b ⟨k.val * 1024 + e.val, by omega⟩))
    (h2 : ∀ e f, z2 (ix2 e f) = w1 (ix2 e f)) (h3 : ∀ e f, z3 (ix2 e f) = w3 (ix2 e f)) (h4 : ∀ f e, z4 (ix2 f e) = w2 (ix2 f e)) :
    halfStep (fun e => z0 (ix3 0 r e)) (fun e => z1 (ix3 0 0 e)) (fun e => z1 (ix3 0 1 e)) (fun e => z1 (ix3 0 2 e)) (fun e f => z2 (ix2 e f)) (fun e f => z3 (ix2 e f)) (fun f e => z4 (ix2 f e))
      = stepped x mods w1 w3 w2 b s := by
  have m0 : ∀ e : Fin 1024, z1 (ix3 0 0 e) = mods (ix2 b ⟨e.val, by omega⟩) := fun e => (h1 0 e).trans (congrArg (fun k => mods (ix2 b k)) (Fin.ext (by show 0 * 1024 + e.val = e.val; omega)))
  have m1 : ∀ e : Fin 1024, z1 (ix3 0 1 e) = mods (ix2 b ⟨1024 + e.val, by omega⟩) := fun e => (h1 1 e).trans (congrArg (fun k => mods (ix2 b k)) (Fin.ext (by show 1 * 1024 + e.val = 1024 + e.val; omega)))
  have m2 : ∀ e : Fin 1024, z1 (ix3 0 2 e) = mods (ix2 b ⟨2048 + e.val, by omega⟩) := fun e => (h1 2 e).trans (congrArg (fun k => mods (ix2 b k)) (Fin.ext (by show 2 * 1024 + e.val = 2048 + e.val; omega)))
  unfold stepped
  simp only [h0, m0, m1, m2, h2, h3, h4]

theorem proj_of (x : Vec Ideal S8x4096x1024 .f32) (mods : Vec Ideal S8x9216 .f32) (w1 w3 : Vec Ideal S1024x2816 .f32) (w2 : Vec Ideal S2816x1024 .f32) (win : Vec Ideal S1024x2336 .f32)
    (b : Fin 8) (s : Fin 4096) (z0 : Vec Ideal S1x512x1024 .f32) (z1 : Vec Ideal S1x9x1024 .f32) (z2 z3 : Vec Ideal S1024x2816 .bf16) (z4 : Vec Ideal S2816x1024 .bf16) (z5 : Vec Ideal S1024x2432 .bf16) (r : Fin 512) (j : Fin 2432) (k : Fin 2336)
    (h0 : ∀ e, z0 (ix3 0 r e) = x (ix3 b s e)) (h1 : ∀ (k : Fin 9) (e : Fin 1024), z1 (ix3 0 k e) = mods (ix2 b ⟨k.val * 1024 + e.val, by omega⟩))
    (h2 : ∀ e f, z2 (ix2 e f) = w1 (ix2 e f)) (h3 : ∀ e f, z3 (ix2 e f) = w3 (ix2 e f)) (h4 : ∀ f e, z4 (ix2 f e) = w2 (ix2 f e)) (h5 : ∀ e, z5 (ix2 e j) = win (ix2 e k)) :
    hx z0 z1 z2 z3 z4 z5 (ix2 r j) = proj x mods w1 w3 w2 win b s k := by
  have m3 : ∀ e : Fin 1024, z1 (ix3 0 3 e) = mods (ix2 b ⟨3072 + e.val, by omega⟩) := fun e => (h1 3 e).trans (congrArg (fun k => mods (ix2 b k)) (Fin.ext (by show 3 * 1024 + e.val = 3072 + e.val; omega)))
  have m4 : ∀ e : Fin 1024, z1 (ix3 0 4 e) = mods (ix2 b ⟨4096 + e.val, by omega⟩) := fun e => (h1 4 e).trans (congrArg (fun k => mods (ix2 b k)) (Fin.ext (by show 4 * 1024 + e.val = 4096 + e.val; omega)))
  rw [hx_apply, stepped_of x mods w1 w3 w2 b s z0 z1 z2 z3 z4 r h0 h1 h2 h3 h4]
  unfold proj
  simp only [m3, m4, h5]

theorem of18 (t : Fin cfg0.N) (z : Vec Ideal S1x512x1024 .f32) (G : Vec Ideal S8x4096x1024 .f32) (h : ∀ (r : Fin 512) (d : Fin 1024), z (ix3 0 r d) = G (ix3 (bat t) (row t r) d)) :
    (cfg0.win 18).cut (grid0.coords t) z = ((cfg0.win 18).blk t).view.read (Elt Ideal) G := by
  funext j
  refine (?_ : z j = G (((cfg0.win 18).blk t).view.emb j))
  rw [emb18]
  revert j
  refine (?_ : ∀ j : S1x512x1024.Idx, z j = G (ix3 (bat t) (row t (j 1)) (j 2)))
  intro j
  idx_vars j
  obtain rfl : j0 = 0 := Subsingleton.elim (α := Fin 1) _ _
  exact h j1 j2

/-- What a grid point writes back of result 18 is its block of `G0` of the arguments. -/
theorem flushed_eq18 (c : Dev nD) (t : Fin cfg0.N) :
    (dats m 0 c).flushed 18 t = ((cfg0.win 18).blk t).view.read (Elt Ideal) (G0 (m ((c : Thread nD τ).loc main_arg0)) (m ((c : Thread nD τ).loc main_arg1)) (m ((c : Thread nD τ).loc main_arg2)) (m ((c : Thread nD τ).loc main_arg3)) (m ((c : Thread nD τ).loc main_arg4))) := by
  rw [flushed18_A, piece18]
  exact of18 t _ _ (fun r d => (store_apply _ _ _ r d).trans ((accx_apply _ _ _ _ _ r d).trans
    (congrFun (stepped_of _ _ _ _ _ (bat t) (row t r) _ _ _ _ _ r (blk0 m c t r) (blk1 m c t) (blk2 m c t) (blk3 m c t) (blk4 m c t)) d)))

theorem covered18 (i : S8x4096x1024.Idx) : ∃ t : Fin cfg0.N, (cfg0.win 18).flush t = true ∧ i ∈ ((cfg0.win 18).blk t).view.set := by
  have h1 : (i 1).val < 4096 := (i 1).isLt
  obtain ⟨t, hb, hk⟩ := idx18_onto (i 0) ⟨(i 1).val / 512, by omega⟩
  refine ⟨t, flush0_18 _, ?_⟩
  have h := ((cfg0.win 18).blk t).view.emb_mem_set (ix3 (0 : Fin 1) ⟨(i 1).val % 512, by omega⟩ (i 2))
  rw [emb18] at h
  have e : ix3 (bat t) (row t ⟨(i 1).val % 512, by omega⟩) (i 2) = i := by
    funext a; apply Fin.ext
    match a with
    | ⟨0, _⟩ => exact hb
    | ⟨1, _⟩ => show win0_18.index t (1 : Fin 3) * 512 + (i 1).val % 512 = (i 1).val; rw [hk]; show (i 1).val / 512 * 512 + (i 1).val % 512 = (i 1).val; omega
    | ⟨2, _⟩ => rfl
  rw [← e]; exact h

theorem final18 (c : Dev nD) : (dats m 0 c).arrAt 18 cfg0.N = G0 (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 18 _ (fun t _ => flushed_eq18 m c t) covered18

theorem of23 (t : Fin cfg0.N) (z : Vec Ideal S1x512x256 .bf16) (G : Vec Ideal S8x4096x256 .bf16) (h : ∀ (r : Fin 512) (d : Fin 256), z (ix3 0 r d) = G (ix3 (bat t) (row t r) d)) :
    (cfg0.win 23).cut (grid0.coords t) z = ((cfg0.win 23).blk t).view.read (Elt Ideal) G := by
  funext j
  refine (?_ : z j = G (((cfg0.win 23).blk t).view.emb j))
  rw [emb23]
  revert j
  refine (?_ : ∀ j : S1x512x256.Idx, z j = G (ix3 (bat t) (row t (j 1)) (j 2)))
  intro j
  idx_vars j
  obtain rfl : j0 = 0 := Subsingleton.elim (α := Fin 1) _ _
  exact h j1 j2

/-- What a grid point writes back of result 23 is its block of `G1` of the arguments. -/
theorem flushed_eq23 (c : Dev nD) (t : Fin cfg0.N) :
    (dats m 0 c).flushed 23 t = ((cfg0.win 23).blk t).view.read (Elt Ideal) (G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed23_A, piece23]
  exact of23 t _ _ (fun r d => (nav_apply _ r d).trans (proj_of _ _ _ _ _ _ (bat t) (row t r) _ _ _ _ _ _ r ⟨768 + d.val, by omega⟩ ⟨768 + d.val, by omega⟩ (blk0 m c t r) (blk1 m c t) (blk2 m c t) (blk3 m c t) (blk4 m c t) (fun e => blk5 m c t e ⟨768 + d.val, by omega⟩ (by show 768 + d.val < 1792; omega))))

theorem covered23 (i : S8x4096x256.Idx) : ∃ t : Fin cfg0.N, (cfg0.win 23).flush t = true ∧ i ∈ ((cfg0.win 23).blk t).view.set := by
  have h1 : (i 1).val < 4096 := (i 1).isLt
  obtain ⟨t, hb, hk⟩ := idx18_onto (i 0) ⟨(i 1).val / 512, by omega⟩
  refine ⟨t, flush0_23 _, ?_⟩
  have h := ((cfg0.win 23).blk t).view.emb_mem_set (ix3 (0 : Fin 1) ⟨(i 1).val % 512, by omega⟩ (i 2))
  rw [emb23] at h
  have e : ix3 (bat t) (row t ⟨(i 1).val % 512, by omega⟩) (i 2) = i := by
    funext a; apply Fin.ext
    match a with
    | ⟨0, _⟩ => exact hb
    | ⟨1, _⟩ => show win0_18.index t (1 : Fin 3) * 512 + (i 1).val % 512 = (i 1).val; rw [hk]; show (i 1).val / 512 * 512 + (i 1).val % 512 = (i 1).val; omega
    | ⟨2, _⟩ => rfl
  rw [← e]; exact h

theorem final23 (c : Dev nD) : (dats m 0 c).arrAt 23 cfg0.N = G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 23 _ (fun t _ => flushed_eq23 m c t) covered23

theorem of25 (t : Fin cfg0.N) (z : Vec Ideal S1x512x256 .bf16) (G : Vec Ideal S8x4096x256 .bf16) (h : ∀ (r : Fin 512) (d : Fin 256), z (ix3 0 r d) = G (ix3 (bat t) (row t r) d)) :
    (cfg0.win 25).cut (grid0.coords t) z = ((cfg0.win 25).blk t).view.read (Elt Ideal) G := by
  funext j
  refine (?_ : z j = G (((cfg0.win 25).blk t).view.emb j))
  rw [emb25]
  revert j
  refine (?_ : ∀ j : S1x512x256.Idx, z j = G (ix3 (bat t) (row t (j 1)) (j 2)))
  intro j
  idx_vars j
  obtain rfl : j0 = 0 := Subsingleton.elim (α := Fin 1) _ _
  exact h j1 j2

/-- What a grid point writes back of result 25 is its block of `G2` of the arguments. -/
theorem flushed_eq25 (c : Dev nD) (t : Fin cfg0.N) :
    (dats m 0 c).flushed 25 t = ((cfg0.win 25).blk t).view.read (Elt Ideal) (G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed25_A, piece25]
  exact of25 t _ _ (fun r d => (gv_apply _ r d).trans (proj_of _ _ _ _ _ _ (bat t) (row t r) _ _ _ _ _ _ r ⟨1280 + d.val, by omega⟩ ⟨1280 + d.val, by omega⟩ (blk0 m c t r) (blk1 m c t) (blk2 m c t) (blk3 m c t) (blk4 m c t) (fun e => blk5 m c t e ⟨1280 + d.val, by omega⟩ (by show 1280 + d.val < 1792; omega))))

theorem covered25 (i : S8x4096x256.Idx) : ∃ t : Fin cfg0.N, (cfg0.win 25).flush t = true ∧ i ∈ ((cfg0.win 25).blk t).view.set := by
  have h1 : (i 1).val < 4096 := (i 1).isLt
  obtain ⟨t, hb, hk⟩ := idx18_onto (i 0) ⟨(i 1).val / 512, by omega⟩
  refine ⟨t, flush0_25 _, ?_⟩
  have h := ((cfg0.win 25).blk t).view.emb_mem_set (ix3 (0 : Fin 1) ⟨(i 1).val % 512, by omega⟩ (i 2))
  rw [emb25] at h
  have e : ix3 (bat t) (row t ⟨(i 1).val % 512, by omega⟩) (i 2) = i := by
    funext a; apply Fin.ext
    match a with
    | ⟨0, _⟩ => exact hb
    | ⟨1, _⟩ => show win0_18.index t (1 : Fin 3) * 512 + (i 1).val % 512 = (i 1).val; rw [hk]; show (i 1).val / 512 * 512 + (i 1).val % 512 = (i 1).val; omega
    | ⟨2, _⟩ => rfl
  rw [← e]; exact h

theorem final25 (c : Dev nD) : (dats m 0 c).arrAt 25 cfg0.N = G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 25 _ (fun t _ => flushed_eq25 m c t) covered25

theorem of26 (t : Fin cfg0.N) (z : Vec Ideal S1x512x256 .bf16) (G : Vec Ideal S8x4096x256 .bf16) (h : ∀ (r : Fin 512) (d : Fin 256), z (ix3 0 r d) = G (ix3 (bat t) (row t r) d)) :
    (cfg0.win 26).cut (grid0.coords t) z = ((cfg0.win 26).blk t).view.read (Elt Ideal) G := by
  funext j
  refine (?_ : z j = G (((cfg0.win 26).blk t).view.emb j))
  rw [emb26]
  revert j
  refine (?_ : ∀ j : S1x512x256.Idx, z j = G (ix3 (bat t) (row t (j 1)) (j 2)))
  intro j
  idx_vars j
  obtain rfl : j0 = 0 := Subsingleton.elim (α := Fin 1) _ _
  exact h j1 j2

/-- What a grid point writes back of result 26 is its block of `G3` of the arguments. -/
theorem flushed_eq26 (c : Dev nD) (t : Fin cfg0.N) :
    (dats m 0 c).flushed 26 t = ((cfg0.win 26).blk t).view.read (Elt Ideal) (G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed26_A, piece26]
  exact of26 t _ _ (fun r d => (gr_apply _ r d).trans (congrArg silu (proj_of _ _ _ _ _ _ (bat t) (row t r) _ _ _ _ _ _ r ⟨1536 + d.val, by omega⟩ ⟨1536 + d.val, by omega⟩ (blk0 m c t r) (blk1 m c t) (blk2 m c t) (blk3 m c t) (blk4 m c t) (fun e => blk5 m c t e ⟨1536 + d.val, by omega⟩ (by show 1536 + d.val < 1792; omega)))))

theorem covered26 (i : S8x4096x256.Idx) : ∃ t : Fin cfg0.N, (cfg0.win 26).flush t = true ∧ i ∈ ((cfg0.win 26).blk t).view.set := by
  have h1 : (i 1).val < 4096 := (i 1).isLt
  obtain ⟨t, hb, hk⟩ := idx18_onto (i 0) ⟨(i 1).val / 512, by omega⟩
  refine ⟨t, flush0_26 _, ?_⟩
  have h := ((cfg0.win 26).blk t).view.emb_mem_set (ix3 (0 : Fin 1) ⟨(i 1).val % 512, by omega⟩ (i 2))
  rw [emb26] at h
  have e : ix3 (bat t) (row t ⟨(i 1).val % 512, by omega⟩) (i 2) = i := by
    funext a; apply Fin.ext
    match a with
    | ⟨0, _⟩ => exact hb
    | ⟨1, _⟩ => show win0_18.index t (1 : Fin 3) * 512 + (i 1).val % 512 = (i 1).val; rw [hk]; show (i 1).val / 512 * 512 + (i 1).val % 512 = (i 1).val; omega
    | ⟨2, _⟩ => rfl
  rw [← e]; exact h

theorem final26 (c : Dev nD) : (dats m 0 c).arrAt 26 cfg0.N = G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 26 _ (fun t _ => flushed_eq26 m c t) covered26

theorem of29 (t : Fin cfg0.N) (z : Vec Ideal S1x512x128 .bf16) (G : Vec Ideal S8x4096x128 .bf16) (h : ∀ (r : Fin 512) (d : Fin 128), z (ix3 0 r d) = G (ix3 (bat t) (row t r) d)) :
    (cfg0.win 29).cut (grid0.coords t) z = ((cfg0.win 29).blk t).view.read (Elt Ideal) G := by
  funext j
  refine (?_ : z j = G (((cfg0.win 29).blk t).view.emb j))
  rw [emb29]
  revert j
  refine (?_ : ∀ j : S1x512x128.Idx, z j = G (ix3 (bat t) (row t (j 1)) (j 2)))
  intro j
  idx_vars j
  obtain rfl : j0 = 0 := Subsingleton.elim (α := Fin 1) _ _
  exact h j1 j2

/-- What a grid point writes back of result 29 is its block of `G4` of the arguments. -/
theorem flushed_eq29 (c : Dev nD) (t : Fin cfg0.N) :
    (dats m 0 c).flushed 29 t = ((cfg0.win 29).blk t).view.read (Elt Ideal) (G4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed29_A, piece29]
  exact of29 t _ _ (fun r d => (av_apply _ r d).trans (proj_of _ _ _ _ _ _ (bat t) (row t r) _ _ _ _ _ _ r ⟨2176 + d.val, by omega⟩ ⟨2208 + d.val, by omega⟩ (blk0 m c t r) (blk1 m c t) (blk2 m c t) (blk3 m c t) (blk4 m c t) (fun e => blk5av m c t e d)))

theorem covered29 (i : S8x4096x128.Idx) : ∃ t : Fin cfg0.N, (cfg0.win 29).flush t = true ∧ i ∈ ((cfg0.win 29).blk t).view.set := by
  have h1 : (i 1).val < 4096 := (i 1).isLt
  obtain ⟨t, hb, hk⟩ := idx18_onto (i 0) ⟨(i 1).val / 512, by omega⟩
  refine ⟨t, flush0_29 _, ?_⟩
  have h := ((cfg0.win 29).blk t).view.emb_mem_set (ix3 (0 : Fin 1) ⟨(i 1).val % 512, by omega⟩ (i 2))
  rw [emb29] at h
  have e : ix3 (bat t) (row t ⟨(i 1).val % 512, by omega⟩) (i 2) = i := by
    funext a; apply Fin.ext
    match a with
    | ⟨0, _⟩ => exact hb
    | ⟨1, _⟩ => show win0_18.index t (1 : Fin 3) * 512 + (i 1).val % 512 = (i 1).val; rw [hk]; show (i 1).val / 512 * 512 + (i 1).val % 512 = (i 1).val; omega
    | ⟨2, _⟩ => rfl
  rw [← e]; exact h

theorem final29 (c : Dev nD) : (dats m 0 c).arrAt 29 cfg0.N = G4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 29 _ (fun t _ => flushed_eq29 m c t) covered29

end Cert.Proof.In
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.KernelFfn.Frame
public import proofs.«01_k».proof.Proof.Gen.KernelFfnIdeal.Value
public import proofs.«01_k».proof.Proof.Gen.ReferenceFfnIdeal.Run
public import proofs.«01_k».proof.Proof.Gen.Pre_finite
public import proofs.«01_k».proof.Proof.Gen.KernelIn.Frame.Runs
public import proofs.«01_k».proof.Proof.InBitsFrame
public import proofs.«01_k».proof.Proof.Gen.KernelInIdeal.Frame.Runs
public import proofs.«01_k».proof.Proof.Gen.ReferenceInIdeal.Run
public import proofs.«01_k».proof.Proof.InValue
public import proofs.«01_k».proof.Proof.NaPre
public import proofs.«01_k».proof.Proof.NaRefEq
public import proofs.«01_k».proof.Proof.FfnRun
public import proofs.«01_k».proof.Proof.InRef
public import proofs.«01_k».proof.Proof.InRun

@[expose] public section

namespace Cert.Proof

open Idealize.ShloMosaic Idealize.ShloMosaic.TcCoe Idealize.SL.Sem

theorem algebraic_ffn : Cert.algebraic_KernelFfnIdeal_ReferenceFfnIdeal := fun m g m' g' _ h =>
  ⟨_, (θ_run _ _ _).mono (fun r hr c => ⟨(hr c).1.trans (Ffn.final m c), (hr c).2⟩) (Cert.KernelFfnIdeal.Value.run_blocks m g),
    (θ_run _ _ _).mono (fun r hr c => ⟨(hr c).1.trans ((Ffn.ref_eq m' c).trans (by
        obtain ⟨h0, h1, h2, h3, h4⟩ := h c
        rw [h0, h1, h2, h3, h4])), (hr c).2⟩) (Cert.ReferenceFfnIdeal.Value.run m' g')⟩

theorem algebraic_na : Cert.algebraic_KernelIdeal_ReferenceIdeal_pre_finite := fun m g m' g' hp h =>
  ⟨_, (θ_run _ _ _).mono (fun r hr c => ⟨(hr c).1.trans (Na.final m c (Na.fin_of_pre _ _ _ _ _ _ (hp c))), (hr c).2⟩) (Cert.KernelIdeal.Value.run_blocks m g),
    (θ_run _ _ _).mono (fun r hr c => ⟨(hr c).1.trans ((Na.Ref.ref_eq m' c).trans (by
        obtain ⟨h0, h1, h2, h3, h4, h5⟩ := h c
        rw [h0, h1, h2, h3, h4, h5])), (hr c).2⟩) (Cert.ReferenceIdeal.Value.run m' g')⟩

set_option maxHeartbeats 2000000 in
theorem algebraic_in : Cert.algebraic_KernelInIdeal_ReferenceInIdeal := fun m g m' g' _ h =>
  ⟨_, _, _, _, _, (θ_run _ _ _).mono (fun r hr c => by
      obtain ⟨o0, -, -, -, -, o1, -, o2, o3, -, -, o4, ha⟩ := hr c
      exact ⟨o0.trans (In.final18 m c), o1.trans (In.final23 m c), o2.trans (In.final25 m c), o3.trans (In.final26 m c), o4.trans (In.final29 m c), ha⟩)
      (Cert.KernelInIdeal.Value.run_blocks m g),
    (θ_run _ _ _).mono (fun r hr c => by
      obtain ⟨h0, h1, h2, h3, h4, h5, -⟩ := h c
      obtain ⟨o0, o1, o2, o3, o4, ha⟩ := hr c
      refine ⟨o0.trans ((In.Ref.ref_eq0 m' c).trans ?_), o1.trans ((In.Ref.ref_eq1 m' c).trans ?_), o2.trans ((In.Ref.ref_eq2 m' c).trans ?_),
        o3.trans ((In.Ref.ref_eq3 m' c).trans ?_), o4.trans ((In.Ref.ref_eq4 m' c).trans ?_), ha⟩
      · rw [h0, h1, h2, h3, h4]
      · rw [h0, h1, h2, h3, h4, h5]
      · rw [h0, h1, h2, h3, h4, h5]
      · rw [h0, h1, h2, h3, h4, h5]
      · rw [h0, h1, h2, h3, h4, h5]) (Cert.ReferenceInIdeal.Value.run m' g')⟩

theorem claim : Cert.Claim :=
  have k := fun m ρ => Cert.KernelIdeal.Gen.frame m ρ
  have r := fun m ρ => (θ_run Cert.ReferenceIdeal.defs _ _).mono (fun _ h => ⟨fun c => (h c).2, funext fun g => nomatch g.2⟩) (Cert.ReferenceIdeal.Value.run m ρ)
  ⟨Cert.Kernel.Gen.facts, Cert.KernelIdeal.Gen.facts, Cert.ReferenceIdeal.Gen.facts, Cert.KernelFfn.Gen.facts, Cert.KernelFfnIdeal.Gen.facts, Cert.ReferenceFfnIdeal.Gen.facts, Cert.KernelIn.Gen.facts, Cert.KernelInIdeal.Gen.facts, Cert.ReferenceInIdeal.Gen.facts, Cert.Pre_finite.Gen.facts,
    fun m ρ _ => Cert.Kernel.Gen.frame m ρ, fun m ρ _ => k m ρ, fun m ρ _ => k m ρ, fun m ρ _ => r m ρ, fun m ρ _ => r m ρ,
    fun m ρ _ => Cert.KernelFfn.Gen.frame m ρ, fun m ρ _ => Cert.KernelFfnIdeal.Gen.frame m ρ,
    fun m ρ _ => (θ_run _ _ _).mono (fun _ h => ⟨fun c => (h c).2, funext fun g => nomatch g.2⟩) (Cert.ReferenceFfnIdeal.Value.run m ρ),
    fun m ρ _ => Cert.KernelIn.Gen.frame m ρ, fun m ρ _ => Cert.KernelInIdeal.Gen.frame m ρ,
    fun m ρ _ => (θ_run _ _ _).mono (fun _ h => ⟨fun c => (h c).2.2.2.2.2, funext fun g => nomatch g.2⟩) (Cert.ReferenceInIdeal.Value.run m ρ),
    trivial, algebraic_na, trivial, algebraic_ffn, trivial, algebraic_in⟩

end Cert.Proof
